-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v155)) (v2 : (c : Dev Cert.KernelIdeal.nD) → Buf (Elt Ideal) ((c.tc : Thread Cert.KernelIdeal.nD Cert.KernelIdeal.τ).loc Cert.KernelIdeal.main_v157)) (v3 : (c : Dev Cert.KernelIdeal.nD) → Buf (Elt Ideal) ((c.tc : Thread Cert.KernelIdeal.nD Cert.KernelIdeal.τ).loc Cert.KernelIdeal.main_v110)) (v4 : (c : Dev Cert.KernelIdeal.nD) → Buf (Elt Ideal) ((c.tc : Thread Cert.KernelIdeal.nD Cert.KernelIdeal.τ).loc Cert.KernelIdeal.main_v111)) (v5 : (c : Dev Cert.KernelIdeal.nD) → Buf (Elt Ideal) ((c.tc : Thread Cert.KernelIdeal.nD Cert.KernelIdeal.τ).loc Cert.KernelIdeal.main_v158)) (v6 : (c : Dev Cert.KernelIdeal.nD) → Buf (Elt Ideal) ((c.tc : Thread Cert.KernelIdeal.nD Cert.KernelIdeal.τ).loc Cert.KernelIdeal.main_v160)) (v7 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_v157) = v2 c
          ∧ r.2.mem ((c.tc : Thread Cert.KernelIdeal.nD Cert.KernelIdeal.τ).loc Cert.KernelIdeal.main_v110) = v3 c
          ∧ r.2.mem ((c.tc : Thread Cert.KernelIdeal.nD Cert.KernelIdeal.τ).loc Cert.KernelIdeal.main_v111) = v4 c
          ∧ r.2.mem ((c.tc : Thread Cert.KernelIdeal.nD Cert.KernelIdeal.τ).loc Cert.KernelIdeal.main_v158) = v5 c
          ∧ r.2.mem ((c.tc : Thread Cert.KernelIdeal.nD Cert.KernelIdeal.τ).loc Cert.KernelIdeal.main_v160) = v6 c
          ∧ r.2.mem ((c.tc : Thread Cert.KernelIdeal.nD Cert.KernelIdeal.τ).loc Cert.KernelIdeal.main_v166) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v250) = v5 c
          ∧ r.2.mem ((c.tc : Thread Cert.ReferenceIdeal.nD Cert.ReferenceIdeal.τ).loc Cert.ReferenceIdeal.main_v274) = v6 c
          ∧ r.2.mem ((c.tc : Thread Cert.ReferenceIdeal.nD Cert.ReferenceIdeal.τ).loc Cert.ReferenceIdeal.main_v315) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x256x2048 : Shape := ⟨3, ![16, 256, 2048]⟩
abbrev S8x4096x2048 : Shape := ⟨3, ![8, 4096, 2048]⟩
abbrev S9x6x2048 : Shape := ⟨3, ![9, 6, 2048]⟩
abbrev S2048x3904 : Shape := ⟨2, ![2048, 3904]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S3x512 : Shape := ⟨2, ![3, 512]⟩
abbrev S3x1536 : Shape := ⟨2, ![3, 1536]⟩
abbrev S1536 : Shape := ⟨1, ![1536]⟩
abbrev S8x256x256 : Shape := ⟨3, ![8, 256, 256]⟩
abbrev S8x256x64 : Shape := ⟨3, ![8, 256, 64]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S9x6x2048 : S_.BroadcastsInDim S9x6x2048 (![] : Fin 0 → Fin S9x6x2048.rank)
  reducesTo_S9x6x2048_S_d0_1_2 : S9x6x2048.ReducesTo [0, 1, 2] S_
  bcast_S_S2048x3904 : S_.BroadcastsInDim S2048x3904 (![] : Fin 0 → Fin S2048x3904.rank)
  reducesTo_S2048x3904_S_d0_1 : S2048x3904.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S512x1536 : S_.BroadcastsInDim S512x1536 (![] : Fin 0 → Fin S512x1536.rank)
  reducesTo_S512x1536_S_d0_1 : S512x1536.ReducesTo [0, 1] S_
  bcast_S_S256x2048 : S_.BroadcastsInDim S256x2048 (![] : Fin 0 → Fin S256x2048.rank)
  reducesTo_S256x2048_S_d0_1 : S256x2048.ReducesTo [0, 1] S_
  bcast_S_S8x256x256 : S_.BroadcastsInDim S8x256x256 (![] : Fin 0 → Fin S8x256x256.rank)
  reducesTo_S8x256x256_S_d0_1_2 : S8x256x256.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_
  bcast_S_S16x256x2048 : S_.BroadcastsInDim S16x256x2048 (![] : Fin 0 → Fin S16x256x2048.rank)
  reducesTo_S16x256x2048_S_d0_1_2 : S16x256x2048.ReducesTo [0, 1, 2] S_

variable [Facts]

def fn_part2 {F : FTy → Type} [FloatOps F] (main_arg0 : FVec F S16x256x2048 .f32) (main_arg11 : FVec F S8x256x256 .f32) (main_arg12 : FVec F S8x256x64 .f32) (main_v33 : IVec S_ 1) : IVec S_ 1 :=
  let main_v34 : FVec F S8x256x256 .f32 := Host.absf main_arg11
  let main_cst_12 : FVec F S_ .f32 := constant S_ .f32 0x7F800000#32
  let main_v35 : FVec F S8x256x256 .f32 := broadcastInDim S8x256x256 ![] bcast_S_S8x256x256 main_cst_12
  let main_v36 : IVec S8x256x256 1 := cmpf .olt main_v34 main_v35
  let main_c_13 : IVec S_ 1 := constantI S_ 1 1#1
  let main_v37 : IVec S_ 1 := (fun x v => Host.reduce IntOp.andi x v reducesTo_S8x256x256_S_d0_1_2 h_S_) main_v36 main_c_13
  let main_v38 : IVec S_ 1 := andi main_v33 main_v37
  let main_v39 : FVec F S8x256x64 .f32 := Host.absf main_arg12
  let main_cst_14 : FVec F S_ .f32 := constant S_ .f32 0x7F800000#32
  let main_v40 : FVec F S8x256x64 .f32 := broadcastInDim S8x256x64 ![] bcast_S_S8x256x64 main_cst_14
  let main_v41 : IVec S8x256x64 1 := cmpf .olt main_v39 main_v40
  let main_c_15 : IVec S_ 1 := constantI S_ 1 1#1
  let main_v42 : IVec S_ 1 := (fun x v => Host.reduce IntOp.andi x v reducesTo_S8x256x64_S_d0_1_2 h_S_) main_v41 main_c_15
  let main_v43 : IVec S_ 1 := andi main_v38 main_v42
  let main_v44 : FVec F S16x256x2048 .f32 := Host.absf main_arg0
  let main_cst_16 : FVec F S_ .f32 := constant S_ .f32 0x7F800000#32
  let main_v45 : FVec F S16x256x2048 .f32 := broadcastInDim S16x256x2048 ![] bcast_S_S16x256x2048 main_cst_16
  let main_v46 : IVec S16x256x2048 1 := cmpf .olt main_v44 main_v45
  let main_c_17 : IVec S_ 1 := constantI S_ 1 1#1
  let main_v47 : IVec S_ 1 := (fun x v => Host.reduce IntOp.andi x v reducesTo_S16x256x2048_S_d0_1_2 h_S_) main_v46 main_c_17
  let main_v48 : IVec S_ 1 := andi main_v43 main_v47
  main_v48

def fn_part1 {F : FTy → Type} [FloatOps F] (main_arg0 : FVec F S16x256x2048 .f32) (main_arg5 : FVec F S256 .f32) (main_arg6 : FVec F S512x1536 .f32) (main_arg7 : FVec F S256x2048 .f32) (main_arg11 : FVec F S8x256x256 .f32) (main_arg12 : FVec F S8x256x64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x1536 .f32 := Host.absf main_arg6
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S256x2048 .f32 := Host.absf main_arg7
  let main_cst_10 : FVec F S_ .f32 := constant S_ .f32 0x7F800000#32
  let main_v30 : FVec F S256x2048 .f32 := broadcastInDim S256x2048 ![] bcast_S_S256x2048 main_cst_10
  let main_v31 : IVec S256x2048 1 := cmpf .olt main_v29 main_v30
  let main_c_11 : IVec S_ 1 := constantI S_ 1 1#1
  let main_v32 : IVec S_ 1 := (fun x v => Host.reduce IntOp.andi x v reducesTo_S256x2048_S_d0_1 h_S_) main_v31 main_c_11
  let main_v33 : IVec S_ 1 := andi main_v28 main_v32
  fn_part2 (F := F) main_arg0 main_arg11 main_arg12 main_v33

def fn {F : FTy → Type} [FloatOps F] (main_arg0 : FVec F S16x256x2048 .f32) (main_arg1 : FVec F S8x4096x2048 .f32) (main_arg2 : FVec F S9x6x2048 .f32) (main_arg3 : FVec F S2048x3904 .f32) (main_arg4 : FVec F S512 .f32) (main_arg5 : FVec F S256 .f32) (main_arg6 : FVec F S512x1536 .f32) (main_arg7 : FVec F S256x2048 .f32) (main_arg8 : FVec F S3x512 .f32) (main_arg9 : FVec F S3x1536 .f32) (main_arg10 : FVec F S1536 .f32) (main_arg11 : FVec F S8x256x256 .f32) (main_arg12 : FVec F S8x256x64 .f32) : IVec S_ 1 :=
  let main_v0 : FVec F S8x4096x2048 .f32 := Host.absf main_arg1
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S9x6x2048 .f32 := Host.absf main_arg2
  let main_cst_0 : FVec F S_ .f32 := constant S_ .f32 0x7F800000#32
  let main_v5 : FVec F S9x6x2048 .f32 := broadcastInDim S9x6x2048 ![] bcast_S_S9x6x2048 main_cst_0
  let main_v6 : IVec S9x6x2048 1 := cmpf .olt main_v4 main_v5
  let main_c_1 : IVec S_ 1 := constantI S_ 1 1#1
  let main_v7 : IVec S_ 1 := (fun x v => Host.reduce IntOp.andi x v reducesTo_S9x6x2048_S_d0_1_2 h_S_) main_v6 main_c_1
  let main_v8 : IVec S_ 1 := andi main_v3 main_v7
  let main_v9 : FVec F S2048x3904 .f32 := Host.absf main_arg3
  let main_cst_2 : FVec F S_ .f32 := constant S_ .f32 0x7F800000#32
  let main_v10 : FVec F S2048x3904 .f32 := broadcastInDim S2048x3904 ![] bcast_S_S2048x3904 main_cst_2
  let main_v11 : IVec S2048x3904 1 := cmpf .olt main_v9 main_v10
  let main_c_3 : IVec S_ 1 := constantI S_ 1 1#1
  let main_v12 : IVec S_ 1 := (fun x v => Host.reduce IntOp.andi x v reducesTo_S2048x3904_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg5 main_arg6 main_arg7 main_arg11 main_arg12 main_v13 main_v16
-- ==== Kernel.lean ====
abbrev S16x256x2048 : Shape := ⟨3, ![16, 256, 2048]⟩
abbrev S8x4096x2048 : Shape := ⟨3, ![8, 4096, 2048]⟩
abbrev S9x6x2048 : Shape := ⟨3, ![9, 6, 2048]⟩
abbrev S2048x3904 : Shape := ⟨2, ![2048, 3904]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S3x512 : Shape := ⟨2, ![3, 512]⟩
abbrev S3x1536 : Shape := ⟨2, ![3, 1536]⟩
abbrev S1536 : Shape := ⟨1, ![1536]⟩
abbrev S8x256x256 : Shape := ⟨3, ![8, 256, 256]⟩
abbrev S8x256x64 : Shape := ⟨3, ![8, 256, 64]⟩
abbrev S2048x832 : Shape := ⟨2, ![2048, 832]⟩
abbrev S_ : Shape := ⟨0, ![]⟩
abbrev S2048x192 : Shape := ⟨2, ![2048, 192]⟩
abbrev S2048x3072 : Shape := ⟨2, ![2048, 3072]⟩
abbrev S2048x4096 : Shape := ⟨2, ![2048, 4096]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1x4096x512 : Shape := ⟨3, ![1, 4096, 512]⟩
abbrev S2x4096x512 : Shape := ⟨3, ![2, 4096, 512]⟩
abbrev S1x4096x2048 : Shape := ⟨3, ![1, 4096, 2048]⟩
abbrev S9x4096x2048 : Shape := ⟨3, ![9, 4096, 2048]⟩
abbrev S9x1x2048 : Shape := ⟨3, ![9, 1, 2048]⟩
abbrev S9x4096x4096 : Shape := ⟨3, ![9, 4096, 4096]⟩
abbrev S1x512x2048 : Shape := ⟨3, ![1, 512, 2048]⟩
abbrev S1x1x2048 : Shape := ⟨3, ![1, 1, 2048]⟩
abbrev S2048x2048 : Shape := ⟨2, ![2048, 2048]⟩
abbrev S512x2048 : Shape := ⟨2, ![512, 2048]⟩
abbrev S1x2048 : Shape := ⟨2, ![1, 2048]⟩
abbrev S1x512x1536 : Shape := ⟨3, ![1, 512, 1536]⟩
abbrev S1x512x8x192 : Shape := ⟨4, ![1, 512, 8, 192]⟩
abbrev S1x512x8x128 : Shape := ⟨4, ![1, 512, 8, 128]⟩
abbrev S1x512x1024 : Shape := ⟨3, ![1, 512, 1024]⟩
abbrev S1x512x8x64 : Shape := ⟨4, ![1, 512, 8, 64]⟩
abbrev S1x512x8x2x2x16 : Shape := ⟨6, ![1, 512, 8, 2, 2, 16]⟩
abbrev S1x512x512 : Shape := ⟨3, ![1, 512, 512]⟩
abbrev S1x512 : Shape := ⟨2, ![1, 512]⟩
abbrev S9x8x4096x192 : Shape := ⟨4, ![9, 8, 4096, 192]⟩
abbrev S1x8x512x192 : Shape := ⟨4, ![1, 8, 512, 192]⟩
abbrev S512x512 : Shape := ⟨2, ![512, 512]⟩
abbrev S512x1 : Shape := ⟨2, ![512, 1]⟩
abbrev S512x128 : Shape := ⟨2, ![512, 128]⟩
abbrev S1x1x512x128 : Shape := ⟨4, ![1, 1, 512, 128]⟩
abbrev S512x64 : Shape := ⟨2, ![512, 64]⟩
abbrev S1x1x512x64 : Shape := ⟨4, ![1, 1, 512, 64]⟩
abbrev S1x4096x4096 : Shape := ⟨3, ![1, 4096, 4096]⟩
abbrev S4096x4096 : Shape := ⟨2, ![4096, 4096]⟩
abbrev S16x256x4096 : Shape := ⟨3, ![16, 256, 4096]⟩
abbrev S16x256x256 : Shape := ⟨3, ![16, 256, 256]⟩
abbrev S16x256 : Shape := ⟨2, ![16, 256]⟩
abbrev S16x256x1 : Shape := ⟨3, ![16, 256, 1]⟩
abbrev S1x1x256 : Shape := ⟨3, ![1, 1, 256]⟩
abbrev S16x256x64 : Shape := ⟨3, ![16, 256, 64]⟩
abbrev S8x4096x256 : Shape := ⟨3, ![8, 4096, 256]⟩
abbrev S8x4096x64 : Shape := ⟨3, ![8, 4096, 64]⟩
abbrev S8x4096 : Shape := ⟨2, ![8, 4096]⟩
abbrev S8x4096x1 : Shape := ⟨3, ![8, 4096, 1]⟩
abbrev S8x4096x1x64 : Shape := ⟨4, ![8, 4096, 1, 64]⟩
abbrev S8x4096x1x2x2x16 : Shape := ⟨6, ![8, 4096, 1, 2, 2, 16]⟩
abbrev S8x4096x1x2x1x16 : Shape := ⟨6, ![8, 4096, 1, 2, 1, 16]⟩
abbrev S8x4096x1x2x16 : Shape := ⟨5, ![8, 4096, 1, 2, 16]⟩
abbrev S1x4096x1x2x16 : Shape := ⟨5, ![1, 4096, 1, 2, 16]⟩
abbrev S8x4352x256 : Shape := ⟨3, ![8, 4352, 256]⟩
abbrev S8x4352x64 : Shape := ⟨3, ![8, 4352, 64]⟩
abbrev S8x8x4352x192 : Shape := ⟨4, ![8, 8, 4352, 192]⟩
abbrev S8x8x4352x128 : Shape := ⟨4, ![8, 8, 4352, 128]⟩
abbrev S1x256x256 : Shape := ⟨3, ![1, 256, 256]⟩
abbrev S1x256x64 : Shape := ⟨3, ![1, 256, 64]⟩
abbrev S1x8x256x192 : Shape := ⟨4, ![1, 8, 256, 192]⟩
abbrev S1x8x256x128 : Shape := ⟨4, ![1, 8, 256, 128]⟩
abbrev S256x256 : Shape := ⟨2, ![256, 256]⟩
abbrev S256x64 : Shape := ⟨2, ![256, 64]⟩
abbrev S256x128 : Shape := ⟨2, ![256, 128]⟩
abbrev S1x1x256x128 : Shape := ⟨4, ![1, 1, 256, 128]⟩
abbrev S1x1x256x64 : Shape := ⟨4, ![1, 1, 256, 64]⟩
abbrev S8x4096x1024 : Shape := ⟨3, ![8, 4096, 1024]⟩
abbrev S1x1x256x192 : Shape := ⟨4, ![1, 1, 256, 192]⟩
abbrev S1x1x4352x192 : Shape := ⟨4, ![1, 1, 4352, 192]⟩
abbrev S1x1x4352x128 : Shape := ⟨4, ![1, 1, 4352, 128]⟩
abbrev S1x256x128 : Shape := ⟨3, ![1, 256, 128]⟩
abbrev S256x192 : Shape := ⟨2, ![256, 192]⟩
abbrev S4352x192 : Shape := ⟨2, ![4352, 192]⟩
abbrev S256x4352 : Shape := ⟨2, ![256, 4352]⟩
abbrev S256x1 : Shape := ⟨2, ![256, 1]⟩
abbrev S4352x128 : Shape := ⟨2, ![4352, 128]⟩
abbrev S8x4096x512 : Shape := ⟨3, ![8, 4096, 512]⟩
abbrev S1x4096x128 : Shape := ⟨3, ![1, 4096, 128]⟩
abbrev S3x128 : Shape := ⟨2, ![3, 128]⟩
abbrev S4096x128 : Shape := ⟨2, ![4096, 128]⟩
abbrev S1x128 : Shape := ⟨2, ![1, 128]⟩
abbrev S1x1536 : Shape := ⟨2, ![1, 1536]⟩
abbrev S8x4096x1536 : Shape := ⟨3, ![8, 4096, 1536]⟩
abbrev S16x256x512 : Shape := ⟨3, ![16, 256, 512]⟩
abbrev S16x256x1536 : Shape := ⟨3, ![16, 256, 1536]⟩
abbrev S1x8x4096x192 : Shape := ⟨4, ![1, 8, 4096, 192]⟩
abbrev S8x4096x192 : Shape := ⟨3, ![8, 4096, 192]⟩
abbrev S8x16x256x192 : Shape := ⟨4, ![8, 16, 256, 192]⟩
abbrev S16x8x256x192 : Shape := ⟨4, ![16, 8, 256, 192]⟩
abbrev S16x8x256x128 : Shape := ⟨4, ![16, 8, 256, 128]⟩
abbrev S16x256x1024 : Shape := ⟨3, ![16, 256, 1024]⟩

abbrev nBuf : Space → Nat
  | .hbm => 195
  | .vmem => 90
  | .smem => 0
  | _ => 0

abbrev hbmTy0_0 (i : Nat) : BufTy := match i % 128 with
  | 0 => ⟨S16x256x2048, .f32⟩
  | 1 => ⟨S8x4096x2048, .f32⟩
  | 2 => ⟨S9x6x2048, .f32⟩
  | 3 => ⟨S2048x3904, .f32⟩
  | 4 => ⟨S512, .f32⟩
  | 5 => ⟨S256, .f32⟩
  | 6 => ⟨S512x1536, .f32⟩
  | 7 => ⟨S256x2048, .f32⟩
  | 8 => ⟨S3x512, .f32⟩
  | 9 => ⟨S3x1536, .f32⟩
  | 10 => ⟨S1536, .f32⟩
  | 11 => ⟨S8x256x256, .f32⟩
  | 12 => ⟨S8x256x64, .f32⟩
  | 13 => ⟨S2048x832, .f32⟩
  | 14 => ⟨S_, .f32⟩
  | 15 => ⟨S2048x192, .f32⟩
  | 16 => ⟨S2048x3072, .f32⟩
  | 17 => ⟨S2048x4096, .f32⟩
  | 18 => ⟨S2048x4096, .bf16⟩
  | 19 => ⟨S64, .i32⟩
  | 20 => ⟨S64x64, .i32⟩
  | 21 => ⟨S4096, .i32⟩
  | 22 => ⟨S64, .i32⟩
  | 23 => ⟨S1x64, .i32⟩
  | 24 => ⟨S64x64, .i32⟩
  | 25 => ⟨S4096, .i32⟩
  | 26 => ⟨S4096x1, .i32⟩
  | 27 => ⟨S4096x1, .i32⟩
  | 28 => ⟨S4096x2, .i32⟩
  | 29 => ⟨S4096x2, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S4096x2x1, .f32⟩
  | 39 => ⟨S1x1x16, .f32⟩
  | 40 => ⟨S4096x2x16, .f32⟩
  | 41 => ⟨S4096x2x16, .f32⟩
  | 42 => ⟨S4096x2x16, .f32⟩
  | 43 => ⟨S4096x2x16, .f32⟩
  | 44 => ⟨S4096x2x16, .f32⟩
  | 45 => ⟨S64, .i32⟩
  | 46 => ⟨S64x64, .i32⟩
  | 47 => ⟨S4096, .i32⟩
  | 48 => ⟨S64, .i32⟩
  | 49 => ⟨S1x64, .i32⟩
  | 50 => ⟨S64x64, .i32⟩
  | 51 => ⟨S4096, .i32⟩
  | 52 => ⟨S4096x1, .i32⟩
  | 53 => ⟨S4096x1, .i32⟩
  | 54 => ⟨S4096x2, .i32⟩
  | 55 => ⟨S4096x2, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S4096x2x1, .f32⟩
  | 65 => ⟨S1x1x16, .f32⟩
  | 66 => ⟨S4096x2x16, .f32⟩
  | 67 => ⟨S4096x2x16, .f32⟩
  | 68 => ⟨S4096x2x16, .f32⟩
  | 69 => ⟨S4096x2x16, .f32⟩
  | 70 => ⟨S4096x2x16, .f32⟩
  | 71 => ⟨S4096x2x1x16, .f32⟩
  | 72 => ⟨S4096x2x2x16, .f32⟩
  | 73 => ⟨S4096x64, .f32⟩
  | 74 => ⟨S4096x2x16, .f32⟩
  | 75 => ⟨S4096x2x1x16, .f32⟩
  | 76 => ⟨S4096x2x1x16, .f32⟩
  | 77 => ⟨S4096x2x2x16, .f32⟩
  | 78 => ⟨S4096x64, .f32⟩
  | 79 => ⟨S1x4096x1x64, .f32⟩
  | 80 => ⟨S1x4096x8x64, .f32⟩
  | 81 => ⟨S4096x512, .f32⟩
  | 82 => ⟨S1x4096x1x64, .f32⟩
  | 83 => ⟨S1x4096x8x64, .f32⟩
  | 84 => ⟨S4096x512, .f32⟩
  | 85 => ⟨S_, .f32⟩
  | 86 => ⟨S4096x512, .f32⟩
  | 87 => ⟨S1x4096x512, .f32⟩
  | 88 => ⟨S1x4096x512, .f32⟩
  | 89 => ⟨S2x4096x512, .f32⟩
  | 90 => ⟨S_, .f32⟩
  | 91 => ⟨S4096x512, .f32⟩
  | 92 => ⟨S1x4096x512, .f32⟩
  | 93 => ⟨S1x4096x512, .f32⟩
  | 94 => ⟨S2x4096x512, .f32⟩
  | 95 => ⟨S1x4096x2048, .f32⟩
  | 96 => ⟨S9x4096x2048, .f32⟩
  | 97 => ⟨S9x1x2048, .f32⟩
  | 98 => ⟨S9x1x2048, .f32⟩
  | 99 => ⟨S9x4096x4096, .f32⟩
  | 100 => ⟨S1x512x1536, .f32⟩
  | 101 => ⟨S1x512x8x192, .f32⟩
  | 102 => ⟨S1x512x8x128, .f32⟩
  | 103 => ⟨S1x512x1024, .f32⟩
  | 104 => ⟨S1x512x8x64, .f32⟩
  | 105 => ⟨S1x512x8x2x2x16, .f32⟩
  | 106 => ⟨S1x512x8x2x2x16, .f32⟩
  | 107 => ⟨S1x512x512, .f32⟩
  | 108 => ⟨S1x512x512, .f32⟩
  | 109 => ⟨S1x512x2048, .f32⟩
  | 110 => ⟨S1x512x2048, .bf16⟩
  | 111 => ⟨S512x2048, .bf16⟩
  | 112 => ⟨S1x512, .f32⟩
  | 113 => ⟨S9x8x4096x192, .bf16⟩
  | 114 => ⟨S1x4096x4096, .f32⟩
  | 115 => ⟨S4096x4096, .f32⟩
  | 116 => ⟨S16x256x4096, .f32⟩
  | 117 => ⟨S16x256x256, .f32⟩
  | 118 => ⟨S16x256x256, .f32⟩
  | 119 => ⟨S_, .f32⟩
  | 120 => ⟨S16x256, .f32⟩
  | 121 => ⟨S16x256x1, .f32⟩
  | 122 => ⟨S_, .f32⟩
  | 123 => ⟨S16x256x1, .f32⟩
  | 124 => ⟨S16x256x1, .f32⟩
  | 125 => ⟨S_, .f32⟩
  | 126 => ⟨S16x256x1, .f32⟩
  | 127 => ⟨S16x256x1, .f32⟩
  | _ => ⟨S16x256x2048, .f32⟩

abbrev hbmTy0_1 (i : Nat) : BufTy := match i % 128 with
  | 0 => ⟨S16x256x1, .f32⟩
  | 1 => ⟨S16x256x256, .f32⟩
  | 2 => ⟨S16x256x256, .f32⟩
  | 3 => ⟨S1x1x256, .f32⟩
  | 4 => ⟨S16x256x256, .f32⟩
  | 5 => ⟨S16x256x256, .f32⟩
  | 6 => ⟨S16x256x64, .f32⟩
  | 7 => ⟨S8x4096x256, .f32⟩
  | 8 => ⟨S8x4096x64, .f32⟩
  | 9 => ⟨S8x4096x256, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x256, .f32⟩
  | 21 => ⟨S8x4096x256, .f32⟩
  | 22 => ⟨S1x1x256, .f32⟩
  | 23 => ⟨S8x4096x256, .f32⟩
  | 24 => ⟨S8x4096x256, .f32⟩
  | 25 => ⟨S8x4096x1x64, .f32⟩
  | 26 => ⟨S8x4096x1x2x2x16, .f32⟩
  | 27 => ⟨S8x4096x1x2x1x16, .f32⟩
  | 28 => ⟨S8x4096x1x2x16, .f32⟩
  | 29 => ⟨S8x4096x1x2x1x16, .f32⟩
  | 30 => ⟨S8x4096x1x2x16, .f32⟩
  | 31 => ⟨S1x4096x1x2x16, .f32⟩
  | 32 => ⟨S1x4096x1x2x16, .f32⟩
  | 33 => ⟨S8x4096x1x2x16, .f32⟩
  | 34 => ⟨S8x4096x1x2x16, .f32⟩
  | 35 => ⟨S8x4096x1x2x16, .f32⟩
  | 36 => ⟨S8x4096x1x2x16, .f32⟩
  | 37 => ⟨S8x4096x1x2x16, .f32⟩
  | 38 => ⟨S8x4096x1x2x16, .f32⟩
  | 39 => ⟨S8x4096x1x2x16, .f32⟩
  | 40 => ⟨S8x4096x1x2x16, .f32⟩
  | 41 => ⟨S8x4096x1x2x16, .f32⟩
  | 42 => ⟨S8x4096x1x2x16, .f32⟩
  | 43 => ⟨S8x4096x1x2x1x16, .f32⟩
  | 44 => ⟨S8x4096x1x2x1x16, .f32⟩
  | 45 => ⟨S8x4096x1x2x2x16, .f32⟩
  | 46 => ⟨S8x4096x1x64, .f32⟩
  | 47 => ⟨S8x4096x64, .f32⟩
  | 48 => ⟨S8x4352x256, .f32⟩
  | 49 => ⟨S8x4352x64, .f32⟩
  | 50 => ⟨S256x2048, .bf16⟩
  | 51 => ⟨S8x8x4352x192, .bf16⟩
  | 52 => ⟨S8x8x4352x128, .bf16⟩
  | 53 => ⟨S8x4096x1024, .f32⟩
  | 54 => ⟨S8x4096x512, .f32⟩
  | 55 => ⟨S1x1536, .f32⟩
  | 56 => ⟨S8x4096x1536, .f32⟩
  | 57 => ⟨S16x256x512, .f32⟩
  | 58 => ⟨S1x1536, .f32⟩
  | 59 => ⟨S16x256x1536, .f32⟩
  | 60 => ⟨S1x8x4096x192, .bf16⟩
  | 61 => ⟨S8x4096x192, .bf16⟩
  | 62 => ⟨S8x16x256x192, .bf16⟩
  | 63 => ⟨S16x8x256x192, .bf16⟩
  | 64 => ⟨S16x8x256x192, .bf16⟩
  | 65 => ⟨S16x8x256x128, .bf16⟩
  | 66 => ⟨S16x256x1024, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x512x2048, .f32⟩
  | .local _ .vmem, ⟨9, _⟩ => ⟨S1x512x2048, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S512x2048, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x8x512x192, .bf16⟩
  | .local _ .vmem, ⟨19, _⟩ => ⟨S1x8x512x192, .bf16⟩
  | .local _ .vmem, ⟨20, _⟩ => ⟨S1x256x256, .f32⟩
  | .local _ .vmem, ⟨21, _⟩ => ⟨S1x256x256, .f32⟩
  | .local _ .vmem, ⟨22, _⟩ => ⟨S1x256x64, .f32⟩
  | .local _ .vmem, ⟨23, _⟩ => ⟨S1x256x64, .f32⟩
  | .local _ .vmem, ⟨24, _⟩ => ⟨S256x2048, .bf16⟩
  | .local _ .vmem, ⟨25, _⟩ => ⟨S1x8x256x192, .bf16⟩
  | .local _ .vmem, ⟨26, _⟩ => ⟨S1x8x256x192, .bf16⟩
  | .local _ .vmem, ⟨27, _⟩ => ⟨S1x8x256x128, .bf16⟩
  | .local _ .vmem, ⟨28, _⟩ => ⟨S1x8x256x128, .bf16⟩
  | .local _ .vmem, ⟨29, _⟩ => ⟨S1x1x256x192, .bf16⟩
  | .local _ .vmem, ⟨30, _⟩ => ⟨S1x1x256x192, .bf16⟩
  | .local _ .vmem, ⟨31, _⟩ => ⟨S1x1x4352x192, .bf16⟩
  | .local _ .vmem, ⟨32, _⟩ => ⟨S1x1x4352x192, .bf16⟩
  | .local _ .vmem, ⟨33, _⟩ => ⟨S1x1x4352x128, .bf16⟩
  | .local _ .vmem, ⟨34, _⟩ => ⟨S1x1x4352x128, .bf16⟩
  | .local _ .vmem, ⟨35, _⟩ => ⟨S1x256x128, .f32⟩
  | .local _ .vmem, ⟨36, _⟩ => ⟨S1x256x128, .f32⟩
  | .local _ .vmem, ⟨37, _⟩ => ⟨S1x4096x128, .f32⟩
  | .local _ .vmem, ⟨38, _⟩ => ⟨S1x4096x128, .f32⟩
  | .local _ .vmem, ⟨39, _⟩ => ⟨S1x4096x128, .f32⟩
  | .local _ .vmem, ⟨40, _⟩ => ⟨S1x4096x128, .f32⟩
  | .local _ .vmem, ⟨41, _⟩ => ⟨S1x4096x128, .f32⟩
  | .local _ .vmem, ⟨42, _⟩ => ⟨S1x4096x128, .f32⟩
  | .local _ .vmem, ⟨43, _⟩ => ⟨S3x128, .f32⟩
  | .local _ .vmem, ⟨44, _⟩ => ⟨S3x128, .f32⟩
  | .local _ .vmem, ⟨45, _⟩ => ⟨S1x4096x128, .f32⟩
  | .local _ .vmem, ⟨46, _⟩ => ⟨S1x4096x128, .f32⟩
  | .local _ .vmem, ⟨47, _⟩ => ⟨S1x4096x128, .f32⟩
  | .local _ .vmem, ⟨48, _⟩ => ⟨S1x4096x128, .f32⟩
  | .local _ .vmem, ⟨49, _⟩ => ⟨S3x128, .f32⟩
  | .local _ .vmem, ⟨50, _⟩ => ⟨S3x128, .f32⟩
  | .local _ .vmem, ⟨51, _⟩ => ⟨S1x128, .f32⟩
  | .local _ .vmem, ⟨52, _⟩ => ⟨S1x128, .f32⟩
  | .local _ .vmem, ⟨53, _⟩ => ⟨S1x4096x128, .f32⟩
  | .local _ .vmem, ⟨54, _⟩ => ⟨S1x4096x128, .f32⟩
  | .local _ .vmem, ⟨55, _⟩ => ⟨S1x256x128, .f32⟩
  | .local _ .vmem, ⟨56, _⟩ => ⟨S1x256x128, .f32⟩
  | .local _ .vmem, ⟨57, _⟩ => ⟨S1x256x128, .f32⟩
  | .local _ .vmem, ⟨58, _⟩ => ⟨S1x256x128, .f32⟩
  | .local _ .vmem, ⟨59, _⟩ => ⟨S1x256x128, .f32⟩
  | .local _ .vmem, ⟨60, _⟩ => ⟨S1x256x128, .f32⟩
  | .local _ .vmem, ⟨61, _⟩ => ⟨S3x128, .f32⟩
  | .local _ .vmem, ⟨62, _⟩ => ⟨S3x128, .f32⟩
  | .local _ .vmem, ⟨63, _⟩ => ⟨S1x256x128, .f32⟩
  | .local _ .vmem, ⟨64, _⟩ => ⟨S1x256x128, .f32⟩
  | .local _ .vmem, ⟨65, _⟩ => ⟨S1x256x128, .f32⟩
  | .local _ .vmem, ⟨66, _⟩ => ⟨S1x256x128, .f32⟩
  | .local _ .vmem, ⟨67, _⟩ => ⟨S3x128, .f32⟩
  | .local _ .vmem, ⟨68, _⟩ => ⟨S3x128, .f32⟩
  | .local _ .vmem, ⟨69, _⟩ => ⟨S1x128, .f32⟩
  | .local _ .vmem, ⟨70, _⟩ => ⟨S1x128, .f32⟩
  | .local _ .vmem, ⟨71, _⟩ => ⟨S1x256x128, .f32⟩
  | .local _ .vmem, ⟨72, _⟩ => ⟨S1x256x128, .f32⟩
  | .local _ .vmem, ⟨73, _⟩ => ⟨S1x256x256, .f32⟩
  | .local _ .vmem, ⟨74, _⟩ => ⟨S1x256x256, .f32⟩
  | .local _ .vmem, ⟨75, _⟩ => ⟨S1x256x64, .f32⟩
  | .local _ .vmem, ⟨76, _⟩ => ⟨S1x256x64, .f32⟩
  | .local _ .vmem, ⟨77, _⟩ => ⟨S256x2048, .bf16⟩
  | .local _ .vmem, ⟨78, _⟩ => ⟨S1x8x256x192, .bf16⟩
  | .local _ .vmem, ⟨79, _⟩ => ⟨S1x8x256x192, .bf16⟩
  | .local _ .vmem, ⟨80, _⟩ => ⟨S1x8x256x128, .bf16⟩
  | .local _ .vmem, ⟨81, _⟩ => ⟨S1x8x256x128, .bf16⟩
  | .local _ .vmem, ⟨82, _⟩ => ⟨S1x1x256x192, .bf16⟩
  | .local _ .vmem, ⟨83, _⟩ => ⟨S1x1x256x192, .bf16⟩
  | .local _ .vmem, ⟨84, _⟩ => ⟨S1x1x256x192, .bf16⟩
  | .local _ .vmem, ⟨85, _⟩ => ⟨S1x1x256x192, .bf16⟩
  | .local _ .vmem, ⟨86, _⟩ => ⟨S1x1x256x128, .bf16⟩
  | .local _ .vmem, ⟨87, _⟩ => ⟨S1x1x256x128, .bf16⟩
  | .local _ .vmem, ⟨88, _⟩ => ⟨S1x256x128, .f32⟩
  | .local _ .vmem, ⟨89, _⟩ => ⟨S1x256x128, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_5 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_6 : Ref sig .tc := ⟨.hbm, 119, rfl⟩
abbrev main_v99 : Ref sig .tc := ⟨.hbm, 120, rfl⟩
abbrev main_v100 : Ref sig .tc := ⟨.hbm, 121, rfl⟩
abbrev main_cst_7 : Ref sig .tc := ⟨.hbm, 122, rfl⟩
abbrev main_v101 : Ref sig .tc := ⟨.hbm, 123, rfl⟩
abbrev main_v102 : Ref sig .tc := ⟨.hbm, 124, rfl⟩
abbrev main_cst_8 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_9 : Ref sig .tc := ⟨.hbm, 138, rfl⟩
abbrev main_v115 : Ref sig .tc := ⟨.hbm, 139, rfl⟩
abbrev main_v116 : Ref sig .tc := ⟨.hbm, 140, rfl⟩
abbrev main_cst_10 : Ref sig .tc := ⟨.hbm, 141, rfl⟩
abbrev main_v117 : Ref sig .tc := ⟨.hbm, 142, rfl⟩
abbrev main_v118 : Ref sig .tc := ⟨.hbm, 143, rfl⟩
abbrev main_cst_11 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153_0 : Ref sig .tc := ⟨.hbm, 179, rfl⟩
abbrev main_v153_1 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165_0 : Ref sig .tc := ⟨.hbm, 192, rfl⟩
abbrev main_v165_1 : Ref sig .tc := ⟨.hbm, 193, rfl⟩
abbrev main_v166 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg3_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg2_1 : Ref sig .tc := ⟨.vmem, 60, rfl⟩
abbrev cc6_stg3_0 : Ref sig .tc := ⟨.vmem, 61, rfl⟩
abbrev cc6_stg3_1 : Ref sig .tc := ⟨.vmem, 62, rfl⟩
abbrev cc6_stg4_0 : Ref sig .tc := ⟨.vmem, 63, rfl⟩
abbrev cc6_stg4_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg3_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg3_1 : Ref sig .tc := ⟨.vmem, 79, rfl⟩
abbrev cc8_stg4_0 : Ref sig .tc := ⟨.vmem, 80, rfl⟩
abbrev cc8_stg4_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg1_1 : Ref sig .tc := ⟨.vmem, 85, rfl⟩
abbrev cc9_stg2_0 : Ref sig .tc := ⟨.vmem, 86, rfl⟩
abbrev cc9_stg2_1 : Ref sig .tc := ⟨.vmem, 87, rfl⟩
abbrev cc9_stg3_0 : Ref sig .tc := ⟨.vmem, 88, rfl⟩
abbrev cc9_stg3_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem2_1 : DmaSem sig := 60
abbrev cc6_sem3_0 : DmaSem sig := 61
abbrev cc6_sem3_1 : DmaSem sig := 62
abbrev cc6_sem4_0 : DmaSem sig := 63
abbrev cc6_sem4_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem3_1 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem3_0 : DmaSem sig := 78
abbrev cc8_sem3_1 : DmaSem sig := 79
abbrev cc8_sem4_0 : DmaSem sig := 80
abbrev cc8_sem4_1 : DmaSem sig := 81
abbrev cc9_sem0_0 : DmaSem sig := 82
abbrev cc9_sem0_1 : DmaSem sig := 83
abbrev cc9_sem1_0 : DmaSem sig := 84
abbrev cc9_sem1_1 : DmaSem sig := 85
abbrev cc9_sem2_0 : DmaSem sig := 86
abbrev cc9_sem2_1 : DmaSem sig := 87
abbrev cc9_sem3_0 : DmaSem sig := 88
abbrev cc9_sem3_1 : DmaSem sig := 89

abbrev nD : Nat := 1
abbrev τ : Topo := Topo.v7x

variable {F : FTy → Type} [FloatOps F]

abbrev grid0 : Pipeline.Grid := ⟨3, ![9, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨2, ![9, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![v0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![v0.toNat, arg1.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x512x192 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 17], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x8x256x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x8x256x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![8, 8, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  ![v0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x1x256x192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x4352x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x4352x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨2, ![8, 4], ![false, false]⟩

def cc4_transform_0 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.addi c8_i32 arg1
  let c0_i32 : BitVec 32 := 0#32
  let c0_i32_0 : BitVec 32 := 0#32
  ![v0.toNat, c0_i32.toNat, v1.toNat]

def cc4_transform_1 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c12_i32 : BitVec 32 := 12#32
  let v1 : BitVec 32 := Scalar.addi c12_i32 arg1
  let c0_i32 : BitVec 32 := 0#32
  let c0_i32_0 : BitVec 32 := 0#32
  ![v0.toNat, c0_i32.toNat, v1.toNat]

def cc4_transform_2 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.addi c16_i32 arg1
  let c0_i32 : BitVec 32 := 0#32
  let c0_i32_0 : BitVec 32 := 0#32
  ![v0.toNat, c0_i32.toNat, v1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S3x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![8, 12], ![false, false]⟩

def cc5_transform_0 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c20_i32 : BitVec 32 := 20#32
  let v1 : BitVec 32 := Scalar.addi c20_i32 arg1
  let c0_i32 : BitVec 32 := 0#32
  let c0_i32_0 : BitVec 32 := 0#32
  ![v0.toNat, c0_i32.toNat, v1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S3x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x4096x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![16, 4], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8_i32 : BitVec 32 := 8#32
  let v1 : BitVec 32 := Scalar.addi c8_i32 arg1
  let c0_i32_0 : BitVec 32 := 0#32
  let c0_i32_1 : BitVec 32 := 0#32
  ![v0.toNat, c0_i32_0.toNat, v1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c12_i32 : BitVec 32 := 12#32
  let v1 : BitVec 32 := Scalar.addi c12_i32 arg1
  let c0_i32_0 : BitVec 32 := 0#32
  let c0_i32_1 : BitVec 32 := 0#32
  ![v0.toNat, c0_i32_0.toNat, v1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c16_i32 : BitVec 32 := 16#32
  let v1 : BitVec 32 := Scalar.addi c16_i32 arg1
  let c0_i32_0 : BitVec 32 := 0#32
  let c0_i32_1 : BitVec 32 := 0#32
  ![v0.toNat, c0_i32_0.toNat, v1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x256x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x256x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S3x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1x256x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![16, 12], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c20_i32 : BitVec 32 := 20#32
  let v1 : BitVec 32 := Scalar.addi c20_i32 arg1
  let c0_i32_0 : BitVec 32 := 0#32
  let c0_i32_1 : BitVec 32 := 0#32
  ![v0.toNat, c0_i32_0.toNat, v1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage7_0 : Fin 2 → Memref sig .tc .vmem S1x256x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S3x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1x256x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![16, 1], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc8_transform_4 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage8_0 : Fin 2 → Memref sig .tc .vmem S1x256x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x256x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S256x2048 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x8x256x192 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev stage8_4 : Fin 2 → Memref sig .tc .vmem S1x8x256x128 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨3, ![16, 8, 1], ![false, false, false]⟩

def cc9_transform_0 (i : grid9.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, arg2.toNat, c0_i32_0.toNat]

def cc9_transform_1 (i : grid9.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc9_transform_2 (i : grid9.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage9_0 : Fin 2 → Memref sig .tc .vmem S1x1x256x192 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true, true]

abbrev stage9_1 : Fin 2 → Memref sig .tc .vmem S1x1x256x192 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true, false]

abbrev stage9_2 : Fin 2 → Memref sig .tc .vmem S1x1x256x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1x256x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, true]
-- ==== ReferenceIdeal.lean ====
abbrev S16x256x2048 : Shape := ⟨3, ![16, 256, 2048]⟩
abbrev S8x4096x2048 : Shape := ⟨3, ![8, 4096, 2048]⟩
abbrev S9x6x2048 : Shape := ⟨3, ![9, 6, 2048]⟩
abbrev S2048x3904 : Shape := ⟨2, ![2048, 3904]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S3x512 : Shape := ⟨2, ![3, 512]⟩
abbrev S3x1536 : Shape := ⟨2, ![3, 1536]⟩
abbrev S1536 : Shape := ⟨1, ![1536]⟩
abbrev S8x256x256 : Shape := ⟨3, ![8, 256, 256]⟩
abbrev S8x256x64 : Shape := ⟨3, ![8, 256, 64]⟩
abbrev S1x1x2048 : Shape := ⟨3, ![1, 1, 2048]⟩
abbrev S1x2048 : Shape := ⟨2, ![1, 2048]⟩
abbrev S_ : Shape := ⟨0, ![]⟩
abbrev S16x256x3904 : Shape := ⟨3, ![16, 256, 3904]⟩
abbrev S16x256x256 : Shape := ⟨3, ![16, 256, 256]⟩
abbrev S16x256 : Shape := ⟨2, ![16, 256]⟩
abbrev S16x256x1 : Shape := ⟨3, ![16, 256, 1]⟩
abbrev S1x1x256 : Shape := ⟨3, ![1, 1, 256]⟩
abbrev S16x256x64 : Shape := ⟨3, ![16, 256, 64]⟩
abbrev S8x1x2048 : Shape := ⟨3, ![8, 1, 2048]⟩
abbrev S8x2048 : Shape := ⟨2, ![8, 2048]⟩
abbrev S8x4096x3904 : Shape := ⟨3, ![8, 4096, 3904]⟩
abbrev S8x4096x512 : Shape := ⟨3, ![8, 4096, 512]⟩
abbrev S8x4096x256 : Shape := ⟨3, ![8, 4096, 256]⟩
abbrev S8x4096x64 : Shape := ⟨3, ![8, 4096, 64]⟩
abbrev S8x4096x1536 : Shape := ⟨3, ![8, 4096, 1536]⟩
abbrev S8x4096 : Shape := ⟨2, ![8, 4096]⟩
abbrev S8x4096x1 : Shape := ⟨3, ![8, 4096, 1]⟩
abbrev S1x1x512 : Shape := ⟨3, ![1, 1, 512]⟩
abbrev S8x4096x8x192 : Shape := ⟨4, ![8, 4096, 8, 192]⟩
abbrev S8x4096x8x128 : Shape := ⟨4, ![8, 4096, 8, 128]⟩
abbrev S8x4096x8x64 : Shape := ⟨4, ![8, 4096, 8, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S1x4096x1x2x16 : Shape := ⟨5, ![1, 4096, 1, 2, 16]⟩
abbrev S8x4096x1x64 : Shape := ⟨4, ![8, 4096, 1, 64]⟩
abbrev S8x4096x1x2x2x16 : Shape := ⟨6, ![8, 4096, 1, 2, 2, 16]⟩
abbrev S8x4096x1x2x1x16 : Shape := ⟨6, ![8, 4096, 1, 2, 1, 16]⟩
abbrev S8x4096x1x2x16 : Shape := ⟨5, ![8, 4096, 1, 2, 16]⟩
abbrev S8x4352x256 : Shape := ⟨3, ![8, 4352, 256]⟩
abbrev S8x4352x64 : Shape := ⟨3, ![8, 4352, 64]⟩
abbrev S8x4352x2048 : Shape := ⟨3, ![8, 4352, 2048]⟩
abbrev S8x4352x8x256 : Shape := ⟨4, ![8, 4352, 8, 256]⟩
abbrev S8x4352x8x128 : Shape := ⟨4, ![8, 4352, 8, 128]⟩
abbrev S8x8x4096x4352 : Shape := ⟨4, ![8, 8, 4096, 4352]⟩
abbrev S8x4352x4096x8 : Shape := ⟨4, ![8, 4352, 4096, 8]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x1024 : Shape := ⟨3, ![8, 4096, 1024]⟩
abbrev S8x4098x512 : Shape := ⟨3, ![8, 4098, 512]⟩
abbrev S1x512 : Shape := ⟨2, ![1, 512]⟩
abbrev S8x4098x1536 : Shape := ⟨3, ![8, 4098, 1536]⟩
abbrev S1x1536 : Shape := ⟨2, ![1, 1536]⟩
abbrev S1x1x1536 : Shape := ⟨3, ![1, 1, 1536]⟩
abbrev S16x256x512 : Shape := ⟨3, ![16, 256, 512]⟩
abbrev S16x256x1536 : Shape := ⟨3, ![16, 256, 1536]⟩
abbrev S16x258x512 : Shape := ⟨3, ![16, 258, 512]⟩
abbrev S16x258x1536 : Shape := ⟨3, ![16, 258, 1536]⟩
abbrev S16x256x8x192 : Shape := ⟨4, ![16, 256, 8, 192]⟩
abbrev S16x256x8x256 : Shape := ⟨4, ![16, 256, 8, 256]⟩
abbrev S16x256x8x128 : Shape := ⟨4, ![16, 256, 8, 128]⟩
abbrev S16x8x256x256 : Shape := ⟨4, ![16, 8, 256, 256]⟩
abbrev S16x256x8x64 : Shape := ⟨4, ![16, 256, 8, 64]⟩
abbrev S16x256x256x8 : Shape := ⟨4, ![16, 256, 256, 8]⟩
abbrev S16x8x256 : Shape := ⟨3, ![16, 8, 256]⟩
abbrev S16x8x256x1 : Shape := ⟨4, ![16, 8, 256, 1]⟩
abbrev S16x8x128x256 : Shape := ⟨4, ![16, 8, 128, 256]⟩
abbrev S16x256x1024 : Shape := ⟨3, ![16, 256, 1024]⟩

abbrev nBuf : Space → Nat
  | .hbm => 361
  | .vmem => 0
  | .smem => 0
  | _ => 0

abbrev hbmTy0_0 (i : Nat) : BufTy := match i % 128 with
  | 0 => ⟨S16x256x2048, .f32⟩
  | 1 => ⟨S8x4096x2048, .f32⟩
  | 2 => ⟨S9x6x2048, .f32⟩
  | 3 => ⟨S2048x3904, .f32⟩
  | 4 => ⟨S512, .f32⟩
  | 5 => ⟨S256, .f32⟩
  | 6 => ⟨S512x1536, .f32⟩
  | 7 => ⟨S256x2048, .f32⟩
  | 8 => ⟨S3x512, .f32⟩
  | 9 => ⟨S3x1536, .f32⟩
  | 10 => ⟨S1536, .f32⟩
  | 11 => ⟨S8x256x256, .f32⟩
  | 12 => ⟨S8x256x64, .f32⟩
  | 13 => ⟨S1x1x2048, .f32⟩
  | 14 => ⟨S1x2048, .f32⟩
  | 15 => ⟨S1x1x2048, .f32⟩
  | 16 => ⟨S1x1x2048, .f32⟩
  | 17 => ⟨S1x2048, .f32⟩
  | 18 => ⟨S1x1x2048, .f32⟩
  | 19 => ⟨S_, .f32⟩
  | 20 => ⟨S1x1x2048, .f32⟩
  | 21 => ⟨S1x1x2048, .f32⟩
  | 22 => ⟨S16x256x2048, .f32⟩
  | 23 => ⟨S16x256x2048, .f32⟩
  | 24 => ⟨S16x256x2048, .f32⟩
  | 25 => ⟨S16x256x2048, .f32⟩
  | 26 => ⟨S16x256x3904, .f32⟩
  | 27 => ⟨S16x256x256, .f32⟩
  | 28 => ⟨S16x256x256, .f32⟩
  | 29 => ⟨S_, .f32⟩
  | 30 => ⟨S16x256, .f32⟩
  | 31 => ⟨S16x256x1, .f32⟩
  | 32 => ⟨S_, .f32⟩
  | 33 => ⟨S16x256x1, .f32⟩
  | 34 => ⟨S16x256x1, .f32⟩
  | 35 => ⟨S_, .f32⟩
  | 36 => ⟨S16x256x1, .f32⟩
  | 37 => ⟨S16x256x1, .f32⟩
  | 38 => ⟨S16x256x1, .f32⟩
  | 39 => ⟨S16x256x256, .f32⟩
  | 40 => ⟨S16x256x256, .f32⟩
  | 41 => ⟨S1x1x256, .f32⟩
  | 42 => ⟨S16x256x256, .f32⟩
  | 43 => ⟨S16x256x256, .f32⟩
  | 44 => ⟨S16x256x64, .f32⟩
  | 45 => ⟨S8x1x2048, .f32⟩
  | 46 => ⟨S8x2048, .f32⟩
  | 47 => ⟨S8x1x2048, .f32⟩
  | 48 => ⟨S8x1x2048, .f32⟩
  | 49 => ⟨S8x2048, .f32⟩
  | 50 => ⟨S8x1x2048, .f32⟩
  | 51 => ⟨S_, .f32⟩
  | 52 => ⟨S8x1x2048, .f32⟩
  | 53 => ⟨S8x1x2048, .f32⟩
  | 54 => ⟨S8x4096x2048, .f32⟩
  | 55 => ⟨S8x4096x2048, .f32⟩
  | 56 => ⟨S8x4096x2048, .f32⟩
  | 57 => ⟨S8x4096x2048, .f32⟩
  | 58 => ⟨S8x4096x3904, .f32⟩
  | 59 => ⟨S8x4096x512, .f32⟩
  | 60 => ⟨S8x4096x256, .f32⟩
  | 61 => ⟨S8x4096x64, .f32⟩
  | 62 => ⟨S8x4096x1536, .f32⟩
  | 63 => ⟨S8x4096x1536, .f32⟩
  | 64 => ⟨S8x4096x512, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x512, .f32⟩
  | 76 => ⟨S8x4096x512, .f32⟩
  | 77 => ⟨S1x1x512, .f32⟩
  | 78 => ⟨S8x4096x512, .f32⟩
  | 79 => ⟨S8x4096x512, .f32⟩
  | 80 => ⟨S8x4096x1536, .f32⟩
  | 81 => ⟨S8x4096x8x192, .f32⟩
  | 82 => ⟨S8x4096x8x128, .f32⟩
  | 83 => ⟨S8x4096x8x64, .f32⟩
  | 84 => ⟨S8x4096x256, .f32⟩
  | 85 => ⟨S_, .f32⟩
  | 86 => ⟨S8x4096, .f32⟩
  | 87 => ⟨S8x4096x1, .f32⟩
  | 88 => ⟨S_, .f32⟩
  | 89 => ⟨S8x4096x1, .f32⟩
  | 90 => ⟨S8x4096x1, .f32⟩
  | 91 => ⟨S_, .f32⟩
  | 92 => ⟨S8x4096x1, .f32⟩
  | 93 => ⟨S8x4096x1, .f32⟩
  | 94 => ⟨S8x4096x1, .f32⟩
  | 95 => ⟨S8x4096x256, .f32⟩
  | 96 => ⟨S8x4096x256, .f32⟩
  | 97 => ⟨S1x1x256, .f32⟩
  | 98 => ⟨S8x4096x256, .f32⟩
  | 99 => ⟨S8x4096x256, .f32⟩
  | 100 => ⟨S64, .i32⟩
  | 101 => ⟨S64x64, .i32⟩
  | 102 => ⟨S4096, .i32⟩
  | 103 => ⟨S64, .i32⟩
  | 104 => ⟨S1x64, .i32⟩
  | 105 => ⟨S64x64, .i32⟩
  | 106 => ⟨S4096, .i32⟩
  | 107 => ⟨S4096x1, .i32⟩
  | 108 => ⟨S4096x1, .i32⟩
  | 109 => ⟨S4096x2, .i32⟩
  | 110 => ⟨S4096x2, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S4096x2x1, .f32⟩
  | 120 => ⟨S1x1x16, .f32⟩
  | 121 => ⟨S4096x2x16, .f32⟩
  | 122 => ⟨S4096x2x16, .f32⟩
  | 123 => ⟨S4096x2x16, .f32⟩
  | 124 => ⟨S4096x2x16, .f32⟩
  | 125 => ⟨S4096x2x16, .f32⟩
  | 126 => ⟨S8x4096x8x2x2x16, .f32⟩
  | 127 => ⟨S8x4096x8x2x1x16, .f32⟩
  | _ => ⟨S16x256x2048, .f32⟩

abbrev hbmTy0_1 (i : Nat) : BufTy := match i % 128 with
  | 0 => ⟨S8x4096x8x2x16, .f32⟩
  | 1 => ⟨S8x4096x8x2x1x16, .f32⟩
  | 2 => ⟨S8x4096x8x2x16, .f32⟩
  | 3 => ⟨S1x4096x1x2x16, .f32⟩
  | 4 => ⟨S1x4096x1x2x16, .f32⟩
  | 5 => ⟨S8x4096x8x2x16, .f32⟩
  | 6 => ⟨S8x4096x8x2x16, .f32⟩
  | 7 => ⟨S8x4096x8x2x16, .f32⟩
  | 8 => ⟨S8x4096x8x2x16, .f32⟩
  | 9 => ⟨S8x4096x8x2x16, .f32⟩
  | 10 => ⟨S8x4096x8x2x16, .f32⟩
  | 11 => ⟨S8x4096x8x2x16, .f32⟩
  | 12 => ⟨S8x4096x8x2x16, .f32⟩
  | 13 => ⟨S8x4096x8x2x16, .f32⟩
  | 14 => ⟨S8x4096x8x2x16, .f32⟩
  | 15 => ⟨S8x4096x8x2x1x16, .f32⟩
  | 16 => ⟨S8x4096x8x2x1x16, .f32⟩
  | 17 => ⟨S8x4096x8x2x2x16, .f32⟩
  | 18 => ⟨S8x4096x8x64, .f32⟩
  | 19 => ⟨S8x4096x1x64, .f32⟩
  | 20 => ⟨S8x4096x1x2x2x16, .f32⟩
  | 21 => ⟨S8x4096x1x2x1x16, .f32⟩
  | 22 => ⟨S8x4096x1x2x16, .f32⟩
  | 23 => ⟨S8x4096x1x2x1x16, .f32⟩
  | 24 => ⟨S8x4096x1x2x16, .f32⟩
  | 25 => ⟨S1x4096x1x2x16, .f32⟩
  | 26 => ⟨S1x4096x1x2x16, .f32⟩
  | 27 => ⟨S8x4096x1x2x16, .f32⟩
  | 28 => ⟨S8x4096x1x2x16, .f32⟩
  | 29 => ⟨S8x4096x1x2x16, .f32⟩
  | 30 => ⟨S8x4096x1x2x16, .f32⟩
  | 31 => ⟨S8x4096x1x2x16, .f32⟩
  | 32 => ⟨S8x4096x1x2x16, .f32⟩
  | 33 => ⟨S8x4096x1x2x16, .f32⟩
  | 34 => ⟨S8x4096x1x2x16, .f32⟩
  | 35 => ⟨S8x4096x1x2x16, .f32⟩
  | 36 => ⟨S8x4096x1x2x16, .f32⟩
  | 37 => ⟨S8x4096x1x2x1x16, .f32⟩
  | 38 => ⟨S8x4096x1x2x1x16, .f32⟩
  | 39 => ⟨S8x4096x1x2x2x16, .f32⟩
  | 40 => ⟨S8x4096x1x64, .f32⟩
  | 41 => ⟨S8x4096x64, .f32⟩
  | 42 => ⟨S8x4352x256, .f32⟩
  | 43 => ⟨S8x4352x64, .f32⟩
  | 44 => ⟨S8x4352x2048, .f32⟩
  | 45 => ⟨S8x4352x8x256, .f32⟩
  | 46 => ⟨S8x4352x8x128, .f32⟩
  | 47 => ⟨S8x4352x8x128, .f32⟩
  | 48 => ⟨S8x8x4096x4352, .f32⟩
  | 49 => ⟨S8x4352x4096x8, .f32⟩
  | 50 => ⟨S8x8x4096x4352, .f32⟩
  | 51 => ⟨S8x8x4096x4352, .f32⟩
  | 52 => ⟨S_, .f32⟩
  | 53 => ⟨S8x8x4096x4352, .f32⟩
  | 54 => ⟨S8x8x4096x4352, .f32⟩
  | 55 => ⟨S_, .f32⟩
  | 56 => ⟨S8x8x4096, .f32⟩
  | 57 => ⟨S_, .f32⟩
  | 58 => ⟨S8x8x4096, .f32⟩
  | 59 => ⟨S8x8x4096, .f32⟩
  | 60 => ⟨S8x8x4096x1, .f32⟩
  | 61 => ⟨S8x8x4096x4352, .f32⟩
  | 62 => ⟨S8x8x4096x4352, .f32⟩
  | 63 => ⟨S8x8x4096x4352, .f32⟩
  | 64 => ⟨S_, .f32⟩
  | 65 => ⟨S8x8x4096, .f32⟩
  | 66 => ⟨S8x8x4096x1, .f32⟩
  | 67 => ⟨S8x8x4096x4352, .f32⟩
  | 68 => ⟨S8x8x4096x4352, .f32⟩
  | 69 => ⟨S8x8x128x4096, .f32⟩
  | 70 => ⟨S8x4096x8x128, .f32⟩
  | 71 => ⟨S8x4096x1024, .f32⟩
  | 72 => ⟨S8x4096x512, .f32⟩
  | 73 => ⟨S8x4096x512, .f32⟩
  | 74 => ⟨S8x4096x512, .f32⟩
  | 75 => ⟨S8x4096x512, .f32⟩
  | 76 => ⟨S_, .i32⟩
  | 77 => ⟨S_, .f32⟩
  | 78 => ⟨S8x4098x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S1x512, .f32⟩
  | 87 => ⟨S512, .f32⟩
  | 88 => ⟨S1x1x512, .f32⟩
  | 89 => ⟨S8x4096x512, .f32⟩
  | 90 => ⟨S8x4096x512, .f32⟩
  | 91 => ⟨S8x4096x512, .f32⟩
  | 92 => ⟨S8x4096x512, .f32⟩
  | 93 => ⟨S1x512, .f32⟩
  | 94 => ⟨S512, .f32⟩
  | 95 => ⟨S1x1x512, .f32⟩
  | 96 => ⟨S8x4096x512, .f32⟩
  | 97 => ⟨S8x4096x512, .f32⟩
  | 98 => ⟨S8x4096x512, .f32⟩
  | 99 => ⟨S8x4096x512, .f32⟩
  | 100 => ⟨S_, .i32⟩
  | 101 => ⟨S_, .f32⟩
  | 102 => ⟨S8x4098x1536, .f32⟩
  | 103 => ⟨S8x4096x1536, .f32⟩
  | 104 => ⟨S1x1536, .f32⟩
  | 105 => ⟨S1536, .f32⟩
  | 106 => ⟨S1x1x1536, .f32⟩
  | 107 => ⟨S8x4096x1536, .f32⟩
  | 108 => ⟨S8x4096x1536, .f32⟩
  | 109 => ⟨S8x4096x1536, .f32⟩
  | 110 => ⟨S1x1536, .f32⟩
  | 111 => ⟨S1536, .f32⟩
  | 112 => ⟨S1x1x1536, .f32⟩
  | 113 => ⟨S8x4096x1536, .f32⟩
  | 114 => ⟨S8x4096x1536, .f32⟩
  | 115 => ⟨S8x4096x1536, .f32⟩
  | 116 => ⟨S8x4096x1536, .f32⟩
  | 117 => ⟨S1x1536, .f32⟩
  | 118 => ⟨S1536, .f32⟩
  | 119 => ⟨S1x1x1536, .f32⟩
  | 120 => ⟨S8x4096x1536, .f32⟩
  | 121 => ⟨S8x4096x1536, .f32⟩
  | 122 => ⟨S8x4096x1536, .f32⟩
  | 123 => ⟨S1x1x1536, .f32⟩
  | 124 => ⟨S8x4096x1536, .f32⟩
  | 125 => ⟨S8x4096x1536, .f32⟩
  | 126 => ⟨S16x256x512, .f32⟩
  | 127 => ⟨S16x256x256, .f32⟩
  | _ => ⟨S16x256x2048, .f32⟩

abbrev hbmTy0_2 (i : Nat) : BufTy := match i % 128 with
  | 0 => ⟨S16x256x64, .f32⟩
  | 1 => ⟨S16x256x1536, .f32⟩
  | 2 => ⟨S16x256x1536, .f32⟩
  | 3 => ⟨S16x256x512, .f32⟩
  | 4 => ⟨S16x256x512, .f32⟩
  | 5 => ⟨S16x256x512, .f32⟩
  | 6 => ⟨S16x256x512, .f32⟩
  | 7 => ⟨S_, .i32⟩
  | 8 => ⟨S_, .f32⟩
  | 9 => ⟨S16x258x512, .f32⟩
  | 10 => ⟨S16x256x512, .f32⟩
  | 11 => ⟨S1x512, .f32⟩
  | 12 => ⟨S512, .f32⟩
  | 13 => ⟨S1x1x512, .f32⟩
  | 14 => ⟨S16x256x512, .f32⟩
  | 15 => ⟨S16x256x512, .f32⟩
  | 16 => ⟨S16x256x512, .f32⟩
  | 17 => ⟨S1x512, .f32⟩
  | 18 => ⟨S512, .f32⟩
  | 19 => ⟨S1x1x512, .f32⟩
  | 20 => ⟨S16x256x512, .f32⟩
  | 21 => ⟨S16x256x512, .f32⟩
  | 22 => ⟨S16x256x512, .f32⟩
  | 23 => ⟨S16x256x512, .f32⟩
  | 24 => ⟨S1x512, .f32⟩
  | 25 => ⟨S512, .f32⟩
  | 26 => ⟨S1x1x512, .f32⟩
  | 27 => ⟨S16x256x512, .f32⟩
  | 28 => ⟨S16x256x512, .f32⟩
  | 29 => ⟨S16x256x512, .f32⟩
  | 30 => ⟨S16x256x512, .f32⟩
  | 31 => ⟨S_, .i32⟩
  | 32 => ⟨S_, .f32⟩
  | 33 => ⟨S16x258x1536, .f32⟩
  | 34 => ⟨S16x256x1536, .f32⟩
  | 35 => ⟨S1x1536, .f32⟩
  | 36 => ⟨S1536, .f32⟩
  | 37 => ⟨S1x1x1536, .f32⟩
  | 38 => ⟨S16x256x1536, .f32⟩
  | 39 => ⟨S16x256x1536, .f32⟩
  | 40 => ⟨S16x256x1536, .f32⟩
  | 41 => ⟨S1x1536, .f32⟩
  | 42 => ⟨S1536, .f32⟩
  | 43 => ⟨S1x1x1536, .f32⟩
  | 44 => ⟨S16x256x1536, .f32⟩
  | 45 => ⟨S16x256x1536, .f32⟩
  | 46 => ⟨S16x256x1536, .f32⟩
  | 47 => ⟨S16x256x1536, .f32⟩
  | 48 => ⟨S1x1536, .f32⟩
  | 49 => ⟨S1536, .f32⟩
  | 50 => ⟨S1x1x1536, .f32⟩
  | 51 => ⟨S16x256x1536, .f32⟩
  | 52 => ⟨S16x256x1536, .f32⟩
  | 53 => ⟨S16x256x1536, .f32⟩
  | 54 => ⟨S1x1x1536, .f32⟩
  | 55 => ⟨S16x256x1536, .f32⟩
  | 56 => ⟨S16x256x1536, .f32⟩
  | 57 => ⟨S16x256x512, .f32⟩
  | 58 => ⟨S_, .f32⟩
  | 59 => ⟨S16x256, .f32⟩
  | 60 => ⟨S16x256x1, .f32⟩
  | 61 => ⟨S_, .f32⟩
  | 62 => ⟨S16x256x1, .f32⟩
  | 63 => ⟨S16x256x1, .f32⟩
  | 64 => ⟨S_, .f32⟩
  | 65 => ⟨S16x256x1, .f32⟩
  | 66 => ⟨S16x256x1, .f32⟩
  | 67 => ⟨S16x256x1, .f32⟩
  | 68 => ⟨S16x256x512, .f32⟩
  | 69 => ⟨S16x256x512, .f32⟩
  | 70 => ⟨S1x1x512, .f32⟩
  | 71 => ⟨S16x256x512, .f32⟩
  | 72 => ⟨S16x256x512, .f32⟩
  | 73 => ⟨S16x256x1536, .f32⟩
  | 74 => ⟨S16x256x8x192, .f32⟩
  | 75 => ⟨S16x256x2048, .f32⟩
  | 76 => ⟨S16x256x8x256, .f32⟩
  | 77 => ⟨S16x256x8x128, .f32⟩
  | 78 => ⟨S16x256x8x128, .f32⟩
  | 79 => ⟨S16x256x8x128, .f32⟩
  | 80 => ⟨S16x8x256x256, .f32⟩
  | 81 => ⟨S16x256x8x64, .f32⟩
  | 82 => ⟨S16x256x256x8, .f32⟩
  | 83 => ⟨S16x8x256x256, .f32⟩
  | 84 => ⟨S16x8x256x256, .f32⟩
  | 85 => ⟨S_, .f32⟩
  | 86 => ⟨S16x8x256x256, .f32⟩
  | 87 => ⟨S16x8x256x256, .f32⟩
  | 88 => ⟨S_, .f32⟩
  | 89 => ⟨S16x8x256, .f32⟩
  | 90 => ⟨S_, .f32⟩
  | 91 => ⟨S16x8x256, .f32⟩
  | 92 => ⟨S16x8x256, .f32⟩
  | 93 => ⟨S16x8x256x1, .f32⟩
  | 94 => ⟨S16x8x256x256, .f32⟩
  | 95 => ⟨S16x8x256x256, .f32⟩
  | 96 => ⟨S16x8x256x256, .f32⟩
  | 97 => ⟨S_, .f32⟩
  | 98 => ⟨S16x8x256, .f32⟩
  | 99 => ⟨S16x8x256x1, .f32⟩
  | 100 => ⟨S16x8x256x256, .f32⟩
  | 101 => ⟨S16x8x256x256, .f32⟩
  | 102 => ⟨S16x8x128x256, .f32⟩
  | 103 => ⟨S16x256x8x128, .f32⟩
  | 104 => ⟨S16x256x1024, .f32⟩
  | _ => ⟨S16x256x2048, .f32⟩

abbrev hbmTy (i : Nat) : BufTy := match i / 128 with
  | 0 => hbmTy0_0 i
  | 1 => hbmTy0_1 i
  | 2 => hbmTy0_2 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_v65 : Ref sig .tc := ⟨.hbm, 87, rfl⟩
abbrev main_cst_8 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_12 : Ref sig .tc := ⟨.hbm, 180, rfl⟩
abbrev main_v154 : Ref sig .tc := ⟨.hbm, 181, rfl⟩
abbrev main_v155 : Ref sig .tc := ⟨.hbm, 182, rfl⟩
abbrev main_cst_13 : Ref sig .tc := ⟨.hbm, 183, rfl⟩
abbrev main_v156 : Ref sig .tc := ⟨.hbm, 184, rfl⟩
abbrev main_cst_14 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_15 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_c : Ref sig .tc := ⟨.hbm, 204, rfl⟩
abbrev main_call0_v0 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_c_16 : Ref sig .tc := ⟨.hbm, 228, rfl⟩
abbrev main_call1_v0 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_c_17 : Ref sig .tc := ⟨.hbm, 263, rfl⟩
abbrev main_call2_v0 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_c_18 : Ref sig .tc := ⟨.hbm, 287, rfl⟩
abbrev main_call3_v0 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_cst_19 : Ref sig .tc := ⟨.hbm, 314, rfl⟩
abbrev main_v276 : Ref sig .tc := ⟨.hbm, 315, rfl⟩
abbrev main_v277 : Ref sig .tc := ⟨.hbm, 316, rfl⟩
abbrev main_cst_20 : Ref sig .tc := ⟨.hbm, 317, rfl⟩
abbrev main_v278 : Ref sig .tc := ⟨.hbm, 318, rfl⟩
abbrev main_v279 : Ref sig .tc := ⟨.hbm, 319, rfl⟩
abbrev main_cst_21 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_cst_22 : Ref sig .tc := ⟨.hbm, 341, rfl⟩
abbrev main_v300 : Ref sig .tc := ⟨.hbm, 342, rfl⟩
abbrev main_v301 : Ref sig .tc := ⟨.hbm, 343, rfl⟩
abbrev main_cst_23 : Ref sig .tc := ⟨.hbm, 344, rfl⟩
abbrev main_v302 : Ref sig .tc := ⟨.hbm, 345, rfl⟩
abbrev main_cst_24 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_cst_25 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩

abbrev nD : Nat := 1
abbrev τ : Topo := Topo.v7x

variable {F : FTy → Type} [FloatOps F]
-- ==== Kernel2.lean ====
abbrev S9x4096x2048 : Shape := ⟨3, ![9, 4096, 2048]⟩
abbrev S9x6x2048 : Shape := ⟨3, ![9, 6, 2048]⟩
abbrev S2048x2048 : Shape := ⟨2, ![2048, 2048]⟩
abbrev S2048 : Shape := ⟨1, ![2048]⟩
abbrev S9x1x2048 : Shape := ⟨3, ![9, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S9x4096x2048, .f32⟩
  | .hbm, ⟨1, _⟩ => ⟨S9x4096x2048, .f32⟩
  | .hbm, ⟨2, _⟩ => ⟨S9x6x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S9x1x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S9x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | _, _ => ⟨S9x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S9x4096x2048 : Shape := ⟨3, ![9, 4096, 2048]⟩
abbrev S9x6x2048 : Shape := ⟨3, ![9, 6, 2048]⟩
abbrev S2048x2048 : Shape := ⟨2, ![2048, 2048]⟩
abbrev S2048 : Shape := ⟨1, ![2048]⟩
abbrev S9x1x2048 : Shape := ⟨3, ![9, 1, 2048]⟩
abbrev S9x2048 : Shape := ⟨2, ![9, 2048]⟩
abbrev S_ : Shape := ⟨0, ![]⟩
abbrev S9x4096 : Shape := ⟨2, ![9, 4096]⟩
abbrev S9x4096x1 : Shape := ⟨3, ![9, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S9x4096x2048, .f32⟩
  | .hbm, ⟨1, _⟩ => ⟨S9x4096x2048, .f32⟩
  | .hbm, ⟨2, _⟩ => ⟨S9x6x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S9x1x2048, .f32⟩
  | .hbm, ⟨7, _⟩ => ⟨S9x2048, .f32⟩
  | .hbm, ⟨8, _⟩ => ⟨S9x1x2048, .f32⟩
  | .hbm, ⟨9, _⟩ => ⟨S9x4096x2048, .f32⟩
  | .hbm, ⟨10, _⟩ => ⟨S_, .f32⟩
  | .hbm, ⟨11, _⟩ => ⟨S9x4096x2048, .f32⟩
  | .hbm, ⟨12, _⟩ => ⟨S9x4096x2048, .f32⟩
  | .hbm, ⟨13, _⟩ => ⟨S9x4096x2048, .f32⟩
  | .hbm, ⟨14, _⟩ => ⟨S9x4096x2048, .f32⟩
  | .hbm, ⟨15, _⟩ => ⟨S9x4096x2048, .f32⟩
  | .hbm, ⟨16, _⟩ => ⟨S_, .f32⟩
  | .hbm, ⟨17, _⟩ => ⟨S9x4096, .f32⟩
  | .hbm, ⟨18, _⟩ => ⟨S9x4096x1, .f32⟩
  | .hbm, ⟨19, _⟩ => ⟨S_, .f32⟩
  | .hbm, ⟨20, _⟩ => ⟨S9x4096x1, .f32⟩
  | .hbm, ⟨21, _⟩ => ⟨S9x4096x1, .f32⟩
  | .hbm, ⟨22, _⟩ => ⟨S9x4096x2048, .f32⟩
  | .hbm, ⟨23, _⟩ => ⟨S9x4096x2048, .f32⟩
  | .hbm, ⟨24, _⟩ => ⟨S9x4096x2048, .f32⟩
  | .hbm, ⟨25, _⟩ => ⟨S_, .f32⟩
  | .hbm, ⟨26, _⟩ => ⟨S9x4096, .f32⟩
  | .hbm, ⟨27, _⟩ => ⟨S9x4096x1, .f32⟩
  | .hbm, ⟨28, _⟩ => ⟨S_, .f32⟩
  | .hbm, ⟨29, _⟩ => ⟨S9x4096x1, .f32⟩
  | .hbm, ⟨30, _⟩ => ⟨S9x4096x1, .f32⟩
  | .hbm, ⟨31, _⟩ => ⟨S9x4096x2048, .f32⟩
  | .hbm, ⟨32, _⟩ => ⟨S9x4096x2048, .f32⟩
  | .hbm, ⟨33, _⟩ => ⟨S_, .f32⟩
  | .hbm, ⟨34, _⟩ => ⟨S9x4096x1, .f32⟩
  | .hbm, ⟨35, _⟩ => ⟨S9x4096x1, .f32⟩
  | .hbm, ⟨36, _⟩ => ⟨S9x4096x1, .f32⟩
  | .hbm, ⟨37, _⟩ => ⟨S9x4096x2048, .f32⟩
  | .hbm, ⟨38, _⟩ => ⟨S9x4096x2048, .f32⟩
  | .hbm, ⟨39, _⟩ => ⟨S1x1x2048, .f32⟩
  | .hbm, ⟨40, _⟩ => ⟨S9x4096x2048, .f32⟩
  | .hbm, ⟨41, _⟩ => ⟨S9x4096x2048, .f32⟩
  | .hbm, ⟨42, _⟩ => ⟨S1x1x2048, .f32⟩
  | .hbm, ⟨43, _⟩ => ⟨S9x4096x2048, .f32⟩
  | .hbm, ⟨44, _⟩ => ⟨S9x4096x2048, .f32⟩
  | _, _ => ⟨S9x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S9x2048 : Shape := ⟨2, ![9, 2048]⟩
abbrev S_ : Shape := ⟨0, ![]⟩
abbrev S16x2048 : Shape := ⟨2, ![16, 2048]⟩
abbrev S1x16x2048 : Shape := ⟨3, ![1, 16, 2048]⟩
abbrev S4x16x12288 : Shape := ⟨3, ![4, 16, 12288]⟩
abbrev S1x2048x1536 : Shape := ⟨3, ![1, 2048, 1536]⟩
abbrev S1x16x1536 : Shape := ⟨3, ![1, 16, 1536]⟩
abbrev S16x1536 : Shape := ⟨2, ![16, 1536]⟩
abbrev S2048x1536 : Shape := ⟨2, ![2048, 1536]⟩
abbrev S4x9x12288 : Shape := ⟨3, ![4, 9, 12288]⟩
abbrev S4x1x12288 : Shape := ⟨3, ![4, 1, 12288]⟩
abbrev S4x9x6x2048 : Shape := ⟨4, ![4, 9, 6, 2048]⟩

abbrev nBuf : Space → Nat
  | .hbm => 25
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S9x2048, .f32⟩
  | .hbm, ⟨6, _⟩ => ⟨S9x2048, .f32⟩
  | .hbm, ⟨7, _⟩ => ⟨S9x2048, .f32⟩
  | .hbm, ⟨8, _⟩ => ⟨S_, .f32⟩
  | .hbm, ⟨9, _⟩ => ⟨S9x2048, .f32⟩
  | .hbm, ⟨10, _⟩ => ⟨S9x2048, .f32⟩
  | .hbm, ⟨11, _⟩ => ⟨S_, .f32⟩
  | .hbm, ⟨12, _⟩ => ⟨S9x2048, .f32⟩
  | .hbm, ⟨13, _⟩ => ⟨S9x2048, .f32⟩
  | .hbm, ⟨14, _⟩ => ⟨S9x2048, .f32⟩
  | .hbm, ⟨15, _⟩ => ⟨S_, .i32⟩
  | .hbm, ⟨16, _⟩ => ⟨S_, .f32⟩
  | .hbm, ⟨17, _⟩ => ⟨S16x2048, .f32⟩
  | .hbm, ⟨18, _⟩ => ⟨S1x16x2048, .f32⟩
  | .hbm, ⟨19, _⟩ => ⟨S4x16x12288, .f32⟩
  | .hbm, ⟨20, _⟩ => ⟨S4x9x12288, .f32⟩
  | .hbm, ⟨21, _⟩ => ⟨S4x1x12288, .f32⟩
  | .hbm, ⟨22, _⟩ => ⟨S4x9x12288, .f32⟩
  | .hbm, ⟨23, _⟩ => ⟨S4x9x12288, .f32⟩
  | .hbm, ⟨24, _⟩ => ⟨S4x9x6x2048, .f32⟩
  | .local _ .vmem, ⟨0, _⟩ => ⟨S1x16x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x16x1536, .f32⟩
  | .local _ .vmem, ⟨4, _⟩ => ⟨S1x16x1536, .f32⟩
  | .local _ .vmem, ⟨5, _⟩ => ⟨S16x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_c : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S4x12288x1 : Shape := ⟨3, ![4, 12288, 1]⟩
abbrev S4x1x12288 : Shape := ⟨3, ![4, 1, 12288]⟩
abbrev S4x1x6x2048 : Shape := ⟨4, ![4, 1, 6, 2048]⟩
abbrev S4x12288x8 : Shape := ⟨3, ![4, 12288, 8]⟩
abbrev S4x8x12288 : Shape := ⟨3, ![4, 8, 12288]⟩
abbrev S4x8x6x2048 : Shape := ⟨4, ![4, 8, 6, 2048]⟩
abbrev S4x9x6x2048 : Shape := ⟨4, ![4, 9, 6, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S4x12288x1, .f32⟩
  | .hbm, ⟨15, _⟩ => ⟨S4x1x12288, .f32⟩
  | .hbm, ⟨16, _⟩ => ⟨S4x1x12288, .f32⟩
  | .hbm, ⟨17, _⟩ => ⟨S4x1x12288, .f32⟩
  | .hbm, ⟨18, _⟩ => ⟨S4x1x6x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S4x12288x8, .f32⟩
  | .hbm, ⟨29, _⟩ => ⟨S4x8x12288, .f32⟩
  | .hbm, ⟨30, _⟩ => ⟨S4x1x12288, .f32⟩
  | .hbm, ⟨31, _⟩ => ⟨S4x8x12288, .f32⟩
  | .hbm, ⟨32, _⟩ => ⟨S4x8x12288, .f32⟩
  | .hbm, ⟨33, _⟩ => ⟨S4x8x6x2048, .f32⟩
  | .hbm, ⟨34, _⟩ => ⟨S4x9x6x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Proof.Run.lean ====
/- The run of the mixers with what every result array holds. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result array ends at its contents at the last boundary between the calls, the arguments as launched. -/
theorem run_values : θ_run defs (onTc (τ := τ) (main (F := F))) ⟨m, fun _ => 0, ρ⟩ (fun r => ∀ c : Dev nD,
      r.2.mem ((c.tc : Thread nD τ).loc main_v154) = W18 m ρ c (Proc.devRef .tc main_v154)
      ∧ r.2.mem ((c.tc : Thread nD τ).loc main_v155) = W18 m ρ c (Proc.devRef .tc main_v155)
      ∧ r.2.mem ((c.tc : Thread nD τ).loc main_v157) = W18 m ρ c (Proc.devRef .tc main_v157)
      ∧ r.2.mem ((c.tc : Thread nD τ).loc main_v110) = W18 m ρ c (Proc.devRef .tc main_v110)
      ∧ r.2.mem ((c.tc : Thread nD τ).loc main_v111) = W18 m ρ c (Proc.devRef .tc main_v111)
      ∧ r.2.mem ((c.tc : Thread nD τ).loc main_v158) = W18 m ρ c (Proc.devRef .tc main_v158)
      ∧ r.2.mem ((c.tc : Thread nD τ).loc main_v160) = W18 m ρ c (Proc.devRef .tc main_v160)
      ∧ r.2.mem ((c.tc : Thread nD τ).loc main_v166) = W18 m ρ c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => fun c =>
      ⟨h c _ (mem_uc main_v154 (by decide)),
       h c _ (mem_uc main_v155 (by decide)),
       h c _ (mem_uc main_v157 (by decide)),
       h c _ (mem_uc main_v110 (by decide)),
       h c _ (mem_uc main_v111 (by decide)),
       h c _ (mem_uc main_v158 (by decide)),
       h c _ (mem_uc main_v160 (by decide)),
       h c _ (mem_uc main_v166 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Run

end
-- ==== Proof.Alg.lean ====
/- Extended real numbers: which values are real, and how a weighed sum is divided. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Alg

open Idealize.ShloMosaic Idealize.ShloMosaic.TcCoe Idealize.SL.Sem
open Idealize.ShloMosaic.Pipeline (Dat)
open Cert.KernelIdeal

/-- A value that is a real number. -/
def IsR (x : EReal) : Prop := ∃ r : ℝ, x = (r : EReal)

/-- A real number is one. -/
theorem isR_coe (r : ℝ) : IsR (r : EReal) := ⟨r, rfl⟩

/-- Zero is a real number. -/
theorem isR_zero : IsR 0 := ⟨0, rfl⟩

/-- One is a real number. -/
theorem isR_one : IsR 1 := ⟨1, rfl⟩

/-- Neither infinity. -/
theorem isR_iff {x : EReal} : IsR x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- Real numbers are closed under sums, -/
theorem isR_add {x y : EReal} (hx : IsR x) (hy : IsR y) : IsR (x + y) := by
  obtain ⟨a, rfl⟩ := hx; obtain ⟨b, rfl⟩ := hy; exact ⟨a + b, (EReal.coe_add a b).symm⟩

/-- under products, -/
theorem isR_mul {x y : EReal} (hx : IsR x) (hy : IsR y) : IsR (x * y) := by
  obtain ⟨a, rfl⟩ := hx; obtain ⟨b, rfl⟩ := hy; exact ⟨a * b, (EReal.coe_mul a b).symm⟩

/-- under signs, -/
theorem isR_neg {x : EReal} (hx : IsR x) : IsR (-x) := by
  obtain ⟨a, rfl⟩ := hx; exact ⟨-a, (EReal.coe_neg a).symm⟩

/-- under differences, -/
theorem isR_sub {x y : EReal} (hx : IsR x) (hy : IsR y) : IsR (x - y) := by
  obtain ⟨a, rfl⟩ := hx; obtain ⟨b, rfl⟩ := hy; exact ⟨a - b, (EReal.coe_sub a b).symm⟩

/-- A finite sum of real numbers is the sum taken among the reals. -/
theorem sum_coe {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- Finite sums of real numbers are real numbers. -/
theorem isR_sum {ι : Type} (s : Finset ι) (f : ι → EReal) (h : ∀ i, IsR (f i)) : IsR (∑ i ∈ s, f i) := by
  choose g hg using h
  exact ⟨∑ i ∈ s, g i, by rw [← sum_coe]; exact Finset.sum_congr rfl fun i _ => hg i⟩

/-- Dividing by a real number other than zero multiplies by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

/-- A real number divided by a real number other than zero is one. -/
theorem isR_div {x : EReal} (hx : IsR x) (r : ℝ) (hr : r ≠ 0) : IsR (Ideal.div x (r : EReal)) := by
  rw [div_coe x r hr]; exact isR_mul hx (isR_coe _)

/-- The cosine of a real number is one. -/
theorem isR_cos {x : EReal} (hx : IsR x) : IsR (Ideal.cos x) := by
  obtain ⟨a, rfl⟩ := hx; exact ⟨Real.cos a, rfl⟩

/-- The sine of a real number is one. -/
theorem isR_sin {x : EReal} (hx : IsR x) : IsR (Ideal.sin x) := by
  obtain ⟨a, rfl⟩ := hx; exact ⟨Real.sin a, rfl⟩

/-- A power of real numbers is a real number. -/
theorem isR_pow {x y : EReal} (hx : IsR x) (hy : IsR y) : IsR (Ideal.pow x y) := by
  obtain ⟨a, rfl⟩ := hx; obtain ⟨b, rfl⟩ := hy; exact ⟨Real.rpow a b, rfl⟩

/-- An integer is a real number. -/
theorem isR_sitofp (b : BitVec 32) : IsR (FloatOps.sitofp (F := Ideal) FTy.f32 b) := ⟨(b.toInt : ℝ), rfl⟩

/-- The reciprocal root of a positive real number is a real number. -/
theorem isR_rsqrt (r : ℝ) (hr : 0 < r) : IsR (Ideal.rsqrt (r : EReal)) := by
  refine ⟨(Real.sqrt r)⁻¹, ?_⟩
  show (if r < 0 then ⊥ else if r = 0 then ⊤ else (((Real.sqrt r)⁻¹ : ℝ) : EReal)) = _
  rw [if_neg (not_lt.2 hr.le), if_neg hr.ne']

/-- The word of 512. -/
theorem ofBits_512 : Ideal.ofBits .f32 1140850688#32 = ((512 : ℝ) : EReal) := by
  simp [Ideal.ofBits, Ideal.ieee, -EReal.coe_mul]; norm_num

/-- The word of 256. -/
theorem ofBits_256 : Ideal.ofBits .f32 1132462080#32 = ((256 : ℝ) : EReal) := by
  simp [Ideal.ofBits, Ideal.ieee, -EReal.coe_mul]; norm_num

/-- The word of 16. -/
theorem ofBits_16 : Ideal.ofBits .f32 1098907648#32 = ((16 : ℝ) : EReal) := by
  simp [Ideal.ofBits, Ideal.ieee, -EReal.coe_mul]; norm_num

/-- The word of the rotary base is a real number. -/
theorem ofBits_base : IsR (Ideal.ofBits .f32 1176256512#32) := by
  simp only [Ideal.ofBits, Ideal.ieee]
  norm_num [-EReal.coe_mul]
  exact isR_coe _

/-- The small addend of the normalisations is a positive real number. -/
theorem ofBits_eps : ∃ r : ℝ, 0 < r ∧ Ideal.ofBits .f32 897988541#32 = (r : EReal) := by
  refine ⟨_, ?_, by simp [Ideal.ofBits, Ideal.ieee, -EReal.coe_mul]; rfl⟩
  norm_num

/-- The factor of the scores is a positive real number. -/
theorem ofBits_scale : ∃ r : ℝ, 0 < r ∧ Ideal.ofBits .f32 1033096506#32 = (r : EReal) := by
  refine ⟨_, ?_, by simp [Ideal.ofBits, Ideal.ieee, -EReal.coe_mul]; rfl⟩
  norm_num

/-- The word of minus infinity. -/
theorem ofBits_neg_inf : Ideal.ofBits .f32 0xFF800000#32 = (⊥ : EReal) := by
  simp [Ideal.ofBits, Ideal.ieee]

/-- The word of infinity. -/
theorem ofBits_inf : Ideal.ofBits .f32 0x7F800000#32 = (⊤ : EReal) := by
  simp [Ideal.ofBits, Ideal.ieee]

/-- The factor of a normalisation of real numbers is a real number. -/
theorem isR_rms {n : ℕ} (f : Fin n → EReal) (hf : ∀ i, IsR (f i)) (d : ℝ) (hd : 0 < d) :
    IsR (Ideal.rsqrt (Ideal.div (∑ i, f i * f i) (d : EReal) + Ideal.ofBits .f32 897988541#32)) := by
  choose g hg using hf
  obtain ⟨e, he, h⟩ := ofBits_eps
  have hs : (∑ i, f i * f i) = ((∑ i, g i * g i : ℝ) : EReal) := by
    rw [← sum_coe]; exact Finset.sum_congr rfl fun i _ => by rw [hg i, EReal.coe_mul]
  rw [hs, h, div_coe _ d hd.ne', ← EReal.coe_mul, ← EReal.coe_add]
  refine isR_rsqrt _ ?_
  have : 0 ≤ ∑ i, g i * g i := Finset.sum_nonneg fun i _ => mul_self_nonneg _
  have := mul_nonneg this (inv_pos.2 hd).le
  linarith

/-- A real factor that is not negative distributes over a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A nonnegative real factor distributes over a sum of extended reals. -/
theorem add_mul_coe (x y : EReal) (r : ℝ) (hr : 0 ≤ r) : (x + y) * (r : EReal) = x * (r : EReal) + y * (r : EReal) :=
  EReal.right_distrib_of_nonneg_of_ne_top (by exact_mod_cast hr) (EReal.coe_ne_top r) x y

/-- The largest of a row of real numbers is a real number. -/
theorem isR_fold_max {n : ℕ} (hn : 0 < n) (s : Fin n → EReal) (hs : ∀ t, IsR (s t)) : IsR (Finset.univ.fold max (⊥ : EReal) s) := by
  rw [isR_iff]
  constructor
  · exact ((Finset.fold_max_lt _).2 ⟨bot_lt_top, fun t _ => lt_top_iff_ne_top.2 (isR_iff.1 (hs t)).1⟩).ne
  · intro h
    have h0 : s ⟨0, hn⟩ ≤ Finset.univ.fold max (⊥ : EReal) s := (Finset.le_fold_max _).2 (Or.inr ⟨⟨0, hn⟩, Finset.mem_univ _, le_rfl⟩)
    rw [h] at h0
    exact (isR_iff.1 (hs ⟨0, hn⟩)).2 (le_bot_iff.1 h0)

/-- Weighing by exponentials and dividing by their sum at the end weighs by the normalised exponentials. -/
theorem soft_eq {n : ℕ} (hn : 0 < n) (s v : Fin n → EReal) (hs : ∀ t, IsR (s t)) :
    Ideal.div (∑ t, Ideal.exp (s t - Finset.univ.fold max (⊥ : EReal) s) * v t)
      (∑ t, Ideal.exp (s t - Finset.univ.fold max (⊥ : EReal) s))
    = ∑ t, v t * Ideal.div (Ideal.exp (s t - Finset.univ.fold max (⊥ : EReal) s))
        (∑ t, Ideal.exp (s t - Finset.univ.fold max (⊥ : EReal) s)) := by
  obtain ⟨M, hM⟩ := isR_fold_max hn s hs
  rw [hM]
  choose g hg using hs
  have he : ∀ t, Ideal.exp (s t - (M : EReal)) = ((Real.exp (g t - M) : ℝ) : EReal) := fun t => by
    rw [hg t, ← EReal.coe_sub]; rfl
  simp only [he]
  rw [sum_coe]
  have hL : 0 < ∑ t : Fin n, Real.exp (g t - M) :=
    Finset.sum_pos (fun t _ => Real.exp_pos _) ⟨⟨0, hn⟩, Finset.mem_univ _⟩
  simp only [div_coe _ _ hL.ne']
  rw [sum_mul_coe _ _ _ (inv_pos.2 hL).le]
  refine Finset.sum_congr rfl fun t _ => ?_
  rw [mul_comm ((Real.exp (g t - M) : ℝ) : EReal) (v t), mul_assoc]

/-- A sum of 192 terms, the first 128 and the other 64. -/
theorem sum_192 (f : Fin 192 → EReal) : ∑ e, f e = ∑ e : Fin 128, f ⟨e.val, by omega⟩ + ∑ e : Fin 64, f ⟨128 + e.val, by omega⟩ :=
  Fin.sum_univ_add (a := 128) (b := 64) f

end Cert.Alg

end
-- ==== Proof.Fns.lean ====
/- What each call of the mixers computes, as a function of the arrays it reads. -/
module

public import proofs.«01_k».proof.Proof.Gen.KernelIdeal
public import Idealize.ShloMosaic.Lib.Pipeline.ValueKit
public import Idealize.ShloMosaic.Lib.Pointwise

@[expose] public section

set_option maxRecDepth 16384

noncomputable section

namespace Cert.KernelIdeal.Mix

open Idealize.ShloMosaic Idealize.ShloMosaic.TcCoe Idealize.SL.Sem
open Idealize.ShloMosaic.Pipeline (Dat)
open Cert.KernelIdeal Cert.KernelIdeal.Gen

/-- The input projection: the modulated input times the weights. -/
def projF (x : FVec Ideal S9x4096x2048 .f32) (sc sh : FVec Ideal S9x1x2048 .f32) (w : FVec Ideal S2048x4096 .bf16) :
    FVec Ideal S9x4096x4096 .f32 := fun j =>
  ∑ k : Fin 2048, (x (ix3 (j 0) (j 1) k) * (Ideal.ofBits .f32 0x3F800000#32 + sc (ix3 (j 0) 0 k)) + sh (ix3 (j 0) 0 k))
    * w (ix2 k (j 2))

/-- The score of query row `r` against key `t`. -/
def scoreF (q : FVec Ideal S9x8x4096x192 .bf16) (k : FVec Ideal S8x8x4352x192 .bf16) (b : Fin 8) (h : Fin 8) (r : Fin 4096)
    (t : Fin 4352) : EReal :=
  ∑ e : Fin 192, q (ix4 ⟨b.val + 1, by omega⟩ h r e) * k (ix4 b h t e)

/-- The attention of a row of scores over the values. -/
def softF (s : Fin 4352 → EReal) (v : Fin 4352 → EReal) : EReal :=
  Ideal.div (∑ t : Fin 4352, Ideal.exp (s t - Finset.univ.fold max (Ideal.ofBits .f32 0xFF800000#32) s) * v t)
    (∑ t : Fin 4352, Ideal.exp (s t - Finset.univ.fold max (Ideal.ofBits .f32 0xFF800000#32) s))

/-- The attention's result. -/
def attF (q : FVec Ideal S9x8x4096x192 .bf16) (k : FVec Ideal S8x8x4352x192 .bf16) (v : FVec Ideal S8x8x4352x128 .bf16) :
    FVec Ideal S8x4096x1024 .f32 := fun j =>
  softF (scoreF q k (j 0) ⟨(j 2).val / 128, by have := (j 2).isLt; simp at this; omega⟩ (j 1))
    (fun t => v (ix4 (j 0) ⟨(j 2).val / 128, by have := (j 2).isLt; simp at this; omega⟩ t ⟨(j 2).val % 128, by omega⟩))

/-- A centred convolution of width three over the rows of a column. -/
def conv3F (u : Fin 4096 → EReal) (w0 w1 w2 : EReal) (r : Fin 4096) : EReal :=
  (if r.val = 0 then Ideal.ofBits .f32 0x00000000#32 else u ⟨(r.val + 4096 - 1) % 4096, by omega⟩) * w0 + u r * w1
    + (if r.val = 4095 then Ideal.ofBits .f32 0x00000000#32 else u ⟨(r.val + 4096 - 4095) % 4096, by omega⟩) * w2

/-- The short gated convolution. -/
def scF (p : FVec Ideal S9x4096x4096 .f32) (w : FVec Ideal S3x512 .f32) : FVec Ideal S8x4096x512 .f32 := fun j =>
  p (ix3 ⟨(j 0).val + 1, by have := (j 0).isLt; simp at this; omega⟩ (j 1) ⟨1024 + (j 2).val, by have := (j 2).isLt; simp at this; omega⟩)
  * conv3F (fun r => p (ix3 ⟨(j 0).val + 1, by have := (j 0).isLt; simp at this; omega⟩ r ⟨1536 + (j 2).val, by have := (j 2).isLt; simp at this; omega⟩)
      * p (ix3 ⟨(j 0).val + 1, by have := (j 0).isLt; simp at this; omega⟩ r ⟨2048 + (j 2).val, by have := (j 2).isLt; simp at this; omega⟩))
    (w (ix2 0 (j 2))) (w (ix2 1 (j 2))) (w (ix2 2 (j 2))) (j 1)

/-- The convolution of the Hyena group's input. -/
def hyF (p : FVec Ideal S9x4096x4096 .f32) (w : FVec Ideal S3x1536 .f32) (b : FVec Ideal S1x1536 .f32) :
    FVec Ideal S8x4096x1536 .f32 := fun j =>
  conv3F (fun r => p (ix3 ⟨(j 0).val + 1, by have := (j 0).isLt; simp at this; omega⟩ r ⟨2560 + (j 2).val, by have := (j 2).isLt; simp at this; omega⟩))
    (w (ix2 0 (j 2))) (w (ix2 1 (j 2))) (w (ix2 2 (j 2))) (j 1) + b (ix2 0 (j 2))

/-- The query latent, normalised. -/
def qlatF (p : FVec Ideal S9x4096x4096 .f32) (g : FVec Ideal S1x512 .f32) (b : Fin 9) (r : Fin 4096) (e : Fin 512) : EReal :=
  p (ix3 b r ⟨e.val, by omega⟩) * Ideal.rsqrt (Ideal.div (∑ i : Fin 512, p (ix3 b r ⟨i.val, by omega⟩) * p (ix3 b r ⟨i.val, by omega⟩))
    (Ideal.ofBits .f32 0x44000000#32) + Ideal.ofBits .f32 0x358637BD#32) * g (ix2 0 e)

/-- The query latent times the weights. -/
def qaccF (p : FVec Ideal S9x4096x4096 .f32) (g : FVec Ideal S1x512 .f32) (w : FVec Ideal S512x2048 .bf16) (b : Fin 9) (r : Fin 4096)
    (n : Fin 2048) : EReal :=
  ∑ e : Fin 512, qlatF p g b r e * w (ix2 e n)

/-- The queries: their parts without position, then their rotated parts, scaled. -/
def qF (p : FVec Ideal S9x4096x4096 .f32) (g : FVec Ideal S1x512 .f32) (w : FVec Ideal S512x2048 .bf16)
    (C S : FVec Ideal S2x4096x512 .f32) : FVec Ideal S9x8x4096x192 .bf16 := fun j =>
  if h : (j 3).val < 128 then
    qaccF p g w (j 0) (j 2) ⟨(j 1).val * 128 + (j 3).val, by have := (j 1).isLt; simp at this; omega⟩ * Ideal.ofBits .f32 0x3D93CD3A#32
  else
    (qaccF p g w (j 0) (j 2) ⟨1024 + ((j 1).val * 64 + ((j 3).val - 128)), by have := (j 1).isLt; have := (j 3).isLt; simp at *; omega⟩
        * C (ix3 ⟨min (j 0).val 1, by omega⟩ (j 2) ⟨(j 1).val * 64 + ((j 3).val - 128), by have := (j 1).isLt; have := (j 3).isLt; simp at *; omega⟩)
      + qaccF p g w (j 0) (j 2) ⟨1536 + ((j 1).val * 64 + ((j 3).val - 128)), by have := (j 1).isLt; have := (j 3).isLt; simp at *; omega⟩
        * S (ix3 ⟨min (j 0).val 1, by omega⟩ (j 2) ⟨(j 1).val * 64 + ((j 3).val - 128), by have := (j 1).isLt; have := (j 3).isLt; simp at *; omega⟩))
      * Ideal.ofBits .f32 0x3D93CD3A#32

/-- The key-value latent times the weights. -/
def kvaccF (ckv : FVec Ideal S8x4352x256 .f32) (w : FVec Ideal S256x2048 .bf16) (b : Fin 8) (t : Fin 4352) (n : Fin 2048) : EReal :=
  ∑ e : Fin 256, ckv (ix3 b t e) * w (ix2 e n)

/-- The keys: their parts without position, then the shared rotated part. -/
def kF (ckv : FVec Ideal S8x4352x256 .f32) (kr : FVec Ideal S8x4352x64 .f32) (w : FVec Ideal S256x2048 .bf16) :
    FVec Ideal S8x8x4352x192 .bf16 := fun j =>
  if h : (j 3).val < 128 then
    kvaccF ckv w (j 0) (j 2) ⟨(j 1).val * 256 + (j 3).val, by have := (j 1).isLt; simp at this; omega⟩
  else kr (ix3 (j 0) (j 2) ⟨(j 3).val - 128, by have := (j 3).isLt; simp at *; omega⟩)

/-- The values. -/
def vF (ckv : FVec Ideal S8x4352x256 .f32) (w : FVec Ideal S256x2048 .bf16) : FVec Ideal S8x8x4352x128 .bf16 := fun j =>
  kvaccF ckv w (j 0) (j 2) ⟨(j 1).val * 256 + 128 + (j 3).val, by have := (j 1).isLt; have := (j 3).isLt; simp at *; omega⟩

end Cert.KernelIdeal.Mix

end
-- ==== Proof.HostA.lean ====
/- What the first host operations leave in the arrays the calls read. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostA

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The first call reads the prompts as its first item, then the samples. -/
theorem v76 (b : Fin 9) (r : Fin 4096) (k : Fin 2048) : (StableHlo.after (hostOps0 (F := Ideal)) X (Proc.devRef .tc main_v76) : FVec Ideal S9x4096x2048 .f32) (ix3 b r k)
    = (if h : b.val < 1 then (X (Proc.devRef .tc main_arg0) : FVec Ideal S16x256x2048 .f32) (ix3 ⟨r.val / 256, by omega⟩ ⟨r.val % 256, by omega⟩ k) else (X (Proc.devRef .tc main_arg1) : FVec Ideal S8x4096x2048 .f32) (ix3 ⟨b.val - 1, by omega⟩ r k) : EReal) := by
  after_reads_simp
  pointwise

/-- The scale of an item. -/
theorem v77 (b : Fin 9) (k : Fin 2048) : (StableHlo.after (hostOps0 (F := Ideal)) X (Proc.devRef .tc main_v77) : FVec Ideal S9x1x2048 .f32) (ix3 b 0 k)
    = ((X (Proc.devRef .tc main_arg2) : FVec Ideal S9x6x2048 .f32) (ix3 b 1 k) : EReal) := by
  after_reads_simp
  pointwise

/-- The shift of an item. -/
theorem v78 (b : Fin 9) (k : Fin 2048) : (StableHlo.after (hostOps0 (F := Ideal)) X (Proc.devRef .tc main_v78) : FVec Ideal S9x1x2048 .f32) (ix3 b 0 k)
    = ((X (Proc.devRef .tc main_arg2) : FVec Ideal S9x6x2048 .f32) (ix3 b 0 k) : EReal) := by
  after_reads_simp
  pointwise

/-- The weights' first columns are the first columns of the padded weights. -/
theorem v4_lo (k : Fin 2048) (n : Fin 832) : (StableHlo.after (hostOps0 (F := Ideal)) X (Proc.devRef .tc main_v4) : FVec Ideal S2048x4096 .bf16) (ix2 k ⟨n.val, by omega⟩)
    = ((X (Proc.devRef .tc main_arg3) : FVec Ideal S2048x3904 .f32) (ix2 k ⟨n.val, by omega⟩) : EReal) := by
  after_reads_simp
  pointwise
  try (after_reads_simp; pointwise)

/-- The weights' other columns come after the padding. -/
theorem v4_hi (k : Fin 2048) (n : Fin 3072) : (StableHlo.after (hostOps0 (F := Ideal)) X (Proc.devRef .tc main_v4) : FVec Ideal S2048x4096 .bf16) (ix2 k ⟨1024 + n.val, by omega⟩)
    = ((X (Proc.devRef .tc main_arg3) : FVec Ideal S2048x3904 .f32) (ix2 k ⟨832 + n.val, by omega⟩) : EReal) := by
  after_reads_simp
  pointwise
  try (after_reads_simp; pointwise)
  rw [dif_neg (by omega), dif_neg (by omega)]
  congr 2
  exact Fin.ext (by simp only []; omega)

/-- The cosine of a position along an axis. -/
theorem v27 (r : Fin 4096) (a : Fin 2) (p : Fin 16) : (StableHlo.after (hostOps0 (F := Ideal)) X (Proc.devRef .tc main_v27) : FVec Ideal S4096x2x16 .f32) (ix3 r a p)
    = (Ideal.cos (FloatOps.sitofp (F := Ideal) FTy.f32 (if h : a.val < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (p.val))) (Ideal.ofBits FTy.f32 1098907648#32))) : EReal) := by
  after_reads_simp
  pointwise
  try (after_reads_simp; pointwise)

/-- The sine of a position along an axis. -/
theorem v28 (r : Fin 4096) (a : Fin 2) (p : Fin 16) : (StableHlo.after (hostOps0 (F := Ideal)) X (Proc.devRef .tc main_v28) : FVec Ideal S4096x2x16 .f32) (ix3 r a p)
    = (Ideal.sin (FloatOps.sitofp (F := Ideal) FTy.f32 (if h : a.val < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (p.val))) (Ideal.ofBits FTy.f32 1098907648#32))) : EReal) := by
  after_reads_simp
  pointwise
  try (after_reads_simp; pointwise)

end Cert.KernelIdeal.HostA

end
-- ==== Proof.HostD.lean ====
/- What the later host operations leave in the arrays the calls read. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostD

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The query weights of the parts without position. -/
theorem v83 (r : Fin 512) (e : Fin 1024) : (StableHlo.after (hostOps1 (F := Ideal)) X (Proc.devRef .tc main_v83) : FVec Ideal S1x512x1024 .bf16) (ix3 0 r e)
    = ((X (Proc.devRef .tc main_arg6) : FVec Ideal S512x1536 .f32) (ix2 r ⟨e.val / 128 * 192 + e.val % 128, by omega⟩) : EReal) := by
  after_reads_simp
  pointwise
  try (after_reads_simp; pointwise)

/-- The query weights of the rotated parts. -/
theorem v84 (r : Fin 512) (a : Fin 8) (e : Fin 64) : (StableHlo.after (hostOps1 (F := Ideal)) X (Proc.devRef .tc main_v84) : FVec Ideal S1x512x8x64 .bf16) (ix4 0 r a e)
    = ((X (Proc.devRef .tc main_arg6) : FVec Ideal S512x1536 .f32) (ix2 r ⟨a.val * 192 + (128 + e.val), by omega⟩) : EReal) := by
  after_reads_simp
  pointwise
  try (after_reads_simp; pointwise)

/-- The query weights of the rotated parts, by axis and half. -/
theorem v85 (r : Fin 512) (a : Fin 8) (b c : Fin 2) (e : Fin 16) : (StableHlo.after (hostOps1 (F := Ideal)) X (Proc.devRef .tc main_v85) : FVec Ideal S1x512x8x2x2x16 .bf16) (ix6 0 r a b c e)
    = ((X (Proc.devRef .tc main_arg6) : FVec Ideal S512x1536 .f32) (ix2 r ⟨a.val * 192 + (128 + (b.val * 32 + c.val * 16 + e.val)), by omega⟩) : EReal) := by
  after_reads_simp
  pointwise
  try (after_reads_simp; pointwise)

/-- The halves of each axis swapped. -/
theorem v86 (r : Fin 512) (a : Fin 8) (b c : Fin 2) (e : Fin 16) : (StableHlo.after (hostOps1_1 (F := Ideal)) X (Proc.devRef .tc main_v86) : FVec Ideal S1x512x8x2x2x16 .bf16) (ix6 0 r a b c e)
    = ((X (Proc.devRef .tc main_v85) : FVec Ideal S1x512x8x2x2x16 .bf16) (ix6 0 r a b (Fin.rev c) e) : EReal) := by
  after_reads_simp
  change Host.reverse [4] (X (Proc.devRef .tc main_v85) : FVec Ideal S1x512x8x2x2x16 .bf16) (ix6 0 r a b c e) = _
  pointwise
  rfl

/-- The gain of the query latent. -/
theorem v92 (l : Fin 512) : (StableHlo.after (hostOps1_2 (F := Ideal)) X (Proc.devRef .tc main_v92) : FVec Ideal S1x512 .f32) (ix2 0 l)
    = ((X (Proc.devRef .tc main_arg4) : FVec Ideal S512 .f32) (ix1 l) : EReal) := by
  after_reads_simp
  pointwise

/-- The query weights of the second call: without position, rotated, rotated with the halves swapped. -/
theorem v91 (e : Fin 512) (l : Fin 2048) : (StableHlo.after (hostOps1_2 (F := Ideal)) X (Proc.devRef .tc main_v91) : FVec Ideal S512x2048 .bf16) (ix2 e l)
    = (if h : l.val < 1024 then (X (Proc.devRef .tc main_v83) : FVec Ideal S1x512x1024 .bf16) (ix3 0 e ⟨l.val, by omega⟩) else if h : l.val - 1024 < 512 then (X (Proc.devRef .tc main_v84) : FVec Ideal S1x512x8x64 .bf16) (ix4 0 e ⟨(l.val - 1024) / 64, by omega⟩ ⟨(l.val - 1024) % 64, by omega⟩) else (X (Proc.devRef .tc main_v86) : FVec Ideal S1x512x8x2x2x16 .bf16) (ix6 0 e ⟨(l.val - 1024 - 512) / 64, by omega⟩ ⟨(l.val - 1024 - 512) / 32 % 2, by omega⟩ ⟨(l.val - 1024 - 512) / 16 % 2, by omega⟩ ⟨(l.val - 1024 - 512) % 16, by omega⟩) : EReal) := by
  after_reads_simp
  pointwise
  try (after_reads_simp; pointwise)

/-- The new key-value latents of the prompts. -/
theorem v110 (p : FVec Ideal S9x4096x4096 .f32) (hp : (X (Proc.devRef .tc main_v79) : FVec Ideal S9x4096x4096 .f32) = p) (g : FVec Ideal S256 .f32) (hg : (X (Proc.devRef .tc main_arg5) : FVec Ideal S256 .f32) = g) (b : Fin 16) (r e : Fin 256) : (StableHlo.after (hostOps2 (F := Ideal)) X (Proc.devRef .tc main_v110) : FVec Ideal S16x256x256 .f32) (ix3 b r e)
    = (p (ix3 0 ⟨b.val * 256 + r.val, by omega⟩ ⟨512 + e.val, by omega⟩) * Ideal.rsqrt (Ideal.div (∑ x : Fin 256, p (ix3 0 ⟨b.val * 256 + r.val, by omega⟩ ⟨512 + x.val, by omega⟩) * p (ix3 0 ⟨b.val * 256 + r.val, by omega⟩ ⟨512 + x.val, by omega⟩)) (Ideal.ofBits FTy.f32 1132462080#32) + Ideal.ofBits FTy.f32 897988541#32) * g (ix1 e) : EReal) := by
  subst hp hg
  after_reads_simp
  pointwise

/-- The new rotated keys of the prompts. -/
theorem v111 (b : Fin 16) (r : Fin 256) (e : Fin 64) : (StableHlo.after (hostOps2 (F := Ideal)) X (Proc.devRef .tc main_v111) : FVec Ideal S16x256x64 .f32) (ix3 b r e)
    = ((X (Proc.devRef .tc main_v79) : FVec Ideal S9x4096x4096 .f32) (ix3 0 ⟨b.val * 256 + r.val, by omega⟩ ⟨768 + e.val, by omega⟩) : EReal) := by
  after_reads_simp
  pointwise

/-- The key-value weights. -/
theorem v152 (r : Fin 256) (e : Fin 2048) : (StableHlo.after (hostOps2 (F := Ideal)) X (Proc.devRef .tc main_v152) : FVec Ideal S256x2048 .bf16) (ix2 r e)
    = ((X (Proc.devRef .tc main_arg7) : FVec Ideal S256x2048 .f32) (ix2 r e) : EReal) := by
  after_reads_simp
  pointwise

/-- The key-value latents of a sample: cached, then its own. -/
theorem v150 (p : FVec Ideal S9x4096x4096 .f32) (hp : (X (Proc.devRef .tc main_v79) : FVec Ideal S9x4096x4096 .f32) = p) (g : FVec Ideal S256 .f32) (hg : (X (Proc.devRef .tc main_arg5) : FVec Ideal S256 .f32) = g) (b : Fin 8) (r : Fin 4352) (e : Fin 256) : (StableHlo.after (hostOps2 (F := Ideal)) X (Proc.devRef .tc main_v150) : FVec Ideal S8x4352x256 .f32) (ix3 b r e)
    = (if h : r.val < 256 then (X (Proc.devRef .tc main_arg11) : FVec Ideal S8x256x256 .f32) (ix3 b ⟨r.val, by omega⟩ e) else p (ix3 ⟨1 + b.val, by omega⟩ ⟨r.val - 256, by omega⟩ ⟨512 + e.val, by omega⟩) * Ideal.rsqrt (Ideal.div (∑ x : Fin 256, p (ix3 ⟨1 + b.val, by omega⟩ ⟨r.val - 256, by omega⟩ ⟨512 + x.val, by omega⟩) * p (ix3 ⟨1 + b.val, by omega⟩ ⟨r.val - 256, by omega⟩ ⟨512 + x.val, by omega⟩)) (Ideal.ofBits FTy.f32 1132462080#32) + Ideal.ofBits FTy.f32 897988541#32) * g (ix1 e) : EReal) := by
  subst hp hg
  after_reads_simp
  pointwise
  try (after_reads_simp; pointwise)

end Cert.KernelIdeal.HostD

end
-- ==== Proof.RefA.lean ====
/- The reference of the mixers, stage by stage, up to the queries, keys and values. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Stage

open Idealize.ShloMosaic Idealize.ShloMosaic.TcCoe Idealize.SL.Sem
open Idealize.ShloMosaic.Pipeline (Dat)
open Cert.ReferenceIdeal Cert.ReferenceIdeal.Gen Cert.ReferenceIdeal.Read

/-- The projection of the prompts. -/
theorem v12 (x0 : FVec Ideal S16x256x2048 .f32) (x2 : FVec Ideal S9x6x2048 .f32) (x3 : FVec Ideal S2048x3904 .f32) (b : Fin 16) (r : Fin 256) (n : Fin 3904) : (val_main_v12 (F := Ideal) x0 x2 x3 : FVec Ideal S16x256x3904 .f32) (ix3 b r n)
    = (∑ k : Fin 2048, (x0 (ix3 b r k) * (1 + x2 (ix3 0 1 k)) + x2 (ix3 0 0 k)) * x3 (ix2 k n) : EReal) := by
  unfold val_main_v12 val_main_v11 val_main_v10 val_main_v2 val_main_v1 val_main_v0 val_main_v9 val_main_v8 val_main_v7 val_main_v5 val_main_v4 val_main_v3 val_main_v6 val_main_cst
  pointwise

/-- The projection of the samples. -/
theorem v40 (x1 : FVec Ideal S8x4096x2048 .f32) (x2 : FVec Ideal S9x6x2048 .f32) (x3 : FVec Ideal S2048x3904 .f32) (b : Fin 8) (r : Fin 4096) (n : Fin 3904) : (val_main_v40 (F := Ideal) x1 x2 x3 : FVec Ideal S8x4096x3904 .f32) (ix3 b r n)
    = (∑ k : Fin 2048, (x1 (ix3 b r k) * (1 + x2 (ix3 ⟨1 + b.val, by omega⟩ 1 k)) + x2 (ix3 ⟨1 + b.val, by omega⟩ 0 k)) * x3 (ix2 k n) : EReal) := by
  unfold val_main_v40 val_main_v39 val_main_v38 val_main_v30 val_main_v29 val_main_v28 val_main_v37 val_main_v36 val_main_v35 val_main_v33 val_main_v32 val_main_v31 val_main_v34 val_main_cst_3
  pointwise

/-- The new key-value latents of the prompts. -/
theorem v26 (x0 : FVec Ideal S16x256x2048 .f32) (x2 : FVec Ideal S9x6x2048 .f32) (x3 : FVec Ideal S2048x3904 .f32) (x5 : FVec Ideal S256 .f32) (b : Fin 16) (r : Fin 256) (n : Fin 256) : (val_main_v26 (F := Ideal) x0 x2 x3 x5 : FVec Ideal S16x256x256 .f32) (ix3 b r n)
    = ((val_main_v12 (F := Ideal) x0 x2 x3 : FVec Ideal S16x256x3904 .f32) (ix3 b r ⟨512 + n.val, by omega⟩) * Ideal.rsqrt (Ideal.div (∑ x : Fin 256, (val_main_v12 (F := Ideal) x0 x2 x3 : FVec Ideal S16x256x3904 .f32) (ix3 b r ⟨512 + x.val, by omega⟩) * (val_main_v12 (F := Ideal) x0 x2 x3 : FVec Ideal S16x256x3904 .f32) (ix3 b r ⟨512 + x.val, by omega⟩)) (Ideal.ofBits FTy.f32 1132462080#32) + Ideal.ofBits FTy.f32 897988541#32) * x5 (ix1 n) : EReal) := by
  unfold val_main_v26 val_main_v25 val_main_v24 val_main_v23 val_main_v22 val_main_v21 val_main_v20 val_main_v19 val_main_cst_2 val_main_v18 val_main_v17 val_main_cst_1 val_main_v16 val_main_v15 val_main_cst_0 val_main_v14 val_main_v13
  generalize val_main_v12 (F := Ideal) x0 x2 x3 = y0
  pointwise

/-- The new rotated keys of the prompts. -/
theorem v27 (x0 : FVec Ideal S16x256x2048 .f32) (x2 : FVec Ideal S9x6x2048 .f32) (x3 : FVec Ideal S2048x3904 .f32) (b : Fin 16) (r : Fin 256) (n : Fin 64) : (val_main_v27 (F := Ideal) x0 x2 x3 : FVec Ideal S16x256x64 .f32) (ix3 b r n)
    = ((val_main_v12 (F := Ideal) x0 x2 x3 : FVec Ideal S16x256x3904 .f32) (ix3 b r ⟨768 + n.val, by omega⟩) : EReal) := by
  unfold val_main_v27
  generalize val_main_v12 (F := Ideal) x0 x2 x3 = y0
  pointwise

/-- The queries before their rotation. -/
theorem v59 (x1 : FVec Ideal S8x4096x2048 .f32) (x2 : FVec Ideal S9x6x2048 .f32) (x3 : FVec Ideal S2048x3904 .f32) (x4 : FVec Ideal S512 .f32) (x6 : FVec Ideal S512x1536 .f32) (b : Fin 8) (r : Fin 4096) (n : Fin 1536) : (val_main_v59 (F := Ideal) x1 x2 x3 x4 x6 : FVec Ideal S8x4096x1536 .f32) (ix3 b r n)
    = (∑ e : Fin 512, (val_main_v40 (F := Ideal) x1 x2 x3 : FVec Ideal S8x4096x3904 .f32) (ix3 b r ⟨e.val, by omega⟩) * Ideal.rsqrt (Ideal.div (∑ x : Fin 512, (val_main_v40 (F := Ideal) x1 x2 x3 : FVec Ideal S8x4096x3904 .f32) (ix3 b r ⟨x.val, by omega⟩) * (val_main_v40 (F := Ideal) x1 x2 x3 : FVec Ideal S8x4096x3904 .f32) (ix3 b r ⟨x.val, by omega⟩)) (Ideal.ofBits FTy.f32 1140850688#32) + Ideal.ofBits FTy.f32 897988541#32) * x4 (ix1 e) * x6 (ix2 e n) : EReal) := by
  unfold val_main_v59 val_main_v58 val_main_v57 val_main_v56 val_main_v55 val_main_v54 val_main_v53 val_main_v52 val_main_v51 val_main_cst_6 val_main_v50 val_main_v49 val_main_cst_5 val_main_v48 val_main_v47 val_main_cst_4 val_main_v46 val_main_v41
  generalize val_main_v40 (F := Ideal) x1 x2 x3 = y0
  pointwise

/-- The queries by head. -/
theorem v60 (x1 : FVec Ideal S8x4096x2048 .f32) (x2 : FVec Ideal S9x6x2048 .f32) (x3 : FVec Ideal S2048x3904 .f32) (x4 : FVec Ideal S512 .f32) (x6 : FVec Ideal S512x1536 .f32) (b : Fin 8) (r : Fin 4096) (h : Fin 8) (n : Fin 192) : (val_main_v60 (F := Ideal) x1 x2 x3 x4 x6 : FVec Ideal S8x4096x8x192 .f32) (ix4 b r h n)
    = ((val_main_v59 (F := Ideal) x1 x2 x3 x4 x6 : FVec Ideal S8x4096x1536 .f32) (ix3 b r ⟨h.val * 192 + n.val, by omega⟩) : EReal) := by
  unfold val_main_v60
  generalize val_main_v59 (F := Ideal) x1 x2 x3 x4 x6 = y0
  pointwise

/-- The cosine of a position along an axis. -/
theorem v98  (r : Fin 4096) (a : Fin 2) (p : Fin 16) : (val_main_v98 (F := Ideal) : FVec Ideal S4096x2x16 .f32) (ix3 r a p)
    = (Ideal.cos (FloatOps.sitofp (F := Ideal) FTy.f32 (if h : a.val < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (p.val))) (Ideal.ofBits FTy.f32 1098907648#32))) : EReal) := by
  unfold val_main_v98 val_main_v97 val_main_v96 val_main_v94 val_main_v92 val_main_v90 val_main_v89 val_main_cst_10 val_main_v88 val_main_v87 val_main_v91 val_main_cst_11 val_main_v95 val_main_v93 val_main_v86 val_main_v85 val_main_v84 val_main_v82 val_main_v81 val_main_v80 val_main_v79 val_main_v83 val_main_v78 val_main_v77 val_main_v76
  pointwise

/-- The sine of a position along an axis. -/
theorem v99  (r : Fin 4096) (a : Fin 2) (p : Fin 16) : (val_main_v99 (F := Ideal) : FVec Ideal S4096x2x16 .f32) (ix3 r a p)
    = (Ideal.sin (FloatOps.sitofp (F := Ideal) FTy.f32 (if h : a.val < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (p.val))) (Ideal.ofBits FTy.f32 1098907648#32))) : EReal) := by
  unfold val_main_v99 val_main_v97 val_main_v96 val_main_v94 val_main_v92 val_main_v90 val_main_v89 val_main_cst_10 val_main_v88 val_main_v87 val_main_v91 val_main_cst_11 val_main_v95 val_main_v93 val_main_v86 val_main_v85 val_main_v84 val_main_v82 val_main_v81 val_main_v80 val_main_v79 val_main_v83 val_main_v78 val_main_v77 val_main_v76
  pointwise

/-- The rotated parts of the queries. -/
theorem v120 (x1 : FVec Ideal S8x4096x2048 .f32) (x2 : FVec Ideal S9x6x2048 .f32) (x3 : FVec Ideal S2048x3904 .f32) (x4 : FVec Ideal S512 .f32) (x6 : FVec Ideal S512x1536 .f32) (b : Fin 8) (r : Fin 4096) (h : Fin 8) (n : Fin 64) : (val_main_v120 (F := Ideal) x1 x2 x3 x4 x6 : FVec Ideal S8x4096x8x64 .f32) (ix4 b r h n)
    = (if h1 : n.val / 16 % 2 < 1 then (val_main_v60 (F := Ideal) x1 x2 x3 x4 x6 : FVec Ideal S8x4096x8x192 .f32) (ix4 b r h ⟨128 + (n.val / 32 * 32 + n.val % 16), by omega⟩) * (val_main_v98 (F := Ideal) : FVec Ideal S4096x2x16 .f32) (ix3 r ⟨n.val / 32, by omega⟩ ⟨n.val % 16, by omega⟩) - (val_main_v60 (F := Ideal) x1 x2 x3 x4 x6 : FVec Ideal S8x4096x8x192 .f32) (ix4 b r h ⟨128 + (n.val / 32 * 32 + 16 + n.val % 16), by omega⟩) * (val_main_v99 (F := Ideal) : FVec Ideal S4096x2x16 .f32) (ix3 r ⟨n.val / 32, by omega⟩ ⟨n.val % 16, by omega⟩) else (val_main_v60 (F := Ideal) x1 x2 x3 x4 x6 : FVec Ideal S8x4096x8x192 .f32) (ix4 b r h ⟨128 + (n.val / 32 * 32 + 16 + n.val % 16), by omega⟩) * (val_main_v98 (F := Ideal) : FVec Ideal S4096x2x16 .f32) (ix3 r ⟨n.val / 32, by omega⟩ ⟨n.val % 16, by omega⟩) + (val_main_v60 (F := Ideal) x1 x2 x3 x4 x6 : FVec Ideal S8x4096x8x192 .f32) (ix4 b r h ⟨128 + (n.val / 32 * 32 + n.val % 16), by omega⟩) * (val_main_v99 (F := Ideal) : FVec Ideal S4096x2x16 .f32) (ix3 r ⟨n.val / 32, by omega⟩ ⟨n.val % 16, by omega⟩) : EReal) := by
  unfold val_main_v120 val_main_v119 val_main_v118 val_main_v116 val_main_v115 val_main_v114 val_main_v113 val_main_v112 val_main_v117 val_main_v111 val_main_v110 val_main_v104 val_main_v103 val_main_v109 val_main_v106 val_main_v108 val_main_v102 val_main_v101 val_main_v100 val_main_v62 val_main_v107 val_main_v105
  generalize val_main_v60 (F := Ideal) x1 x2 x3 x4 x6 = y0
  pointwise

/-- The rotated keys of the samples. -/
theorem v143 (x1 : FVec Ideal S8x4096x2048 .f32) (x2 : FVec Ideal S9x6x2048 .f32) (x3 : FVec Ideal S2048x3904 .f32) (b : Fin 8) (r : Fin 4096) (n : Fin 64) : (val_main_v143 (F := Ideal) x1 x2 x3 : FVec Ideal S8x4096x64 .f32) (ix3 b r n)
    = (if h1 : n.val / 16 % 2 < 1 then (val_main_v40 (F := Ideal) x1 x2 x3 : FVec Ideal S8x4096x3904 .f32) (ix3 b r ⟨768 + (n.val / 32 * 32 + n.val % 16), by omega⟩) * (val_main_v98 (F := Ideal) : FVec Ideal S4096x2x16 .f32) (ix3 r ⟨n.val / 32, by omega⟩ ⟨n.val % 16, by omega⟩) - (val_main_v40 (F := Ideal) x1 x2 x3 : FVec Ideal S8x4096x3904 .f32) (ix3 b r ⟨768 + (n.val / 32 * 32 + 16 + n.val % 16), by omega⟩) * (val_main_v99 (F := Ideal) : FVec Ideal S4096x2x16 .f32) (ix3 r ⟨n.val / 32, by omega⟩ ⟨n.val % 16, by omega⟩) else (val_main_v40 (F := Ideal) x1 x2 x3 : FVec Ideal S8x4096x3904 .f32) (ix3 b r ⟨768 + (n.val / 32 * 32 + 16 + n.val % 16), by omega⟩) * (val_main_v98 (F := Ideal) : FVec Ideal S4096x2x16 .f32) (ix3 r ⟨n.val / 32, by omega⟩ ⟨n.val % 16, by omega⟩) + (val_main_v40 (F := Ideal) x1 x2 x3 : FVec Ideal S8x4096x3904 .f32) (ix3 b r ⟨768 + (n.val / 32 * 32 + n.val % 16), by omega⟩) * (val_main_v99 (F := Ideal) : FVec Ideal S4096x2x16 .f32) (ix3 r ⟨n.val / 32, by omega⟩ ⟨n.val % 16, by omega⟩) : EReal) := by
  unfold val_main_v143 val_main_v142 val_main_v141 val_main_v140 val_main_v138 val_main_v137 val_main_v136 val_main_v135 val_main_v134 val_main_v139 val_main_v133 val_main_v132 val_main_v126 val_main_v125 val_main_v131 val_main_v128 val_main_v130 val_main_v124 val_main_v123 val_main_v122 val_main_v121 val_main_v43 val_main_v129 val_main_v127
  generalize val_main_v40 (F := Ideal) x1 x2 x3 = y0
  pointwise

/-- The key-value latents of a sample: cached, then its own. -/
theorem v144 (x1 : FVec Ideal S8x4096x2048 .f32) (x2 : FVec Ideal S9x6x2048 .f32) (x3 : FVec Ideal S2048x3904 .f32) (x5 : FVec Ideal S256 .f32) (x11 : FVec Ideal S8x256x256 .f32) (b : Fin 8) (r : Fin 4352) (n : Fin 256) : (val_main_v144 (F := Ideal) x1 x2 x3 x5 x11 : FVec Ideal S8x4352x256 .f32) (ix3 b r n)
    = (if h : r.val < 256 then x11 (ix3 b ⟨r.val, by omega⟩ n) else (val_main_v40 (F := Ideal) x1 x2 x3 : FVec Ideal S8x4096x3904 .f32) (ix3 b ⟨r.val - 256, by omega⟩ ⟨512 + n.val, by omega⟩) * Ideal.rsqrt (Ideal.div (∑ x : Fin 256, (val_main_v40 (F := Ideal) x1 x2 x3 : FVec Ideal S8x4096x3904 .f32) (ix3 b ⟨r.val - 256, by omega⟩ ⟨512 + x.val, by omega⟩) * (val_main_v40 (F := Ideal) x1 x2 x3 : FVec Ideal S8x4096x3904 .f32) (ix3 b ⟨r.val - 256, by omega⟩ ⟨512 + x.val, by omega⟩)) (Ideal.ofBits FTy.f32 1132462080#32) + Ideal.ofBits FTy.f32 897988541#32) * x5 (ix1 n) : EReal) := by
  unfold val_main_v144 val_main_v75 val_main_v74 val_main_v73 val_main_v72 val_main_v71 val_main_v70 val_main_v69 val_main_v68 val_main_cst_9 val_main_v67 val_main_v66 val_main_cst_8 val_main_v65 val_main_v64 val_main_cst_7 val_main_v63 val_main_v42
  generalize val_main_v40 (F := Ideal) x1 x2 x3 = y0
  pointwise

/-- The rotated keys of a sample: cached, then its own. -/
theorem v145 (x1 : FVec Ideal S8x4096x2048 .f32) (x2 : FVec Ideal S9x6x2048 .f32) (x3 : FVec Ideal S2048x3904 .f32) (x12 : FVec Ideal S8x256x64 .f32) (b : Fin 8) (r : Fin 4352) (n : Fin 64) : (val_main_v145 (F := Ideal) x1 x2 x3 x12 : FVec Ideal S8x4352x64 .f32) (ix3 b r n)
    = (if h : r.val < 256 then x12 (ix3 b ⟨r.val, by omega⟩ n) else (val_main_v143 (F := Ideal) x1 x2 x3 : FVec Ideal S8x4096x64 .f32) (ix3 b ⟨r.val - 256, by omega⟩ n) : EReal) := by
  unfold val_main_v145
  generalize val_main_v143 (F := Ideal) x1 x2 x3 = y0
  pointwise

/-- Keys without position, and values. -/
theorem v146 (x1 : FVec Ideal S8x4096x2048 .f32) (x2 : FVec Ideal S9x6x2048 .f32) (x3 : FVec Ideal S2048x3904 .f32) (x5 : FVec Ideal S256 .f32) (x7 : FVec Ideal S256x2048 .f32) (x11 : FVec Ideal S8x256x256 .f32) (b : Fin 8) (r : Fin 4352) (n : Fin 2048) : (val_main_v146 (F := Ideal) x1 x2 x3 x5 x7 x11 : FVec Ideal S8x4352x2048 .f32) (ix3 b r n)
    = (∑ e : Fin 256, (val_main_v144 (F := Ideal) x1 x2 x3 x5 x11 : FVec Ideal S8x4352x256 .f32) (ix3 b r e) * x7 (ix2 e n) : EReal) := by
  unfold val_main_v146
  generalize val_main_v144 (F := Ideal) x1 x2 x3 x5 x11 = y0
  pointwise

end Cert.ReferenceIdeal.Stage

end
-- ==== Proof.Body.lean ====
/- What each body computes at an index of its block. -/
module

public import proofs.«01_k».proof.Proof.Gen.KernelIdeal.Skeleton
public import proofs.«01_k».proof.Proof.Fns
public import Idealize.ShloMosaic.Lib.Pipeline.ValueKit
public import Idealize.ShloMosaic.Lib.Pointwise

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Mix

/-- A select on a row number is a case distinction on it. -/
theorem sel_row (r : Fin 4096) (n : ℕ) (hn : n < 4096) (x y : EReal) :
    Scalar.select (IntOp.cmpi CmpIPredicate.eq (BitVec.ofNat 32 r.val) (BitVec.ofNat 32 n)) x y = if r.val = n then x else y := by
  have hr := r.isLt
  by_cases h : r.val = n
  · subst h; simp [Scalar.select, IntOp.cmpi]
  · have hne : (BitVec.ofNat 32 r.val) ≠ (BitVec.ofNat 32 n) := by
      intro he
      have := congrArg BitVec.toNat he
      simp only [BitVec.toNat_ofNat] at this
      omega
    simp [Scalar.select, IntOp.cmpi, h, beq_eq_false_iff_ne.mpr hne]

/-- The input projection's body at a block index. -/
theorem k0_at (x : Vec Ideal S1x512x2048 .f32) (sc sh : Vec Ideal S1x1x2048 .f32) (w : Vec Ideal S2048x2048 .bf16) (r : Fin 512) (l : Fin 2048) :
    k0_pay1 (F := Ideal) x sc sh w (ix3 0 r l)
    = ∑ k : Fin 2048, (x (ix3 0 r k) * (Ideal.ofBits .f32 0x3F800000#32 + sc (ix3 0 0 k)) + sh (ix3 0 0 k)) * w (ix2 k l) := by
  pointwise [k0_pay1]

/-- The query latent of the block times the weights. -/
theorem k1_acc (p : Vec Ideal S1x512x512 .f32) (g : Vec Ideal S1x512 .f32) (w : Vec Ideal S512x2048 .bf16) (r : Fin 512) (n : Fin 2048) :
    k1_pay3 (F := Ideal) p g w (ix2 r n)
    = ∑ e : Fin 512, (p (ix3 0 r e) * Ideal.rsqrt (Ideal.div (∑ i : Fin 512, p (ix3 0 r i) * p (ix3 0 r i))
        (Ideal.ofBits .f32 0x44000000#32) + Ideal.ofBits .f32 0x358637BD#32) * g (ix2 0 e)) * w (ix2 e n) := by
  pointwise [k1_pay3]

/-- The rotated part of the block. -/
theorem k1_rot (p : Vec Ideal S1x512x512 .f32) (g : Vec Ideal S1x512 .f32) (w : Vec Ideal S512x2048 .bf16) (C S : Vec Ideal S1x512x512 .f32)
    (r l : Fin 512) :
    k1_pay4 (F := Ideal) p g w C S (ix2 r l)
    = k1_pay3 (F := Ideal) p g w (ix2 r ⟨1024 + l.val, by omega⟩) * C (ix3 0 r l)
      + k1_pay3 (F := Ideal) p g w (ix2 r ⟨1536 + l.val, by omega⟩) * S (ix3 0 r l) := by
  pointwise [k1_pay4]

/-- The key-value latent of the block times the weights. -/
theorem k2_acc (ckv : Vec Ideal S1x256x256 .f32) (w : Vec Ideal S256x2048 .bf16) (r : Fin 256) (n : Fin 2048) :
    k2_pay2 (F := Ideal) ckv w (ix2 r n) = ∑ e : Fin 256, ckv (ix3 0 r e) * w (ix2 e n) := by
  pointwise [k2_pay2]

/-- The rotated part of the keys in the block. -/
theorem k2_rot (kr : Vec Ideal S1x256x64 .f32) (r : Fin 256) (l : Fin 64) : k2_pay3 (F := Ideal) kr (ix2 r l) = kr (ix3 0 r l) := by
  pointwise [k2_pay3]

/-- The attention's body at a block index. -/
theorem k3_at (q : Vec Ideal S1x1x256x192 .bf16) (k : Vec Ideal S1x1x4352x192 .bf16) (v : Vec Ideal S1x1x4352x128 .bf16) (r : Fin 256) (l : Fin 128) :
    k3_pay1 (F := Ideal) q k v (ix3 0 r l)
    = softF (fun t => ∑ e : Fin 192, q (ix4 0 0 r e) * k (ix4 0 0 t e)) (fun t => v (ix4 0 0 t l)) := by
  pointwise [k3_pay1]
  rfl

set_option maxRecDepth 200000 in
/-- The gated convolution's body at a block index. -/
theorem k4_at (a b d : Vec Ideal S1x4096x128 .f32) (w : Vec Ideal S3x128 .f32) (r : Fin 4096) (l : Fin 128) :
    k4_pay1 (F := Ideal) a b d w (ix3 0 r l)
    = a (ix3 0 r l) * conv3F (fun r => b (ix3 0 r l) * d (ix3 0 r l)) (w (ix2 0 l)) (w (ix2 1 l)) (w (ix2 2 l)) r := by
  pointwise [k4_pay1]
  unfold conv3F
  rw [sel_row r 0 (by omega), sel_row r 4095 (by omega)]
  simp only [ite_mul, Ideal.ofBits_zero_f32, zero_mul]

set_option maxRecDepth 200000 in
/-- The convolution's body at a block index. -/
theorem k5_at (a : Vec Ideal S1x4096x128 .f32) (w : Vec Ideal S3x128 .f32) (b : Vec Ideal S1x128 .f32) (r : Fin 4096) (l : Fin 128) :
    k5_pay1 (F := Ideal) a w b (ix3 0 r l)
    = conv3F (fun r => a (ix3 0 r l)) (w (ix2 0 l)) (w (ix2 1 l)) (w (ix2 2 l)) r + b (ix2 0 l) := by
  pointwise [k5_pay1]
  unfold conv3F
  rw [sel_row r 0 (by omega), sel_row r 4095 (by omega)]
  simp only [ite_mul, Ideal.ofBits_zero_f32, zero_mul]

end Cert.KernelIdeal.Body

end
-- ==== Proof.Proj.lean ====
/- The input projection: what its result array holds. -/
module

public import proofs.«01_k».proof.Proof.Gen.KernelIdeal.Frame
public import proofs.«01_k».proof.Proof.Body
public import Idealize.ShloMosaic.Lib.Pipeline.ValueKit
public import Idealize.ShloMosaic.Lib.Pointwise

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg0.N, win0_0.index t = ![(grid0.coords t 0).val, (grid0.coords t 1).val, 0] ∧ win0_1.index t = ![(grid0.coords t 0).val, 0, 0] ∧ win0_2.index t = ![(grid0.coords t 0).val, 0, 0]
    ∧ win0_3.index t = ![0, (grid0.coords t 2).val] ∧ win0_4.index t = ![(grid0.coords t 0).val, (grid0.coords t 1).val, (grid0.coords t 2).val] :=
  (by decide +kernel : ∀ t : Fin grid0.N, _)

/-- The block of the input. -/
theorem rd0 (c : Dev nD) (t : Fin cfg0.N) (r : Fin 512) (k : Fin 2048) (b : Fin 9) (R : Fin 4096)
    (hb : b.val = (grid0.coords t 0).val) (hR : R.val = (grid0.coords t 1).val * 512 + r.val) :
    (iblk0 V c 0 t : Vec Ideal S1x512x2048 .f32) (ix3 0 r k) = (V c main_v76 : FVec Ideal S9x4096x2048 .f32) (ix3 b R k) := by
  blk_point [iblk0, idx t]

/-- The block of the scales. -/
theorem rd1 (c : Dev nD) (t : Fin cfg0.N) (k : Fin 2048) (b : Fin 9) (hb : b.val = (grid0.coords t 0).val) :
    (iblk0 V c 1 t : Vec Ideal S1x1x2048 .f32) (ix3 0 0 k) = (V c main_v77 : FVec Ideal S9x1x2048 .f32) (ix3 b 0 k) := by
  blk_point [iblk0, idx t]

/-- The block of the shifts. -/
theorem rd2 (c : Dev nD) (t : Fin cfg0.N) (k : Fin 2048) (b : Fin 9) (hb : b.val = (grid0.coords t 0).val) :
    (iblk0 V c 2 t : Vec Ideal S1x1x2048 .f32) (ix3 0 0 k) = (V c main_v78 : FVec Ideal S9x1x2048 .f32) (ix3 b 0 k) := by
  blk_point [iblk0, idx t]

/-- The block of the weights. -/
theorem rd3 (c : Dev nD) (t : Fin cfg0.N) (k l : Fin 2048) (L : Fin 4096) (hL : L.val = (grid0.coords t 2).val * 2048 + l.val) :
    (iblk0 V c 3 t : Vec Ideal S2048x2048 .bf16) (ix2 k l) = (V c main_v4 : FVec Ideal S2048x4096 .bf16) (ix2 k L) := by
  blk_point [iblk0, idx t]

/-- What the body stores at block row `r` and lane `l` of point `t`, at the array index `j` under it. -/
theorem core (c : Dev nD) (t : Fin cfg0.N) (r : Fin 512) (l : Fin 2048) (j : S9x4096x4096.Idx) (h0 : (j 0).val = (grid0.coords t 0).val)
    (h1 : (j 1).val = (grid0.coords t 1).val * 512 + r.val) (h2 : (j 2).val = (grid0.coords t 2).val * 2048 + l.val) :
    k0_pay1 (F := Ideal) (iblk0 V c 0 t) (iblk0 V c 1 t) (iblk0 V c 2 t) (iblk0 V c 3 t) (ix3 0 r l)
    = projF (V c main_v76) (V c main_v77) (V c main_v78) (V c main_v4) j := by
  refine (k0_at _ _ _ _ r l).trans ?_
  unfold projF
  refine Finset.sum_congr rfl fun k _ => ?_
  exact congrArg₂ (· * ·) (congrArg₂ (· + ·) (congrArg₂ (· * ·) (rd0 V c t r k (j 0) (j 1) h0 h1) (congrArg (_ + ·) (rd1 V c t k (j 0) h0)))
    (rd2 V c t k (j 0) h0)) (rd3 V c t k l (j 2) h2)

/-- The result array after the run. -/
theorem final (c : Dev nD) : (dat0 V c).arrAt 4 cfg0.N = projF (V c main_v76) (V c main_v77) (V c main_v78) (V c main_v4) := by
  refine (dat0 V c).arrAt_eq_of_covers 4 _ (by decide +kernel) fun t _ y => ?_
  blk_simp
  rw [after0_4]; frame_out
  obtain ⟨r, l, rfl⟩ : ∃ (r : Fin 512) (l : Fin 2048), y = (ix3 0 r l : S1x512x2048.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ ?_ ?_ <;> (blk_simp [idx t] <;> try omega)

end Cert.KernelIdeal.Proj

end
-- ==== Proof.LinkA.lean ====
/- The first call of the mixers against the reference. -/
module

public import proofs.«01_k».proof.Proof.Alg
public import proofs.«01_k».proof.Proof.Fns
public import proofs.«01_k».proof.Proof.HostA
public import proofs.«01_k».proof.Proof.HostD
public import proofs.«01_k».proof.Proof.RefA
public import proofs.«01_k».proof.Proof.Proj
public import Idealize.ShloMosaic.Lib.IdealHost

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable (m : (ℓ : Loc nD τ sig) → Buf (Elt Ideal) ℓ) (ρ : Dev nD → PrngReg) (c : Dev nD)

/-- The arguments at launch hold these arrays. -/
structure Args (x0 : FVec Ideal S16x256x2048 .f32) (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x8 : FVec Ideal S3x512 .f32) (x9 : FVec Ideal S3x1536 .f32) (x10 : FVec Ideal S1536 .f32) (x11 : FVec Ideal S8x256x256 .f32) (x12 : FVec Ideal S8x256x64 .f32) : Prop where
  a0 : (m ((c : Thread nD τ).loc main_arg0) : FVec Ideal S16x256x2048 .f32) = x0
  a1 : (m ((c : Thread nD τ).loc main_arg1) : FVec Ideal S8x4096x2048 .f32) = x1
  a2 : (m ((c : Thread nD τ).loc main_arg2) : FVec Ideal S9x6x2048 .f32) = x2
  a3 : (m ((c : Thread nD τ).loc main_arg3) : FVec Ideal S2048x3904 .f32) = x3
  a4 : (m ((c : Thread nD τ).loc main_arg4) : FVec Ideal S512 .f32) = x4
  a5 : (m ((c : Thread nD τ).loc main_arg5) : FVec Ideal S256 .f32) = x5
  a6 : (m ((c : Thread nD τ).loc main_arg6) : FVec Ideal S512x1536 .f32) = x6
  a7 : (m ((c : Thread nD τ).loc main_arg7) : FVec Ideal S256x2048 .f32) = x7
  a8 : (m ((c : Thread nD τ).loc main_arg8) : FVec Ideal S3x512 .f32) = x8
  a9 : (m ((c : Thread nD τ).loc main_arg9) : FVec Ideal S3x1536 .f32) = x9
  a10 : (m ((c : Thread nD τ).loc main_arg10) : FVec Ideal S1536 .f32) = x10
  a11 : (m ((c : Thread nD τ).loc main_arg11) : FVec Ideal S8x256x256 .f32) = x11
  a12 : (m ((c : Thread nD τ).loc main_arg12) : FVec Ideal S8x256x64 .f32) = x12

variable {m c}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

/-- The first call's result: the projection, of the prompts first and then of the samples. -/
def P (m : (ℓ : Loc nD τ sig) → Buf (Elt Ideal) ℓ) (ρ : Dev nD → PrngReg) (c : Dev nD) : FVec Ideal S9x4096x4096 .f32 :=
  W2 m ρ c (Proc.devRef .tc main_v79)

/-- It is the modulated projection of what the first host part prepared. -/
theorem P_eq : P m ρ c = projF (W1 m ρ c (Proc.devRef .tc main_v76)) (W1 m ρ c (Proc.devRef .tc main_v77))
    (W1 m ρ c (Proc.devRef .tc main_v78)) (W1 m ρ c (Proc.devRef .tc main_v4)) :=
  (W2_arr m ρ c 4).trans (Proj.final (V1 m ρ) c)

include hx in
/-- The weights of the first call are the weights, with padding between two groups of columns. -/
theorem w_at (k : Fin 2048) (N : Fin 4096) (M : Fin 3904) (hNM : (N.val < 832 ∧ M.val = N.val) ∨ (M.val + 192 = N.val ∧ 1024 ≤ N.val)) :
    (W1 m ρ c (Proc.devRef .tc main_v4) : FVec Ideal S2048x4096 .bf16) (ix2 k N) = (x3 (ix2 k M) : EReal) := by
  rcases hNM with ⟨h1, h2⟩ | ⟨h1, h2⟩
  · have e := HostA.v4_lo (W0 m ρ c) k ⟨N.val, h1⟩
    refine e.trans ?_
    rw [← hx.a3]
    show _ = (m ((c : Thread nD τ).loc main_arg3) : FVec Ideal S2048x3904 .f32) _
    exact congrArg (fun M => (m ((c : Thread nD τ).loc main_arg3) : FVec Ideal S2048x3904 .f32) (ix2 k M)) (Fin.ext h2.symm)
  · have hN : N = ⟨1024 + (N.val - 1024), by omega⟩ := Fin.ext (by simp only []; omega)
    have e := HostA.v4_hi (W0 m ρ c) k ⟨N.val - 1024, by omega⟩
    rw [hN]
    refine e.trans ?_
    rw [← hx.a3]
    exact congrArg (fun M => (m ((c : Thread nD τ).loc main_arg3) : FVec Ideal S2048x3904 .f32) (ix2 k M)) (Fin.ext (by simp only []; omega))

include hx in
/-- The projection of a sample is the reference's. -/
theorem p_at (B : Fin 9) (b : Fin 8) (hB : B.val = b.val + 1) (r : Fin 4096) (N : Fin 4096) (M : Fin 3904)
    (hNM : (N.val < 832 ∧ M.val = N.val) ∨ (M.val + 192 = N.val ∧ 1024 ≤ N.val)) :
    P m ρ c (ix3 B r N) = (val_main_v40 (F := Ideal) x1 x2 x3 : FVec Ideal Cert.ReferenceIdeal.S8x4096x3904 .f32) (ix3 b r M) := by
  rw [P_eq, Cert.ReferenceIdeal.Stage.v40]
  show (∑ k : Fin 2048, _ : EReal) = _
  refine Finset.sum_congr rfl fun k _ => ?_
  have e1 : (W1 m ρ c (Proc.devRef .tc main_v76) : FVec Ideal S9x4096x2048 .f32) (ix3 B r k) = (x1 (ix3 b r k) : EReal) := by
    refine (HostA.v76 (W0 m ρ c) B r k).trans ?_
    rw [dif_neg (by omega), ← hx.a1]
    exact congrArg (fun b => (m ((c : Thread nD τ).loc main_arg1) : FVec Ideal S8x4096x2048 .f32) (ix3 b r k)) (Fin.ext (by simp only []; omega))
  have hb : B = ⟨1 + b.val, by omega⟩ := Fin.ext (by simp only []; omega)
  have e2 : (W1 m ρ c (Proc.devRef .tc main_v77) : FVec Ideal S9x1x2048 .f32) (ix3 B 0 k) = (x2 (ix3 ⟨1 + b.val, by omega⟩ 1 k) : EReal) := by
    refine (HostA.v77 (W0 m ρ c) B k).trans ?_
    rw [← hx.a2]; exact congrArg (fun B => (m ((c : Thread nD τ).loc main_arg2) : FVec Ideal S9x6x2048 .f32) (ix3 B 1 k)) hb
  have e3 : (W1 m ρ c (Proc.devRef .tc main_v78) : FVec Ideal S9x1x2048 .f32) (ix3 B 0 k) = (x2 (ix3 ⟨1 + b.val, by omega⟩ 0 k) : EReal) := by
    refine (HostA.v78 (W0 m ρ c) B k).trans ?_
    rw [← hx.a2]; exact congrArg (fun B => (m ((c : Thread nD τ).loc main_arg2) : FVec Ideal S9x6x2048 .f32) (ix3 B 0 k)) hb
  have e4 := w_at ρ hx k N M hNM
  exact congrArg₂ (· * ·) (congrArg₂ (· + ·) (congrArg₂ (· * ·) e1 (congrArg₂ (· + ·) Ideal.ofBits_one_f32 e2)) e3) e4

include hx in
/-- The projection of the prompts is the reference's. -/
theorem pc_at (b : Fin 16) (r : Fin 256) (R : Fin 4096) (hR : R.val = b.val * 256 + r.val) (N : Fin 4096) (M : Fin 3904)
    (hNM : (N.val < 832 ∧ M.val = N.val) ∨ (M.val + 192 = N.val ∧ 1024 ≤ N.val)) :
    P m ρ c (ix3 0 R N) = (val_main_v12 (F := Ideal) x0 x2 x3 : FVec Ideal Cert.ReferenceIdeal.S16x256x3904 .f32) (ix3 b r M) := by
  rw [P_eq, Cert.ReferenceIdeal.Stage.v12]
  show (∑ k : Fin 2048, _ : EReal) = _
  refine Finset.sum_congr rfl fun k _ => ?_
  have e1 : (W1 m ρ c (Proc.devRef .tc main_v76) : FVec Ideal S9x4096x2048 .f32) (ix3 0 R k) = (x0 (ix3 b r k) : EReal) := by
    refine (HostA.v76 (W0 m ρ c) 0 R k).trans ?_
    rw [dif_pos (by decide), ← hx.a0]
    exact congrArg₂ (fun b r => (m ((c : Thread nD τ).loc main_arg0) : FVec Ideal S16x256x2048 .f32) (ix3 b r k))
      (Fin.ext (by simp only []; omega)) (Fin.ext (by simp only []; omega))
  have e2 : (W1 m ρ c (Proc.devRef .tc main_v77) : FVec Ideal S9x1x2048 .f32) (ix3 0 0 k) = (x2 (ix3 0 1 k) : EReal) := by
    refine (HostA.v77 (W0 m ρ c) 0 k).trans ?_
    rw [← hx.a2]
  have e3 : (W1 m ρ c (Proc.devRef .tc main_v78) : FVec Ideal S9x1x2048 .f32) (ix3 0 0 k) = (x2 (ix3 0 0 k) : EReal) := by
    refine (HostA.v78 (W0 m ρ c) 0 k).trans ?_
    rw [← hx.a2]
  have e4 := w_at ρ hx k N M hNM
  exact congrArg₂ (· * ·) (congrArg₂ (· + ·) (congrArg₂ (· * ·) e1 (congrArg₂ (· + ·) Ideal.ofBits_one_f32 e2)) e3) e4

end Cert.Link

end
-- ==== Proof.Carry.lean ====
/- Arrays no later operation writes keep their contents. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- Array 79 of the host code is not written between steps 2 and 5. -/
theorem v79_5 : (W5 m ρ c (Proc.devRef .tc main_v79) : FVec Ideal S9x4096x4096 .f32) = W2 m ρ c (Proc.devRef .tc main_v79) :=
  (W5_of m ρ c main_v79 (by decide)).trans ((W4_of m ρ c main_v79 (by decide)).trans ((W3_of m ρ c main_v79 (by decide))))

/-- Array 79 of the host code is not written between steps 2 and 6. -/
theorem v79_6 : (W6 m ρ c (Proc.devRef .tc main_v79) : FVec Ideal S9x4096x4096 .f32) = W2 m ρ c (Proc.devRef .tc main_v79) :=
  (W6_of m ρ c main_v79 (by decide)).trans ((W5_of m ρ c main_v79 (by decide)).trans ((W4_of m ρ c main_v79 (by decide)).trans ((W3_of m ρ c main_v79 (by decide)))))

/-- Array 79 of the host code is not written between steps 2 and 9. -/
theorem v79_9 : (W9 m ρ c (Proc.devRef .tc main_v79) : FVec Ideal S9x4096x4096 .f32) = W2 m ρ c (Proc.devRef .tc main_v79) :=
  (W9_of m ρ c main_v79 (by decide)).trans ((W8_of m ρ c main_v79 (by decide)).trans ((W7_of m ρ c main_v79 (by decide)).trans ((W6_of m ρ c main_v79 (by decide)).trans ((W5_of m ρ c main_v79 (by decide)).trans ((W4_of m ρ c main_v79 (by decide)).trans ((W3_of m ρ c main_v79 (by decide))))))))

/-- Array 79 of the host code is not written between steps 2 and 11. -/
theorem v79_11 : (W11 m ρ c (Proc.devRef .tc main_v79) : FVec Ideal S9x4096x4096 .f32) = W2 m ρ c (Proc.devRef .tc main_v79) :=
  (W11_of m ρ c main_v79 (by decide)).trans ((W10_of m ρ c main_v79 (by decide)).trans ((W9_of m ρ c main_v79 (by decide)).trans ((W8_of m ρ c main_v79 (by decide)).trans ((W7_of m ρ c main_v79 (by decide)).trans ((W6_of m ρ c main_v79 (by decide)).trans ((W5_of m ρ c main_v79 (by decide)).trans ((W4_of m ρ c main_v79 (by decide)).trans ((W3_of m ρ c main_v79 (by decide))))))))))

/-- Array 70 of the host code is not written between steps 1 and 5. -/
theorem v70_5 : (W5 m ρ c (Proc.devRef .tc main_v70) : FVec Ideal S2x4096x512 .f32) = W1 m ρ c (Proc.devRef .tc main_v70) :=
  (W5_of m ρ c main_v70 (by decide)).trans ((W4_of m ρ c main_v70 (by decide)).trans ((W3_of m ρ c main_v70 (by decide)).trans ((W2_of m ρ c main_v70 (by decide)))))

/-- Array 74 of the host code is not written between steps 1 and 5. -/
theorem v74_5 : (W5 m ρ c (Proc.devRef .tc main_v74) : FVec Ideal S2x4096x512 .f32) = W1 m ρ c (Proc.devRef .tc main_v74) :=
  (W5_of m ρ c main_v74 (by decide)).trans ((W4_of m ρ c main_v74 (by decide)).trans ((W3_of m ρ c main_v74 (by decide)).trans ((W2_of m ρ c main_v74 (by decide)))))

/-- Array 27 of the host code is not written between steps 1 and 6. -/
theorem v27_6 : (W6 m ρ c (Proc.devRef .tc main_v27) : FVec Ideal S4096x2x16 .f32) = W1 m ρ c (Proc.devRef .tc main_v27) :=
  (W6_of m ρ c main_v27 (by decide)).trans ((W5_of m ρ c main_v27 (by decide)).trans ((W4_of m ρ c main_v27 (by decide)).trans ((W3_of m ρ c main_v27 (by decide)).trans ((W2_of m ρ c main_v27 (by decide))))))

/-- Array 28 of the host code is not written between steps 1 and 6. -/
theorem v28_6 : (W6 m ρ c (Proc.devRef .tc main_v28) : FVec Ideal S4096x2x16 .f32) = W1 m ρ c (Proc.devRef .tc main_v28) :=
  (W6_of m ρ c main_v28 (by decide)).trans ((W5_of m ρ c main_v28 (by decide)).trans ((W4_of m ρ c main_v28 (by decide)).trans ((W3_of m ρ c main_v28 (by decide)).trans ((W2_of m ρ c main_v28 (by decide))))))

/-- Array 83 of the host code is not written between steps 3 and 4. -/
theorem v83_4 : (W4 m ρ c (Proc.devRef .tc main_v83) : FVec Ideal S1x512x1024 .bf16) = W3 m ρ c (Proc.devRef .tc main_v83) :=
  (W4_of m ρ c main_v83 (by decide))

/-- Array 84 of the host code is not written between steps 3 and 4. -/
theorem v84_4 : (W4 m ρ c (Proc.devRef .tc main_v84) : FVec Ideal S1x512x8x64 .bf16) = W3 m ρ c (Proc.devRef .tc main_v84) :=
  (W4_of m ρ c main_v84 (by decide))

/-- Array 93 of the host code is not written between steps 6 and 8. -/
theorem v93_8 : (W8 m ρ c (Proc.devRef .tc main_v93) : FVec Ideal S9x8x4096x192 .bf16) = W6 m ρ c (Proc.devRef .tc main_v93) :=
  (W8_of m ρ c main_v93 (by decide)).trans ((W7_of m ρ c main_v93 (by decide)))

/-- Array 110 of the host code is not written between steps 7 and 12. -/
theorem v110_12 : (W12 m ρ c (Proc.devRef .tc main_v110) : FVec Ideal S16x256x256 .f32) = W7 m ρ c (Proc.devRef .tc main_v110) :=
  (W12_of m ρ c main_v110 (by decide)).trans ((W11_of m ρ c main_v110 (by decide)).trans ((W10_of m ρ c main_v110 (by decide)).trans ((W9_of m ρ c main_v110 (by decide)).trans ((W8_of m ρ c main_v110 (by decide))))))

/-- Array 111 of the host code is not written between steps 7 and 12. -/
theorem v111_12 : (W12 m ρ c (Proc.devRef .tc main_v111) : FVec Ideal S16x256x64 .f32) = W7 m ρ c (Proc.devRef .tc main_v111) :=
  (W12_of m ρ c main_v111 (by decide)).trans ((W11_of m ρ c main_v111 (by decide)).trans ((W10_of m ρ c main_v111 (by decide)).trans ((W9_of m ρ c main_v111 (by decide)).trans ((W8_of m ρ c main_v111 (by decide))))))

/-- Array 154 of the host code is not written between steps 9 and 12. -/
theorem v154_12 : (W12 m ρ c (Proc.devRef .tc main_v154) : FVec Ideal S8x4096x1024 .f32) = W9 m ρ c (Proc.devRef .tc main_v154) :=
  (W12_of m ρ c main_v154 (by decide)).trans ((W11_of m ρ c main_v154 (by decide)).trans ((W10_of m ρ c main_v154 (by decide))))

/-- Array 155 of the host code is not written between steps 10 and 12. -/
theorem v155_12 : (W12 m ρ c (Proc.devRef .tc main_v155) : FVec Ideal S8x4096x512 .f32) = W10 m ρ c (Proc.devRef .tc main_v155) :=
  (W12_of m ρ c main_v155 (by decide)).trans ((W11_of m ρ c main_v155 (by decide)))

end Cert.Link

end
-- ==== Proof.HostE.lean ====
/- The rotated keys, and the bias of the last call. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostE

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The rotated keys of a sample: cached, then its own. -/
theorem v151 (p : FVec Ideal S9x4096x4096 .f32) (hp : (X (Proc.devRef .tc main_v79) : FVec Ideal S9x4096x4096 .f32) = p) (C S : FVec Ideal S4096x2x16 .f32) (hC : (X (Proc.devRef .tc main_v27) : FVec Ideal S4096x2x16 .f32) = C) (hS : (X (Proc.devRef .tc main_v28) : FVec Ideal S4096x2x16 .f32) = S) (b : Fin 8) (r : Fin 4352) (e : Fin 64) : (StableHlo.after (hostOps2 (F := Ideal)) X (Proc.devRef .tc main_v151) : FVec Ideal S8x4352x64 .f32) (ix3 b r e)
    = (if h : r.val < 256 then (X (Proc.devRef .tc main_arg12) : FVec Ideal S8x256x64 .f32) (ix3 b ⟨r.val, by omega⟩ e) else if h1 : e.val / 16 % 2 < 1 then p (ix3 ⟨1 + b.val, by omega⟩ ⟨r.val - 256, by omega⟩ ⟨768 + (e.val / 32 * 32 + e.val % 16), by omega⟩) * C (ix3 ⟨r.val - 256, by omega⟩ ⟨e.val / 32, by omega⟩ ⟨e.val % 16, by omega⟩) - p (ix3 ⟨1 + b.val, by omega⟩ ⟨r.val - 256, by omega⟩ ⟨768 + (e.val / 32 * 32 + 16 + e.val % 16), by omega⟩) * S (ix3 ⟨r.val - 256, by omega⟩ ⟨e.val / 32, by omega⟩ ⟨e.val % 16, by omega⟩) else p (ix3 ⟨1 + b.val, by omega⟩ ⟨r.val - 256, by omega⟩ ⟨768 + (e.val / 32 * 32 + 16 + e.val % 16), by omega⟩) * C (ix3 ⟨r.val - 256, by omega⟩ ⟨e.val / 32, by omega⟩ ⟨e.val % 16, by omega⟩) + p (ix3 ⟨1 + b.val, by omega⟩ ⟨r.val - 256, by omega⟩ ⟨768 + (e.val / 32 * 32 + e.val % 16), by omega⟩) * S (ix3 ⟨r.val - 256, by omega⟩ ⟨e.val / 32, by omega⟩ ⟨e.val % 16, by omega⟩) : EReal) := by
  subst hp hC hS
  after_reads_simp
  pointwise
  try (after_reads_simp; pointwise)
  try (after_reads_simp; pointwise)
  try (after_reads_simp; pointwise)

/-- The bias of the last call. -/
theorem v156 (e : Fin 1536) : (StableHlo.after (hostOps5 (F := Ideal)) X (Proc.devRef .tc main_v156) : FVec Ideal S1x1536 .f32) (ix2 0 e)
    = ((X (Proc.devRef .tc main_arg10) : FVec Ideal S1536 .f32) (ix1 e) : EReal) := by
  after_reads_simp
  pointwise

end Cert.KernelIdeal.HostE

end
-- ==== Proof.RefC.lean ====
/- The reference of the mixers: its two convolutions. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Stage

open Idealize.ShloMosaic Idealize.ShloMosaic.TcCoe Idealize.SL.Sem
open Idealize.ShloMosaic.Pipeline (Dat)
open Cert.ReferenceIdeal Cert.ReferenceIdeal.Gen Cert.ReferenceIdeal.Read

/-- The short gated convolution. -/
theorem v195 (x1 : FVec Ideal S8x4096x2048 .f32) (x2 : FVec Ideal S9x6x2048 .f32) (x3 : FVec Ideal S2048x3904 .f32) (x8 : FVec Ideal S3x512 .f32) (b : Fin 8) (r : Fin 4096) (n : Fin 512) : (val_main_v195 (F := Ideal) x1 x2 x3 x8 : FVec Ideal S8x4096x512 .f32) (ix3 b r n)
    = ((val_main_v40 (F := Ideal) x1 x2 x3 : FVec Ideal S8x4096x3904 .f32) (ix3 b r ⟨832 + n.val, by omega⟩) * ((if h : 1 ≤ r.val ∧ r.val - 1 < 4096 then (val_main_v40 (F := Ideal) x1 x2 x3 : FVec Ideal S8x4096x3904 .f32) (ix3 b ⟨r.val - 1, by omega⟩ ⟨832 + (512 + n.val), by omega⟩) * (val_main_v40 (F := Ideal) x1 x2 x3 : FVec Ideal S8x4096x3904 .f32) (ix3 b ⟨r.val - 1, by omega⟩ ⟨832 + (1024 + n.val), by omega⟩) else FloatOps.sitofp (F := Ideal) FTy.f32 0#32) * x8 (ix2 0 n) + (val_main_v40 (F := Ideal) x1 x2 x3 : FVec Ideal S8x4096x3904 .f32) (ix3 b r ⟨832 + (512 + n.val), by omega⟩) * (val_main_v40 (F := Ideal) x1 x2 x3 : FVec Ideal S8x4096x3904 .f32) (ix3 b r ⟨832 + (1024 + n.val), by omega⟩) * x8 (ix2 1 n) + (if h : 1 ≤ 2 + r.val ∧ 2 + r.val - 1 < 4096 then (val_main_v40 (F := Ideal) x1 x2 x3 : FVec Ideal S8x4096x3904 .f32) (ix3 b ⟨2 + r.val - 1, by omega⟩ ⟨832 + (512 + n.val), by omega⟩) * (val_main_v40 (F := Ideal) x1 x2 x3 : FVec Ideal S8x4096x3904 .f32) (ix3 b ⟨2 + r.val - 1, by omega⟩ ⟨832 + (1024 + n.val), by omega⟩) else FloatOps.sitofp (F := Ideal) FTy.f32 0#32) * x8 (ix2 2 n)) : EReal) := by
  unfold val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_call0_v0 val_main_c val_main_v173 val_main_v172 val_main_v171 val_main_v170 val_main_v44
  generalize val_main_v40 (F := Ideal) x1 x2 x3 = y0
  pointwise

/-- The convolution of the Hyena group. -/
theorem v219 (x1 : FVec Ideal S8x4096x2048 .f32) (x2 : FVec Ideal S9x6x2048 .f32) (x3 : FVec Ideal S2048x3904 .f32) (x9 : FVec Ideal S3x1536 .f32) (x10 : FVec Ideal S1536 .f32) (b : Fin 8) (r : Fin 4096) (n : Fin 1536) : (val_main_v219 (F := Ideal) x1 x2 x3 x9 x10 : FVec Ideal S8x4096x1536 .f32) (ix3 b r n)
    = ((if h : 1 ≤ r.val ∧ r.val - 1 < 4096 then (val_main_v40 (F := Ideal) x1 x2 x3 : FVec Ideal S8x4096x3904 .f32) (ix3 b ⟨r.val - 1, by omega⟩ ⟨2368 + n.val, by omega⟩) else FloatOps.sitofp (F := Ideal) FTy.f32 0#32) * x9 (ix2 0 n) + (val_main_v40 (F := Ideal) x1 x2 x3 : FVec Ideal S8x4096x3904 .f32) (ix3 b r ⟨2368 + n.val, by omega⟩) * x9 (ix2 1 n) + (if h : 1 ≤ 2 + r.val ∧ 2 + r.val - 1 < 4096 then (val_main_v40 (F := Ideal) x1 x2 x3 : FVec Ideal S8x4096x3904 .f32) (ix3 b ⟨2 + r.val - 1, by omega⟩ ⟨2368 + n.val, by omega⟩) else FloatOps.sitofp (F := Ideal) FTy.f32 0#32) * x9 (ix2 2 n) + x10 (ix1 n) : EReal) := by
  unfold val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_call1_v0 val_main_c_16 val_main_v45
  generalize val_main_v40 (F := Ideal) x1 x2 x3 = y0
  pointwise

end Cert.ReferenceIdeal.Stage

end
-- ==== Proof.Gate.lean ====
/- The gated convolution: what its result array holds. -/
module

public import proofs.«01_k».proof.Proof.Gen.KernelIdeal.Frame
public import proofs.«01_k».proof.Proof.Body
public import Idealize.ShloMosaic.Lib.Pipeline.ValueKit
public import Idealize.ShloMosaic.Lib.Pointwise

@[expose] public section

set_option maxRecDepth 16384

noncomputable section

namespace Cert.KernelIdeal.Gate

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg4.N, win4_0.index t = ![(grid4.coords t 0).val + 1, 0, 8 + (grid4.coords t 1).val] ∧ win4_1.index t = ![(grid4.coords t 0).val + 1, 0, 12 + (grid4.coords t 1).val]
    ∧ win4_2.index t = ![(grid4.coords t 0).val + 1, 0, 16 + (grid4.coords t 1).val] ∧ win4_3.index t = ![0, (grid4.coords t 1).val] ∧ win4_4.index t = ![(grid4.coords t 0).val, 0, (grid4.coords t 1).val] :=
  (by decide +kernel : ∀ t : Fin grid4.N, _)

/-- The block of columns that window 0 takes. -/
theorem rd0 (c : Dev nD) (t : Fin cfg4.N) (r : Fin 4096) (l : Fin 128) (b : Fin 9) (L : Fin 4096)
    (hb : b.val = (grid4.coords t 0).val + 1) (hL : L.val = (8 + (grid4.coords t 1).val) * 128 + l.val) :
    (iblk4 V c 0 t : Vec Ideal S1x4096x128 .f32) (ix3 0 r l) = (V c main_v79 : FVec Ideal S9x4096x4096 .f32) (ix3 b r L) := by
  blk_point [iblk4, idx t]

/-- The block of columns that window 1 takes. -/
theorem rd1 (c : Dev nD) (t : Fin cfg4.N) (r : Fin 4096) (l : Fin 128) (b : Fin 9) (L : Fin 4096)
    (hb : b.val = (grid4.coords t 0).val + 1) (hL : L.val = (12 + (grid4.coords t 1).val) * 128 + l.val) :
    (iblk4 V c 1 t : Vec Ideal S1x4096x128 .f32) (ix3 0 r l) = (V c main_v79 : FVec Ideal S9x4096x4096 .f32) (ix3 b r L) := by
  blk_point [iblk4, idx t]

/-- The block of columns that window 2 takes. -/
theorem rd2 (c : Dev nD) (t : Fin cfg4.N) (r : Fin 4096) (l : Fin 128) (b : Fin 9) (L : Fin 4096)
    (hb : b.val = (grid4.coords t 0).val + 1) (hL : L.val = (16 + (grid4.coords t 1).val) * 128 + l.val) :
    (iblk4 V c 2 t : Vec Ideal S1x4096x128 .f32) (ix3 0 r l) = (V c main_v79 : FVec Ideal S9x4096x4096 .f32) (ix3 b r L) := by
  blk_point [iblk4, idx t]

/-- The block of the filter. -/
theorem rd3 (c : Dev nD) (t : Fin cfg4.N) (i : Fin 3) (l : Fin 128) (L : Fin 512) (hL : L.val = (grid4.coords t 1).val * 128 + l.val) :
    (iblk4 V c 3 t : Vec Ideal S3x128 .f32) (ix2 i l) = (V c main_arg8 : FVec Ideal S3x512 .f32) (ix2 i L) := by
  blk_point [iblk4, idx t]

/-- What the body stores at block row `r` and lane `l` of point `t`, at the array index `j` under it. -/
theorem core (c : Dev nD) (t : Fin cfg4.N) (r : Fin 4096) (l : Fin 128) (j : S8x4096x512.Idx) (h0 : (j 0).val = (grid4.coords t 0).val)
    (h1 : (j 1 : Fin 4096) = r) (h2 : (j 2).val = (grid4.coords t 1).val * 128 + l.val) :
    k4_pay1 (F := Ideal) (iblk4 V c 0 t) (iblk4 V c 1 t) (iblk4 V c 2 t) (iblk4 V c 3 t) (ix3 0 r l)
    = scF (V c main_v79) (V c main_arg8) j := by
  have hj0 : (j 0).val < 8 := (j 0).isLt
  have hj2 : (j 2).val < 512 := (j 2).isLt
  refine (k4_at _ _ _ _ r l).trans ?_
  unfold scF
  subst h1
  refine congrArg₂ (· * ·) (rd0 V c t _ l ⟨(j 0).val + 1, by omega⟩ ⟨1024 + (j 2).val, by omega⟩ (by show (j 0).val + 1 = _; omega) (by show 1024 + (j 2).val = _; omega)) ?_
  congr 1
  · funext r
    exact congrArg₂ (· * ·)
      (rd1 V c t r l ⟨(j 0).val + 1, by omega⟩ ⟨1536 + (j 2).val, by omega⟩ (by show (j 0).val + 1 = _; omega) (by show 1536 + (j 2).val = _; omega))
      (rd2 V c t r l ⟨(j 0).val + 1, by omega⟩ ⟨2048 + (j 2).val, by omega⟩ (by show (j 0).val + 1 = _; omega) (by show 2048 + (j 2).val = _; omega))
  · exact rd3 V c t 0 l (j 2) h2
  · exact rd3 V c t 1 l (j 2) h2
  · exact rd3 V c t 2 l (j 2) h2

/-- The result array after the run. -/
theorem final (c : Dev nD) : (dat4 V c).arrAt 4 cfg4.N = scF (V c main_v79) (V c main_arg8) := by
  refine (dat4 V c).arrAt_eq_of_covers 4 _ (by decide +kernel) fun t _ y => ?_
  blk_simp
  rw [after4_4]; frame_out
  obtain ⟨r, l, rfl⟩ : ∃ (r : Fin 4096) (l : Fin 128), y = (ix3 0 r l : S1x4096x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ (Fin.ext ?_) ?_ <;> (blk_simp [idx t] <;> try omega)

end Cert.KernelIdeal.Gate

end
-- ==== Proof.Hy.lean ====
/- The convolution of the Hyena group's input: what its result array holds. -/
module

public import proofs.«01_k».proof.Proof.Gen.KernelIdeal.Frame
public import proofs.«01_k».proof.Proof.Body
public import Idealize.ShloMosaic.Lib.Pipeline.ValueKit
public import Idealize.ShloMosaic.Lib.Pointwise

@[expose] public section

set_option maxRecDepth 16384

noncomputable section

namespace Cert.KernelIdeal.Hy

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg5.N, win5_0.index t = ![(grid5.coords t 0).val + 1, 0, 20 + (grid5.coords t 1).val] ∧ win5_1.index t = ![0, (grid5.coords t 1).val]
    ∧ win5_2.index t = ![0, (grid5.coords t 1).val] ∧ win5_3.index t = ![(grid5.coords t 0).val, 0, (grid5.coords t 1).val] :=
  (by decide +kernel : ∀ t : Fin grid5.N, _)

/-- The block of columns that window 0 takes. -/
theorem rd0 (c : Dev nD) (t : Fin cfg5.N) (r : Fin 4096) (l : Fin 128) (b : Fin 9) (L : Fin 4096)
    (hb : b.val = (grid5.coords t 0).val + 1) (hL : L.val = (20 + (grid5.coords t 1).val) * 128 + l.val) :
    (iblk5 V c 0 t : Vec Ideal S1x4096x128 .f32) (ix3 0 r l) = (V c main_v79 : FVec Ideal S9x4096x4096 .f32) (ix3 b r L) := by
  blk_point [iblk5, idx t]

/-- The block of the filter. -/
theorem rd1 (c : Dev nD) (t : Fin cfg5.N) (i : Fin 3) (l : Fin 128) (L : Fin 1536) (hL : L.val = (grid5.coords t 1).val * 128 + l.val) :
    (iblk5 V c 1 t : Vec Ideal S3x128 .f32) (ix2 i l) = (V c main_arg9 : FVec Ideal S3x1536 .f32) (ix2 i L) := by
  blk_point [iblk5, idx t]

/-- The block of the bias. -/
theorem rd2 (c : Dev nD) (t : Fin cfg5.N) (l : Fin 128) (L : Fin 1536) (hL : L.val = (grid5.coords t 1).val * 128 + l.val) :
    (iblk5 V c 2 t : Vec Ideal S1x128 .f32) (ix2 0 l) = (V c main_v156 : FVec Ideal S1x1536 .f32) (ix2 0 L) := by
  blk_point [iblk5, idx t]

/-- What the body stores at block row `r` and lane `l` of point `t`, at the array index `j` under it. -/
theorem core (c : Dev nD) (t : Fin cfg5.N) (r : Fin 4096) (l : Fin 128) (j : S8x4096x1536.Idx) (h0 : (j 0).val = (grid5.coords t 0).val)
    (h1 : (j 1 : Fin 4096) = r) (h2 : (j 2).val = (grid5.coords t 1).val * 128 + l.val) :
    k5_pay1 (F := Ideal) (iblk5 V c 0 t) (iblk5 V c 1 t) (iblk5 V c 2 t) (ix3 0 r l)
    = hyF (V c main_v79) (V c main_arg9) (V c main_v156) j := by
  have hj0 : (j 0).val < 8 := (j 0).isLt
  have hj2 : (j 2).val < 1536 := (j 2).isLt
  refine (k5_at _ _ _ r l).trans ?_
  unfold hyF
  subst h1
  refine congrArg₂ (· + ·) ?_ (rd2 V c t l (j 2) h2)
  congr 1
  · funext r
    exact rd0 V c t r l ⟨(j 0).val + 1, by omega⟩ ⟨2560 + (j 2).val, by omega⟩ (by show (j 0).val + 1 = _; omega) (by show 2560 + (j 2).val = _; omega)
  · exact rd1 V c t 0 l (j 2) h2
  · exact rd1 V c t 1 l (j 2) h2
  · exact rd1 V c t 2 l (j 2) h2

/-- The result array after the run. -/
theorem final (c : Dev nD) : (dat5 V c).arrAt 3 cfg5.N = hyF (V c main_v79) (V c main_arg9) (V c main_v156) := by
  refine (dat5 V c).arrAt_eq_of_covers 3 _ (by decide +kernel) fun t _ y => ?_
  blk_simp
  rw [after5_3]; frame_out
  obtain ⟨r, l, rfl⟩ : ∃ (r : Fin 4096) (l : Fin 128), y = (ix3 0 r l : S1x4096x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ (Fin.ext ?_) ?_ <;> (blk_simp [idx t] <;> try omega)

end Cert.KernelIdeal.Hy

end
-- ==== Proof.LinkD.lean ====
/- The convolutions and the caches of the mixers against the reference. -/
module

public import proofs.«01_k».proof.Proof.LinkA
public import proofs.«01_k».proof.Proof.Carry
public import proofs.«01_k».proof.Proof.HostE
public import proofs.«01_k».proof.Proof.RefC
public import proofs.«01_k».proof.Proof.Gate
public import proofs.«01_k».proof.Proof.Hy

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

include hx in
/-- The new key-value latents are the reference's. -/
theorem ckv_at (b : Fin 16) (r e : Fin 256) : (W12 m ρ c (Proc.devRef .tc main_v110) : FVec Ideal S16x256x256 .f32) (ix3 b r e) = (val_main_v26 (F := Ideal) x0 x2 x3 x5 : FVec Ideal S16x256x256 .f32) (ix3 b r e) := by
  rw [v110_12, Cert.ReferenceIdeal.Stage.v26]
  refine (HostD.v110 (W6 m ρ c) _ (v79_6 m ρ c) x5 ((W6_args m ρ c main_arg5 (by decide)).trans hx.a5) b r e).trans ?_
  have hp : ∀ n : Fin 256, P m ρ c (ix3 0 ⟨b.val * 256 + r.val, by omega⟩ ⟨512 + n.val, by omega⟩) = (val_main_v12 (F := Ideal) x0 x2 x3 : FVec Ideal Cert.ReferenceIdeal.S16x256x3904 .f32) (ix3 b r ⟨512 + n.val, by omega⟩) :=
    fun n => pc_at ρ hx b r _ rfl _ _ (Or.inl ⟨by simp only []; omega, rfl⟩)
  simp only [← hp]
  rfl

include hx in
/-- The new rotated keys are the reference's. -/
theorem krope_at (b : Fin 16) (r : Fin 256) (e : Fin 64) : (W12 m ρ c (Proc.devRef .tc main_v111) : FVec Ideal S16x256x64 .f32) (ix3 b r e) = (val_main_v27 (F := Ideal) x0 x2 x3 : FVec Ideal S16x256x64 .f32) (ix3 b r e) := by
  rw [v111_12, Cert.ReferenceIdeal.Stage.v27]
  refine (HostD.v111 (W6 m ρ c) b r e).trans ?_
  rw [v79_6]
  exact pc_at ρ hx b r _ rfl _ _ (Or.inl ⟨by simp only []; omega, rfl⟩)

/-- The convolution's first and last rows read a zero where the reference pads with one. -/
theorem conv_eq (u : Fin 4096 → EReal) (w0 w1 w2 : EReal) (r : Fin 4096) :
    conv3F u w0 w1 w2 r = (if h : 1 ≤ r.val ∧ r.val - 1 < 4096 then u ⟨r.val - 1, by omega⟩ else FloatOps.sitofp (F := Ideal) FTy.f32 0#32) * w0 + u r * w1
      + (if h : 1 ≤ 2 + r.val ∧ 2 + r.val - 1 < 4096 then u ⟨2 + r.val - 1, by omega⟩ else FloatOps.sitofp (F := Ideal) FTy.f32 0#32) * w2 := by
  have hz : (FloatOps.sitofp (F := Ideal) FTy.f32 0#32 : EReal) = Ideal.ofBits .f32 0x00000000#32 := by
    rw [Ideal.ofBits_zero_f32]
    show (((0#32 : BitVec 32).toInt : ℝ) : EReal) = 0
    simp
  unfold conv3F
  rw [hz]
  have e0 : (if r.val = 0 then Ideal.ofBits .f32 0x00000000#32 else u ⟨(r.val + 4096 - 1) % 4096, by omega⟩ : EReal)
      = if h : 1 ≤ r.val ∧ r.val - 1 < 4096 then u ⟨r.val - 1, by omega⟩ else Ideal.ofBits .f32 0x00000000#32 := by
    by_cases h : r.val = 0
    · rw [if_pos h, dif_neg (by omega)]
    · rw [if_neg h, dif_pos (by omega)]; exact congrArg u (Fin.ext (by simp only []; omega))
  have e2 : (if r.val = 4095 then Ideal.ofBits .f32 0x00000000#32 else u ⟨(r.val + 4096 - 4095) % 4096, by omega⟩ : EReal)
      = if h : 1 ≤ 2 + r.val ∧ 2 + r.val - 1 < 4096 then u ⟨2 + r.val - 1, by omega⟩ else Ideal.ofBits .f32 0x00000000#32 := by
    by_cases h : r.val = 4095
    · rw [if_pos h, dif_neg (by omega)]
    · rw [if_neg h, dif_pos (by omega)]; exact congrArg u (Fin.ext (by simp only []; omega))
  rw [e0, e2]

include hx in
/-- The short gated convolution is the reference's. -/
theorem sc_at (b : Fin 8) (r : Fin 4096) (n : Fin 512) : (W12 m ρ c (Proc.devRef .tc main_v155) : FVec Ideal S8x4096x512 .f32) (ix3 b r n) = (val_main_v195 (F := Ideal) x1 x2 x3 x8 : FVec Ideal S8x4096x512 .f32) (ix3 b r n) := by
  rw [v155_12, Cert.ReferenceIdeal.Stage.v195]
  refine (congrFun ((W10_arr m ρ c 4).trans (Gate.final (V9 m ρ) c)) (ix3 b r n)).trans ?_
  have h8 : (V9 m ρ c main_arg8 : FVec Ideal S3x512 .f32) = x8 := (W9_args m ρ c main_arg8 (by decide)).trans hx.a8
  have h79 : (V9 m ρ c main_v79 : FVec Ideal S9x4096x4096 .f32) = P m ρ c := v79_9 m ρ c
  rw [h8, h79]
  show (P m ρ c (ix3 ⟨b.val + 1, _⟩ r ⟨1024 + n.val, _⟩) * conv3F (fun r => P m ρ c (ix3 ⟨b.val + 1, _⟩ r ⟨1536 + n.val, _⟩)
      * P m ρ c (ix3 ⟨b.val + 1, _⟩ r ⟨2048 + n.val, _⟩)) (x8 (ix2 0 n)) (x8 (ix2 1 n)) (x8 (ix2 2 n)) r : EReal) = _
  rw [conv_eq]
  have e1 : ∀ r, P m ρ c (ix3 ⟨b.val + 1, by omega⟩ r ⟨1024 + n.val, by omega⟩) = (val_main_v40 (F := Ideal) x1 x2 x3 : FVec Ideal Cert.ReferenceIdeal.S8x4096x3904 .f32) (ix3 b r ⟨832 + n.val, by omega⟩) :=
    fun r => p_at ρ hx _ b rfl r _ _ (Or.inr ⟨by simp only []; omega, by simp only []; omega⟩)
  have e2 : ∀ r, P m ρ c (ix3 ⟨b.val + 1, by omega⟩ r ⟨1536 + n.val, by omega⟩) = (val_main_v40 (F := Ideal) x1 x2 x3 : FVec Ideal Cert.ReferenceIdeal.S8x4096x3904 .f32) (ix3 b r ⟨832 + (512 + n.val), by omega⟩) :=
    fun r => p_at ρ hx _ b rfl r _ _ (Or.inr ⟨by simp only []; omega, by simp only []; omega⟩)
  have e3 : ∀ r, P m ρ c (ix3 ⟨b.val + 1, by omega⟩ r ⟨2048 + n.val, by omega⟩) = (val_main_v40 (F := Ideal) x1 x2 x3 : FVec Ideal Cert.ReferenceIdeal.S8x4096x3904 .f32) (ix3 b r ⟨832 + (1024 + n.val), by omega⟩) :=
    fun r => p_at ρ hx _ b rfl r _ _ (Or.inr ⟨by simp only []; omega, by simp only []; omega⟩)
  simp only [e1, e2, e3]

include hx in
/-- The Hyena group's convolution is the reference's. -/
theorem u_at (b : Fin 8) (r : Fin 4096) (n : Fin 1536) : (W12 m ρ c (Proc.devRef .tc main_v157) : FVec Ideal S8x4096x1536 .f32) (ix3 b r n) = (val_main_v219 (F := Ideal) x1 x2 x3 x9 x10 : FVec Ideal S8x4096x1536 .f32) (ix3 b r n) := by
  rw [Cert.ReferenceIdeal.Stage.v219]
  refine (congrFun ((W12_arr m ρ c 3).trans (Hy.final (V11 m ρ) c)) (ix3 b r n)).trans ?_
  have h9 : (V11 m ρ c main_arg9 : FVec Ideal S3x1536 .f32) = x9 := (W11_args m ρ c main_arg9 (by decide)).trans hx.a9
  have h79 : (V11 m ρ c main_v79 : FVec Ideal S9x4096x4096 .f32) = P m ρ c := v79_11 m ρ c
  have h156 : (V11 m ρ c main_v156 : FVec Ideal S1x1536 .f32) (ix2 0 n) = (x10 (ix1 n) : EReal) :=
    (HostE.v156 (W10 m ρ c) n).trans (congrFun ((W10_args m ρ c main_arg10 (by decide)).trans hx.a10) (ix1 n))
  rw [h9, h79]
  show (conv3F (fun r => P m ρ c (ix3 ⟨b.val + 1, _⟩ r ⟨2560 + n.val, _⟩)) (x9 (ix2 0 n)) (x9 (ix2 1 n)) (x9 (ix2 2 n)) r
    + (V11 m ρ c main_v156 : FVec Ideal S1x1536 .f32) (ix2 0 n) : EReal) = _
  rw [conv_eq, h156]
  have e1 : ∀ r, P m ρ c (ix3 ⟨b.val + 1, by omega⟩ r ⟨2560 + n.val, by omega⟩) = (val_main_v40 (F := Ideal) x1 x2 x3 : FVec Ideal Cert.ReferenceIdeal.S8x4096x3904 .f32) (ix3 b r ⟨2368 + n.val, by omega⟩) :=
    fun r => p_at ρ hx _ b rfl r _ _ (Or.inr ⟨by simp only []; omega, by simp only []; omega⟩)
  simp only [e1]

end Cert.Link

end
-- ==== Proof.HostB.lean ====
/- The tables of cosines the queries are rotated by. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostB

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The cosines over the lanes of the queries. -/
theorem v70 (g : Fin 2) (r : Fin 4096) (l : Fin 512) : (StableHlo.after (hostOps0 (F := Ideal)) X (Proc.devRef .tc main_v70) : FVec Ideal S2x4096x512 .f32) (ix3 g r l)
    = (if h : g.val < 1 then 1 else Ideal.cos (FloatOps.sitofp (F := Ideal) FTy.f32 (if h : l.val % 64 / 32 < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (l.val % 64 % 16))) (Ideal.ofBits FTy.f32 1098907648#32))) : EReal) := by
  after_reads_simp
  pointwise
  try (after_reads_simp; pointwise)
  try (after_reads_simp; pointwise)

end Cert.KernelIdeal.HostB

end
-- ==== Proof.HostC.lean ====
/- The tables of sines the queries are rotated by. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostC

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The signed sines over the lanes of the queries. -/
theorem v74 (g : Fin 2) (r : Fin 4096) (l : Fin 512) : (StableHlo.after (hostOps0 (F := Ideal)) X (Proc.devRef .tc main_v74) : FVec Ideal S2x4096x512 .f32) (ix3 g r l)
    = (if h : g.val < 1 then 0 else if h : l.val % 64 / 16 % 2 < 1 then -Ideal.sin (FloatOps.sitofp (F := Ideal) FTy.f32 (if h : l.val % 64 / 32 < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (l.val % 64 % 16))) (Ideal.ofBits FTy.f32 1098907648#32))) else Ideal.sin (FloatOps.sitofp (F := Ideal) FTy.f32 (if h : l.val % 64 / 32 < 1 then BitVec.ofNat 32 (r.val / 64) else BitVec.ofNat 32 (r.val % 64)) * Ideal.pow (Ideal.ofBits FTy.f32 1176256512#32) (Ideal.div (-FloatOps.sitofp (F := Ideal) FTy.f32 (BitVec.ofNat 32 (l.val % 64 % 16))) (Ideal.ofBits FTy.f32 1098907648#32))) : EReal) := by
  after_reads_simp
  pointwise
  try (after_reads_simp; pointwise)
  try (after_reads_simp; pointwise)
  try (after_reads_simp; pointwise)

end Cert.KernelIdeal.HostC

end
-- ==== Proof.Pay.lean ====
/- What each head's store writes at an index of its piece. -/
module

public import proofs.«01_k».proof.Proof.Gen.KernelIdeal.Skeleton
public import proofs.«01_k».proof.Proof.Fns
public import Idealize.ShloMosaic.Lib.Pipeline.ValueKit
public import Idealize.ShloMosaic.Lib.Pointwise

@[expose] public section

set_option maxRecDepth 16384

noncomputable section

namespace Cert.KernelIdeal.Pay

open Idealize.ShloMosaic Idealize.ShloMosaic.TcCoe Idealize.SL.Sem
open Idealize.ShloMosaic.Pipeline (Dat)
open Cert.KernelIdeal Cert.KernelIdeal.Gen Cert.KernelIdeal.Mix

/-- What head 0's store of the part without position writes. -/
theorem qn0 (p : Vec Ideal S1x512x512 .f32) (g : Vec Ideal S1x512 .f32) (w : Vec Ideal S512x2048 .bf16) (r : Fin 512) (l : Fin 128) (n : Fin 2048) (hn : n.val = 0 + l.val) :
    k1_pay5 (F := Ideal) p g w (ix4 0 0 r l) = k1_pay3 (F := Ideal) p g w (ix2 r n) * Ideal.ofBits .f32 0x3D93CD3A#32 := by
  rw [show n = ⟨0 + l.val, by clear hn; omega⟩ from Fin.ext hn]
  pointwise [k1_pay5]

/-- What head 0's store of the rotated part writes. -/
theorem qr0 (A : FVec Ideal S512x512 .f32) (r : Fin 512) (l : Fin 64) (n : Fin 512) (hn : n.val = 0 + l.val) :
    k1_pay6 (F := Ideal) A (ix4 0 0 r l) = A (ix2 r n) * Ideal.ofBits .f32 0x3D93CD3A#32 := by
  rw [show n = ⟨0 + l.val, by clear hn; omega⟩ from Fin.ext hn]
  pointwise [k1_pay6]

/-- What head 1's store of the part without position writes. -/
theorem qn1 (A : FVec Ideal S512x2048 .f32) (r : Fin 512) (l : Fin 128) (n : Fin 2048) (hn : n.val = 128 + l.val) :
    k1_pay7 (F := Ideal) A (ix4 0 0 r l) = A (ix2 r n) * Ideal.ofBits .f32 0x3D93CD3A#32 := by
  rw [show n = ⟨128 + l.val, by clear hn; omega⟩ from Fin.ext hn]
  pointwise [k1_pay7]

/-- What head 1's store of the rotated part writes. -/
theorem qr1 (A : FVec Ideal S512x512 .f32) (r : Fin 512) (l : Fin 64) (n : Fin 512) (hn : n.val = 64 + l.val) :
    k1_pay8 (F := Ideal) A (ix4 0 0 r l) = A (ix2 r n) * Ideal.ofBits .f32 0x3D93CD3A#32 := by
  rw [show n = ⟨64 + l.val, by clear hn; omega⟩ from Fin.ext hn]
  pointwise [k1_pay8]

/-- What head 2's store of the part without position writes. -/
theorem qn2 (A : FVec Ideal S512x2048 .f32) (r : Fin 512) (l : Fin 128) (n : Fin 2048) (hn : n.val = 256 + l.val) :
    k1_pay9 (F := Ideal) A (ix4 0 0 r l) = A (ix2 r n) * Ideal.ofBits .f32 0x3D93CD3A#32 := by
  rw [show n = ⟨256 + l.val, by clear hn; omega⟩ from Fin.ext hn]
  pointwise [k1_pay9]

/-- What head 2's store of the rotated part writes. -/
theorem qr2 (A : FVec Ideal S512x512 .f32) (r : Fin 512) (l : Fin 64) (n : Fin 512) (hn : n.val = 128 + l.val) :
    k1_pay11 (F := Ideal) (k1_pay10 (F := Ideal) A) (ix4 0 0 r l) = A (ix2 r n) * Ideal.ofBits .f32 0x3D93CD3A#32 := by
  rw [show n = ⟨128 + l.val, by clear hn; omega⟩ from Fin.ext hn]
  pointwise [k1_pay11, k1_pay10]

/-- What head 3's store of the part without position writes. -/
theorem qn3 (A : FVec Ideal S512x2048 .f32) (r : Fin 512) (l : Fin 128) (n : Fin 2048) (hn : n.val = 384 + l.val) :
    k1_pay12 (F := Ideal) A (ix4 0 0 r l) = A (ix2 r n) * Ideal.ofBits .f32 0x3D93CD3A#32 := by
  rw [show n = ⟨384 + l.val, by clear hn; omega⟩ from Fin.ext hn]
  pointwise [k1_pay12]

/-- What head 3's store of the rotated part writes. -/
theorem qr3 (A : FVec Ideal S512x512 .f32) (r : Fin 512) (l : Fin 64) (n : Fin 512) (hn : n.val = 192 + l.val) :
    k1_pay13 (F := Ideal) A (ix4 0 0 r l) = A (ix2 r n) * Ideal.ofBits .f32 0x3D93CD3A#32 := by
  rw [show n = ⟨192 + l.val, by clear hn; omega⟩ from Fin.ext hn]
  pointwise [k1_pay13]

/-- What head 4's store of the part without position writes. -/
theorem qn4 (A : FVec Ideal S512x2048 .f32) (r : Fin 512) (l : Fin 128) (n : Fin 2048) (hn : n.val = 512 + l.val) :
    k1_pay14 (F := Ideal) A (ix4 0 0 r l) = A (ix2 r n) * Ideal.ofBits .f32 0x3D93CD3A#32 := by
  rw [show n = ⟨512 + l.val, by clear hn; omega⟩ from Fin.ext hn]
  pointwise [k1_pay14]

/-- What head 4's store of the rotated part writes. -/
theorem qr4 (A : FVec Ideal S512x512 .f32) (r : Fin 512) (l : Fin 64) (n : Fin 512) (hn : n.val = 256 + l.val) :
    k1_pay15 (F := Ideal) A (ix4 0 0 r l) = A (ix2 r n) * Ideal.ofBits .f32 0x3D93CD3A#32 := by
  rw [show n = ⟨256 + l.val, by clear hn; omega⟩ from Fin.ext hn]
  pointwise [k1_pay15]

/-- What head 5's store of the part without position writes. -/
theorem qn5 (A : FVec Ideal S512x2048 .f32) (r : Fin 512) (l : Fin 128) (n : Fin 2048) (hn : n.val = 640 + l.val) :
    k1_pay17 (F := Ideal) (k1_pay16 (F := Ideal) A) (FloatOps.ofBits .f32 0x3D93CD3A#32) (ix4 0 0 r l) = A (ix2 r n) * Ideal.ofBits .f32 0x3D93CD3A#32 := by
  rw [show n = ⟨640 + l.val, by clear hn; omega⟩ from Fin.ext hn]
  pointwise [k1_pay17, k1_pay16]

/-- What head 5's store of the rotated part writes. -/
theorem qr5 (A : FVec Ideal S512x512 .f32) (r : Fin 512) (l : Fin 64) (n : Fin 512) (hn : n.val = 320 + l.val) :
    k1_pay18 (F := Ideal) A (ix4 0 0 r l) = A (ix2 r n) * Ideal.ofBits .f32 0x3D93CD3A#32 := by
  rw [show n = ⟨320 + l.val, by clear hn; omega⟩ from Fin.ext hn]
  pointwise [k1_pay18]

/-- What head 6's store of the part without position writes. -/
theorem qn6 (A : FVec Ideal S512x2048 .f32) (r : Fin 512) (l : Fin 128) (n : Fin 2048) (hn : n.val = 768 + l.val) :
    k1_pay19 (F := Ideal) A (ix4 0 0 r l) = A (ix2 r n) * Ideal.ofBits .f32 0x3D93CD3A#32 := by
  rw [show n = ⟨768 + l.val, by clear hn; omega⟩ from Fin.ext hn]
  pointwise [k1_pay19]

/-- What head 6's store of the rotated part writes. -/
theorem qr6 (A : FVec Ideal S512x512 .f32) (r : Fin 512) (l : Fin 64) (n : Fin 512) (hn : n.val = 384 + l.val) :
    k1_pay20 (F := Ideal) A (ix4 0 0 r l) = A (ix2 r n) * Ideal.ofBits .f32 0x3D93CD3A#32 := by
  rw [show n = ⟨384 + l.val, by clear hn; omega⟩ from Fin.ext hn]
  pointwise [k1_pay20]

/-- What head 7's store of the part without position writes. -/
theorem qn7 (A : FVec Ideal S512x2048 .f32) (r : Fin 512) (l : Fin 128) (n : Fin 2048) (hn : n.val = 896 + l.val) :
    k1_pay1 (F := Ideal) (k1_pay21 (F := Ideal) A) (ix4 0 0 r l) = A (ix2 r n) * Ideal.ofBits .f32 0x3D93CD3A#32 := by
  rw [show n = ⟨896 + l.val, by clear hn; omega⟩ from Fin.ext hn]
  pointwise [k1_pay1, k1_pay21]

/-- What head 7's store of the rotated part writes. -/
theorem qr7 (A : FVec Ideal S512x512 .f32) (r : Fin 512) (l : Fin 64) (n : Fin 512) (hn : n.val = 448 + l.val) :
    k1_pay2 (F := Ideal) A (ix4 0 0 r l) = A (ix2 r n) * Ideal.ofBits .f32 0x3D93CD3A#32 := by
  rw [show n = ⟨448 + l.val, by clear hn; omega⟩ from Fin.ext hn]
  pointwise [k1_pay2]

/-- What head 0's store of the part of the keys without position writes. -/
theorem kn0 (p : Vec Ideal S1x256x256 .f32) (w : Vec Ideal S256x2048 .bf16) (r : Fin 256) (l : Fin 128) (n : Fin 2048) (hn : n.val = 0 + l.val) :
    k2_pay4 (F := Ideal) p w (ix4 0 0 r l) = k2_pay2 (F := Ideal) p w (ix2 r n) := by
  rw [show n = ⟨0 + l.val, by clear hn; omega⟩ from Fin.ext hn]
  pointwise [k2_pay4]

/-- What head 0's store of the values writes. -/
theorem vn0 (p : Vec Ideal S1x256x256 .f32) (w : Vec Ideal S256x2048 .bf16) (r : Fin 256) (l : Fin 128) (n : Fin 2048) (hn : n.val = 128 + l.val) :
    k2_pay6 (F := Ideal) p w (ix4 0 0 r l) = k2_pay2 (F := Ideal) p w (ix2 r n) := by
  rw [show n = ⟨128 + l.val, by clear hn; omega⟩ from Fin.ext hn]
  pointwise [k2_pay6]

/-- What head 0's store of the rotated part of the keys writes. -/
theorem kr0 (p : Vec Ideal S1x256x64 .f32) (r : Fin 256) (l : Fin 64) : k2_pay5 (F := Ideal) p (ix4 0 0 r l) = k2_pay3 (F := Ideal) p (ix2 r l) := by
  pointwise [k2_pay5]

/-- What head 1's store of the part of the keys without position writes. -/
theorem kn1 (p : Vec Ideal S1x256x256 .f32) (w : Vec Ideal S256x2048 .bf16) (r : Fin 256) (l : Fin 128) (n : Fin 2048) (hn : n.val = 256 + l.val) :
    k2_pay7 (F := Ideal) p w (ix4 0 0 r l) = k2_pay2 (F := Ideal) p w (ix2 r n) := by
  rw [show n = ⟨256 + l.val, by clear hn; omega⟩ from Fin.ext hn]
  pointwise [k2_pay7]

/-- What head 1's store of the values writes. -/
theorem vn1 (A : FVec Ideal S256x2048 .f32) (r : Fin 256) (l : Fin 128) (n : Fin 2048) (hn : n.val = 384 + l.val) :
    k2_pay9 (F := Ideal) A (ix4 0 0 r l) = A (ix2 r n) := by
  rw [show n = ⟨384 + l.val, by clear hn; omega⟩ from Fin.ext hn]
  pointwise [k2_pay9]

/-- What head 1's store of the rotated part of the keys writes. -/
theorem kr1 (A : FVec Ideal S256x64 .bf16) (r : Fin 256) (l : Fin 64) : k2_pay8 (F := Ideal) A (ix4 0 0 r l) = A (ix2 r l) := by
  pointwise [k2_pay8]

/-- What head 2's store of the part of the keys without position writes. -/
theorem kn2 (A : FVec Ideal S256x2048 .f32) (r : Fin 256) (l : Fin 128) (n : Fin 2048) (hn : n.val = 512 + l.val) :
    k2_pay10 (F := Ideal) A (ix4 0 0 r l) = A (ix2 r n) := by
  rw [show n = ⟨512 + l.val, by clear hn; omega⟩ from Fin.ext hn]
  pointwise [k2_pay10]

/-- What head 2's store of the values writes. -/
theorem vn2 (A : FVec Ideal S256x2048 .f32) (r : Fin 256) (l : Fin 128) (n : Fin 2048) (hn : n.val = 640 + l.val) :
    k2_pay12 (F := Ideal) A (ix4 0 0 r l) = A (ix2 r n) := by
  rw [show n = ⟨640 + l.val, by clear hn; omega⟩ from Fin.ext hn]
  pointwise [k2_pay12]

/-- What head 2's store of the rotated part of the keys writes. -/
theorem kr2 (A : FVec Ideal S256x64 .bf16) (r : Fin 256) (l : Fin 64) : k2_pay11 (F := Ideal) A (ix4 0 0 r l) = A (ix2 r l) := by
  pointwise [k2_pay11]

/-- What head 3's store of the part of the keys without position writes. -/
theorem kn3 (A : FVec Ideal S256x2048 .f32) (r : Fin 256) (l : Fin 128) (n : Fin 2048) (hn : n.val = 768 + l.val) :
    k2_pay13 (F := Ideal) A (ix4 0 0 r l) = A (ix2 r n) := by
  rw [show n = ⟨768 + l.val, by clear hn; omega⟩ from Fin.ext hn]
  pointwise [k2_pay13]

/-- What head 3's store of the values writes. -/
theorem vn3 (A : FVec Ideal S256x2048 .f32) (r : Fin 256) (l : Fin 128) (n : Fin 2048) (hn : n.val = 896 + l.val) :
    k2_pay15 (F := Ideal) A (ix4 0 0 r l) = A (ix2 r n) := by
  rw [show n = ⟨896 + l.val, by clear hn; omega⟩ from Fin.ext hn]
  pointwise [k2_pay15]

/-- What head 3's store of the rotated part of the keys writes. -/
theorem kr3 (A : FVec Ideal S256x64 .bf16) (r : Fin 256) (l : Fin 64) : k2_pay14 (F := Ideal) A (ix4 0 0 r l) = A (ix2 r l) := by
  pointwise [k2_pay14]

/-- What head 4's store of the part of the keys without position writes. -/
theorem kn4 (A : FVec Ideal S256x2048 .f32) (r : Fin 256) (l : Fin 128) (n : Fin 2048) (hn : n.val = 1024 + l.val) :
    k2_pay16 (F := Ideal) A (ix4 0 0 r l) = A (ix2 r n) := by
  rw [show n = ⟨1024 + l.val, by clear hn; omega⟩ from Fin.ext hn]
  pointwise [k2_pay16]

/-- What head 4's store of the values writes. -/
theorem vn4 (A : FVec Ideal S256x2048 .f32) (r : Fin 256) (l : Fin 128) (n : Fin 2048) (hn : n.val = 1152 + l.val) :
    k2_pay18 (F := Ideal) A (ix4 0 0 r l) = A (ix2 r n) := by
  rw [show n = ⟨1152 + l.val, by clear hn; omega⟩ from Fin.ext hn]
  pointwise [k2_pay18]

/-- What head 4's store of the rotated part of the keys writes. -/
theorem kr4 (A : FVec Ideal S256x64 .bf16) (r : Fin 256) (l : Fin 64) : k2_pay17 (F := Ideal) A (ix4 0 0 r l) = A (ix2 r l) := by
  pointwise [k2_pay17]

/-- What head 5's store of the part of the keys without position writes. -/
theorem kn5 (A : FVec Ideal S256x2048 .f32) (r : Fin 256) (l : Fin 128) (n : Fin 2048) (hn : n.val = 1280 + l.val) :
    k2_pay19 (F := Ideal) A (ix4 0 0 r l) = A (ix2 r n) := by
  rw [show n = ⟨1280 + l.val, by clear hn; omega⟩ from Fin.ext hn]
  pointwise [k2_pay19]

/-- What head 5's store of the values writes. -/
theorem vn5 (A : FVec Ideal S256x2048 .f32) (r : Fin 256) (l : Fin 128) (n : Fin 2048) (hn : n.val = 1408 + l.val) :
    k2_pay22 (F := Ideal) (k2_pay21 (F := Ideal) A) (ix4 0 0 r l) = A (ix2 r n) := by
  rw [show n = ⟨1408 + l.val, by clear hn; omega⟩ from Fin.ext hn]
  pointwise [k2_pay22, k2_pay21]

/-- What head 5's store of the rotated part of the keys writes. -/
theorem kr5 (A : FVec Ideal S256x64 .bf16) (r : Fin 256) (l : Fin 64) : k2_pay20 (F := Ideal) A (ix4 0 0 r l) = A (ix2 r l) := by
  pointwise [k2_pay20]

/-- What head 6's store of the part of the keys without position writes. -/
theorem kn6 (A : FVec Ideal S256x2048 .f32) (r : Fin 256) (l : Fin 128) (n : Fin 2048) (hn : n.val = 1536 + l.val) :
    k2_pay23 (F := Ideal) A (ix4 0 0 r l) = A (ix2 r n) := by
  rw [show n = ⟨1536 + l.val, by clear hn; omega⟩ from Fin.ext hn]
  pointwise [k2_pay23]

/-- What head 6's store of the values writes. -/
theorem vn6 (A : FVec Ideal S256x2048 .f32) (r : Fin 256) (l : Fin 128) (n : Fin 2048) (hn : n.val = 1664 + l.val) :
    k2_pay25 (F := Ideal) A (ix4 0 0 r l) = A (ix2 r n) := by
  rw [show n = ⟨1664 + l.val, by clear hn; omega⟩ from Fin.ext hn]
  pointwise [k2_pay25]

/-- What head 6's store of the rotated part of the keys writes. -/
theorem kr6 (A : FVec Ideal S256x64 .bf16) (r : Fin 256) (l : Fin 64) : k2_pay24 (F := Ideal) A (ix4 0 0 r l) = A (ix2 r l) := by
  pointwise [k2_pay24]

/-- What head 7's store of the part of the keys without position writes. -/
theorem kn7 (A : FVec Ideal S256x2048 .f32) (r : Fin 256) (l : Fin 128) (n : Fin 2048) (hn : n.val = 1792 + l.val) :
    k2_pay26 (F := Ideal) A (ix4 0 0 r l) = A (ix2 r n) := by
  rw [show n = ⟨1792 + l.val, by clear hn; omega⟩ from Fin.ext hn]
  pointwise [k2_pay26]

/-- What head 7's store of the values writes. -/
theorem vn7 (A : FVec Ideal S256x2048 .f32) (r : Fin 256) (l : Fin 128) (n : Fin 2048) (hn : n.val = 1920 + l.val) :
    k2_pay1 (F := Ideal) (k2_pay28 (F := Ideal) A) (ix4 0 0 r l) = A (ix2 r n) := by
  rw [show n = ⟨1920 + l.val, by clear hn; omega⟩ from Fin.ext hn]
  pointwise [k2_pay1, k2_pay28]

/-- What head 7's store of the rotated part of the keys writes. -/
theorem kr7 (A : FVec Ideal S256x64 .bf16) (r : Fin 256) (l : Fin 64) : k2_pay27 (F := Ideal) A (ix4 0 0 r l) = A (ix2 r l) := by
  pointwise [k2_pay27]

end Cert.KernelIdeal.Pay

end
-- ==== Proof.Que.lean ====
/- The query projection: what its result array holds. -/
module

public import proofs.«01_k».proof.Proof.Gen.KernelIdeal.Frame
public import proofs.«01_k».proof.Proof.Body
public import proofs.«01_k».proof.Proof.Pay
public import Idealize.ShloMosaic.Lib.Pipeline.ValueKit
public import Idealize.ShloMosaic.Lib.Pointwise

@[expose] public section

set_option maxRecDepth 16384

noncomputable section

namespace Cert.KernelIdeal.Que

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg1.N, win1_0.index t = ![(grid1.coords t 0).val, (grid1.coords t 1).val, 0] ∧ win1_1.index t = ![0, 0]
    ∧ win1_2.index t = ![0, 0] ∧ win1_3.index t = ![min (grid1.coords t 0).val 1, (grid1.coords t 1).val, 0]
    ∧ win1_4.index t = ![min (grid1.coords t 0).val 1, (grid1.coords t 1).val, 0]
    ∧ win1_5.index t = ![(grid1.coords t 0).val, 0, (grid1.coords t 1).val, 0] :=
  (by decide +kernel : ∀ t : Fin grid1.N, _)

/-- The block of queries, from the latent times the weights `A` and its rotated part `R`. -/
def blkQ (A : FVec Ideal S512x2048 .f32) (R : FVec Ideal S512x512 .f32) (y : S1x8x512x192.Idx) : EReal :=
  if h : (y 3).val < 128 then
    A (ix2 (y 2) ⟨(y 1).val * 128 + (y 3).val, by have := (y 1).isLt; simp at this; omega⟩) * Ideal.ofBits .f32 0x3D93CD3A#32
  else
    R (ix2 (y 2) ⟨(y 1).val * 64 + ((y 3).val - 128), by have := (y 1).isLt; have := (y 3).isLt; simp at *; omega⟩)
      * Ideal.ofBits .f32 0x3D93CD3A#32

/-- A piece of the part without position. -/
theorem blkQ_nope (A : FVec Ideal S512x2048 .f32) (R : FVec Ideal S512x512 .f32) (P : FVec Ideal S1x1x512x128 .bf16) (x : S1x1x512x128.Idx)
    (y : S1x8x512x192.Idx) (o : ℕ) (hP : ∀ (r : Fin 512) (l : Fin 128) (n : Fin 2048), n.val = o + l.val → P (ix4 0 0 r l) = A (ix2 r n) * Ideal.ofBits .f32 0x3D93CD3A#32)
    (h1 : (y 1).val * 128 = o) (h2 : (y 2).val = (x 2).val) (h3 : (y 3).val = (x 3).val) : P x = blkQ A R y := by
  have hx : x = (ix4 0 0 (x 2) (x 3) : S1x1x512x128.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 128 := (x 3).isLt
  unfold blkQ
  refine (congrArg P hx).trans (Eq.trans ?_ (dif_pos (by omega)).symm)
  refine (hP _ _ ⟨(y 1).val * 128 + (y 3).val, by have : (y 1).val < 8 := (y 1).isLt; omega⟩ (by show (y 1).val * 128 + (y 3).val = o + (x 3).val; omega)).trans ?_
  exact congrArg (fun r : Fin 512 => A (ix2 r _) * _) (Fin.ext h2.symm)

/-- A piece of the rotated part. -/
theorem blkQ_rope (A : FVec Ideal S512x2048 .f32) (R : FVec Ideal S512x512 .f32) (P : FVec Ideal S1x1x512x64 .bf16) (x : S1x1x512x64.Idx)
    (y : S1x8x512x192.Idx) (o : ℕ) (hP : ∀ (r : Fin 512) (l : Fin 64) (n : Fin 512), n.val = o + l.val → P (ix4 0 0 r l) = R (ix2 r n) * Ideal.ofBits .f32 0x3D93CD3A#32)
    (h1 : (y 1).val * 64 = o) (h2 : (y 2).val = (x 2).val) (h3 : (y 3).val = 128 + (x 3).val) : P x = blkQ A R y := by
  have hx : x = (ix4 0 0 (x 2) (x 3) : S1x1x512x64.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 64 := (x 3).isLt
  unfold blkQ
  refine (congrArg P hx).trans (Eq.trans ?_ (dif_neg (by omega)).symm)
  refine (hP _ _ ⟨(y 1).val * 64 + ((y 3).val - 128), by have : (y 1).val < 8 := (y 1).isLt; omega⟩ (by show (y 1).val * 64 + ((y 3).val - 128) = o + (x 3).val; omega)).trans ?_
  exact congrArg (fun r : Fin 512 => R (ix2 r _) * _) (Fin.ext h2.symm)

/-- What the body's sixteen stores leave in the block. -/
theorem tiles (c : Dev nD) (t : Fin cfg1.N) (y : S1x8x512x192.Idx) : outsAt1 V c t y
    = blkQ (k1_pay3 (F := Ideal) (iblk1 V c 0 t) (iblk1 V c 1 t) (iblk1 V c 2 t))
        (k1_pay4 (F := Ideal) (iblk1 V c 0 t) (iblk1 V c 1 t) (iblk1 V c 2 t) (iblk1 V c 3 t) (iblk1 V c 4 t)) y := by
  unfold outsAt1; frame_out
  canon_tiles x h using (View.cover_of_tiledBy _ ![1, 1, 512, 64] (by sl_kernel_rfl) y)
  case piece0 => exact blkQ_rope _ _ _ x y 448 (Pay.qr7 _) (by omega) h2 h3
  case piece1 => exact blkQ_nope _ _ _ x y 896 (Pay.qn7 _) (by omega) h2 h3
  case piece2 => exact blkQ_rope _ _ _ x y 384 (Pay.qr6 _) (by omega) h2 h3
  case piece3 => exact blkQ_nope _ _ _ x y 768 (Pay.qn6 _) (by omega) h2 h3
  case piece4 => exact blkQ_rope _ _ _ x y 320 (Pay.qr5 _) (by omega) h2 h3
  case piece5 => exact blkQ_nope _ _ _ x y 640 (Pay.qn5 _) (by omega) h2 h3
  case piece6 => exact blkQ_rope _ _ _ x y 256 (Pay.qr4 _) (by omega) h2 h3
  case piece7 => exact blkQ_nope _ _ _ x y 512 (Pay.qn4 _) (by omega) h2 h3
  case piece8 => exact blkQ_rope _ _ _ x y 192 (Pay.qr3 _) (by omega) h2 h3
  case piece9 => exact blkQ_nope _ _ _ x y 384 (Pay.qn3 _) (by omega) h2 h3
  case piece10 => exact blkQ_rope _ _ _ x y 128 (Pay.qr2 _) (by omega) h2 h3
  case piece11 => exact blkQ_nope _ _ _ x y 256 (Pay.qn2 _) (by omega) h2 h3
  case piece12 => exact blkQ_rope _ _ _ x y 64 (Pay.qr1 _) (by omega) h2 h3
  case piece13 => exact blkQ_nope _ _ _ x y 128 (Pay.qn1 _) (by omega) h2 h3
  case piece14 => exact blkQ_rope _ _ _ x y 0 (Pay.qr0 _) (by omega) h2 h3
  case piece15 => exact blkQ_nope _ _ _ x y 0 (Pay.qn0 _ _ _) (by omega) h2 h3

/-- The block of the latent. -/
theorem rd0 (c : Dev nD) (t : Fin cfg1.N) (r e : Fin 512) (b : Fin 9) (R : Fin 4096) (hb : b.val = (grid1.coords t 0).val)
    (hR : R.val = (grid1.coords t 1).val * 512 + r.val) :
    (iblk1 V c 0 t : Vec Ideal S1x512x512 .f32) (ix3 0 r e) = (V c main_v79 : FVec Ideal S9x4096x4096 .f32) (ix3 b R ⟨e.val, by omega⟩) := by
  blk_point [iblk1, idx t]

/-- The block of the norm's weights. -/
theorem rd1 (c : Dev nD) (t : Fin cfg1.N) (e : Fin 512) :
    (iblk1 V c 1 t : Vec Ideal S1x512 .f32) (ix2 0 e) = (V c main_v92 : FVec Ideal S1x512 .f32) (ix2 0 e) := by
  blk_point [iblk1, idx t]

/-- The block of the projection's weights. -/
theorem rd2 (c : Dev nD) (t : Fin cfg1.N) (e : Fin 512) (n : Fin 2048) :
    (iblk1 V c 2 t : Vec Ideal S512x2048 .bf16) (ix2 e n) = (V c main_v91 : FVec Ideal S512x2048 .bf16) (ix2 e n) := by
  blk_point [iblk1, idx t]

/-- The block of the first rotation factors. -/
theorem rd3 (c : Dev nD) (t : Fin cfg1.N) (r l : Fin 512) (g : Fin 2) (R : Fin 4096) (hg : g.val = min (grid1.coords t 0).val 1)
    (hR : R.val = (grid1.coords t 1).val * 512 + r.val) :
    (iblk1 V c 3 t : Vec Ideal S1x512x512 .f32) (ix3 0 r l) = (V c main_v70 : FVec Ideal S2x4096x512 .f32) (ix3 g R l) := by
  blk_point [iblk1, idx t]

/-- The block of the second rotation factors. -/
theorem rd4 (c : Dev nD) (t : Fin cfg1.N) (r l : Fin 512) (g : Fin 2) (R : Fin 4096) (hg : g.val = min (grid1.coords t 0).val 1)
    (hR : R.val = (grid1.coords t 1).val * 512 + r.val) :
    (iblk1 V c 4 t : Vec Ideal S1x512x512 .f32) (ix3 0 r l) = (V c main_v74 : FVec Ideal S2x4096x512 .f32) (ix3 g R l) := by
  blk_point [iblk1, idx t]

/-- The latent times the weights, at a row of the block. -/
theorem acc (c : Dev nD) (t : Fin cfg1.N) (r : Fin 512) (n : Fin 2048) (b : Fin 9) (R : Fin 4096) (hb : b.val = (grid1.coords t 0).val)
    (hR : R.val = (grid1.coords t 1).val * 512 + r.val) :
    k1_pay3 (F := Ideal) (iblk1 V c 0 t) (iblk1 V c 1 t) (iblk1 V c 2 t) (ix2 r n)
      = qaccF (V c main_v79) (V c main_v92) (V c main_v91) b R n := by
  refine (k1_acc _ _ _ r n).trans ?_
  unfold qaccF qlatF
  simp only [rd0 V c t r _ b R hb hR, rd1, rd2]

/-- The rotated part, at a row of the block. -/
theorem rot (c : Dev nD) (t : Fin cfg1.N) (r l : Fin 512) (b : Fin 9) (R : Fin 4096) (hb : b.val = (grid1.coords t 0).val)
    (hR : R.val = (grid1.coords t 1).val * 512 + r.val) (g : Fin 2) (hg : g.val = min (grid1.coords t 0).val 1) :
    k1_pay4 (F := Ideal) (iblk1 V c 0 t) (iblk1 V c 1 t) (iblk1 V c 2 t) (iblk1 V c 3 t) (iblk1 V c 4 t) (ix2 r l)
      = qaccF (V c main_v79) (V c main_v92) (V c main_v91) b R ⟨1024 + l.val, by omega⟩ * (V c main_v70 : FVec Ideal S2x4096x512 .f32) (ix3 g R l)
        + qaccF (V c main_v79) (V c main_v92) (V c main_v91) b R ⟨1536 + l.val, by omega⟩ * (V c main_v74 : FVec Ideal S2x4096x512 .f32) (ix3 g R l) := by
  refine (k1_rot _ _ _ _ _ r l).trans ?_
  rw [acc V c t r _ b R hb hR, acc V c t r _ b R hb hR]
  exact congrArg₂ (· + ·) (congrArg (_ * ·) (rd3 V c t r l g R hg hR)) (congrArg (_ * ·) (rd4 V c t r l g R hg hR))

/-- What the block's index `y` of point `t` holds, at the array index `j` under it. -/
theorem core (c : Dev nD) (t : Fin cfg1.N) (y : S1x8x512x192.Idx) (j : S9x8x4096x192.Idx) (h0 : (j 0).val = (grid1.coords t 0).val)
    (h1 : (j 1 : Fin 8) = y 1) (h2 : (j 2).val = (grid1.coords t 1).val * 512 + (y 2).val) (h3 : (j 3 : Fin 192) = y 3) : outsAt1 V c t y
    = qF (V c main_v79) (V c main_v92) (V c main_v91) (V c main_v70) (V c main_v74) j := by
  have hj : j = ix4 (j 0) (y 1) (j 2) (y 3) := by
    funext a; match a with
    | ⟨0, _⟩ => rfl
    | ⟨1, _⟩ => exact h1
    | ⟨2, _⟩ => rfl
    | ⟨3, _⟩ => exact h3
  rw [tiles, hj]
  unfold blkQ qF
  by_cases h : (y 3).val < 128
  · refine (dif_pos h).trans (Eq.trans ?_ (dif_pos h).symm)
    exact congrArg (· * _) (acc V c t (y 2) _ (j 0) (j 2) h0 h2)
  · refine (dif_neg h).trans (Eq.trans ?_ (dif_neg h).symm)
    exact congrArg (· * _) (rot V c t (y 2) _ (j 0) (j 2) h0 h2 ⟨min (j 0).val 1, by omega⟩ (congrArg (min · 1) h0))

/-- The result array after the run. -/
theorem final (c : Dev nD) : (dat1 V c).arrAt 5 cfg1.N = qF (V c main_v79) (V c main_v92) (V c main_v91) (V c main_v70) (V c main_v74) := by
  refine (dat1 V c).arrAt_eq_of_covers 5 _ (by decide +kernel) fun t _ y => ?_
  blk_simp
  rw [after1_5]
  refine core V c t y _ ?_ (Fin.ext ?_) ?_ (Fin.ext ?_) <;> (blk_simp [idx t] <;> try omega)

end Cert.KernelIdeal.Que

end
-- ==== Proof.LinkB.lean ====
/- The queries against the reference. -/
module

public import proofs.«01_k».proof.Proof.LinkA
public import proofs.«01_k».proof.Proof.Carry
public import proofs.«01_k».proof.Proof.HostB
public import proofs.«01_k».proof.Proof.HostC
public import proofs.«01_k».proof.Proof.HostD
public import proofs.«01_k».proof.Proof.Que

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

/-- The queries the second call leaves. -/
def Q (m : (ℓ : Loc nD τ sig) → Buf (Elt Ideal) ℓ) (ρ : Dev nD → PrngReg) (c : Dev nD) : FVec Ideal S9x8x4096x192 .bf16 :=
  W6 m ρ c (Proc.devRef .tc main_v93)

/-- They are what the second call computes of the arrays it reads. -/
theorem Q_eq : Q m ρ c = qF (P m ρ c) (W5 m ρ c (Proc.devRef .tc main_v92)) (W5 m ρ c (Proc.devRef .tc main_v91))
    (W1 m ρ c (Proc.devRef .tc main_v70)) (W1 m ρ c (Proc.devRef .tc main_v74)) := by
  refine ((W6_arr m ρ c 5).trans (Que.final (V5 m ρ) c)).trans ?_
  have h1 : (V5 m ρ c main_v79 : FVec Ideal S9x4096x4096 .f32) = P m ρ c := v79_5 m ρ c
  have h2 : (V5 m ρ c main_v70 : FVec Ideal S2x4096x512 .f32) = W1 m ρ c (Proc.devRef .tc main_v70) := v70_5 m ρ c
  have h3 : (V5 m ρ c main_v74 : FVec Ideal S2x4096x512 .f32) = W1 m ρ c (Proc.devRef .tc main_v74) := v74_5 m ρ c
  rw [h1, h2, h3]

include hx in
/-- A column of the second call's weights without position. -/
theorem wq_nope (e : Fin 512) (h : Fin 8) (n : Fin 128) : (W5 m ρ c (Proc.devRef .tc main_v91) : FVec Ideal S512x2048 .bf16) (ix2 e ⟨h.val * 128 + n.val, by omega⟩) = (x6 (ix2 e ⟨h.val * 192 + n.val, by omega⟩) : EReal) := by
  refine (HostD.v91 (W4 m ρ c) e _).trans ?_
  rw [dif_pos (by simp only []; omega), v83_4]
  refine (HostD.v83 (W2 m ρ c) e ⟨h.val * 128 + n.val, by omega⟩).trans ?_
  refine (congrFun ((W2_args m ρ c main_arg6 (by decide)).trans hx.a6) _).trans ?_
  exact congrArg (fun k => (x6 (ix2 e k) : EReal)) (Fin.ext (by simp only []; omega))

include hx in
/-- A column of the second call's rotated weights. -/
theorem wq_rope (e : Fin 512) (h : Fin 8) (n : Fin 64) : (W5 m ρ c (Proc.devRef .tc main_v91) : FVec Ideal S512x2048 .bf16) (ix2 e ⟨1024 + (h.val * 64 + n.val), by omega⟩) = (x6 (ix2 e ⟨h.val * 192 + (128 + n.val), by omega⟩) : EReal) := by
  refine (HostD.v91 (W4 m ρ c) e _).trans ?_
  rw [dif_neg (by simp only []; omega), dif_pos (by simp only []; omega), v84_4]
  refine (HostD.v84 (W2 m ρ c) e _ _).trans ?_
  refine (congrFun ((W2_args m ρ c main_arg6 (by decide)).trans hx.a6) _).trans ?_
  exact congrArg (fun k => (x6 (ix2 e k) : EReal)) (Fin.ext (by simp only []; omega))

include hx in
/-- A column of the second call's rotated weights with the halves of each axis swapped. -/
theorem wq_swap (e : Fin 512) (h : Fin 8) (n : Fin 64) : (W5 m ρ c (Proc.devRef .tc main_v91) : FVec Ideal S512x2048 .bf16) (ix2 e ⟨1536 + (h.val * 64 + n.val), by omega⟩)
    = (x6 (ix2 e ⟨h.val * 192 + (128 + (n.val / 32 * 32 + (1 - n.val / 16 % 2) * 16 + n.val % 16)), by omega⟩) : EReal) := by
  refine (HostD.v91 (W4 m ρ c) e _).trans ?_
  rw [dif_neg (by simp only []; omega), dif_neg (by simp only []; omega)]
  refine (HostD.v86 (W3 m ρ c) e _ _ _ _).trans ?_
  refine (HostD.v85 (W2 m ρ c) e _ _ _ _).trans ?_
  refine (congrFun ((W2_args m ρ c main_arg6 (by decide)).trans hx.a6) _).trans ?_
  exact congrArg (fun k => (x6 (ix2 e k) : EReal)) (Fin.ext (by simp only [Fin.val_rev]; omega))

include hx in
/-- A column of the queries before their rotation. -/
theorem qacc_at (B : Fin 9) (b : Fin 8) (hB : B.val = b.val + 1) (r : Fin 4096) (N : Fin 2048) (M : Fin 1536)
    (hw : ∀ e : Fin 512, (W5 m ρ c (Proc.devRef .tc main_v91) : FVec Ideal S512x2048 .bf16) (ix2 e N) = (x6 (ix2 e M) : EReal)) :
    qaccF (P m ρ c) (W5 m ρ c (Proc.devRef .tc main_v92)) (W5 m ρ c (Proc.devRef .tc main_v91)) B r N = (val_main_v59 (F := Ideal) x1 x2 x3 x4 x6 : FVec Ideal Cert.ReferenceIdeal.S8x4096x1536 .f32) (ix3 b r M) := by
  rw [Cert.ReferenceIdeal.Stage.v59]
  unfold qaccF
  refine Finset.sum_congr rfl fun e _ => ?_
  rw [hw e]
  have hg : (W5 m ρ c (Proc.devRef .tc main_v92) : FVec Ideal S1x512 .f32) (ix2 0 e) = (x4 (ix1 e) : EReal) :=
    (HostD.v92 (W4 m ρ c) e).trans (congrFun ((W4_args m ρ c main_arg4 (by decide)).trans hx.a4) (ix1 e))
  have hp : ∀ n : Fin 512, P m ρ c (ix3 B r ⟨n.val, by omega⟩) = (val_main_v40 (F := Ideal) x1 x2 x3 : FVec Ideal Cert.ReferenceIdeal.S8x4096x3904 .f32) (ix3 b r ⟨n.val, by omega⟩) :=
    fun n => p_at ρ hx B b hB r _ _ (Or.inl ⟨by simp only []; omega, rfl⟩)
  unfold qlatF
  rw [hg]
  simp only [hp]

include hx in
/-- The part of a query without position. -/
theorem q_nope (B : Fin 9) (b : Fin 8) (hB : B.val = b.val + 1) (h : Fin 8) (r : Fin 4096) (n : Fin 128) : Q m ρ c (ix4 B h r ⟨n.val, by omega⟩)
    = ((val_main_v60 (F := Ideal) x1 x2 x3 x4 x6 : FVec Ideal Cert.ReferenceIdeal.S8x4096x8x192 .f32) (ix4 b r h ⟨n.val, by omega⟩) * Ideal.ofBits .f32 1033096506#32 : EReal) := by
  rw [Q_eq ρ]
  have hn : ((ix4 B h r ⟨n.val, by omega⟩ : S9x8x4096x192.Idx) 3).val < 128 := n.isLt
  unfold qF
  rw [dif_pos hn]
  refine congrArg (fun x : EReal => x * Ideal.ofBits .f32 1033096506#32) ?_
  refine (qacc_at ρ hx B b hB r _ ⟨h.val * 192 + n.val, by omega⟩ (fun e => wq_nope ρ hx e h n)).trans ?_
  rw [Cert.ReferenceIdeal.Stage.v60]

include hx in
/-- The rotated part of a query. -/
theorem q_rope (B : Fin 9) (b : Fin 8) (hB : B.val = b.val + 1) (h : Fin 8) (r : Fin 4096) (n : Fin 64) : Q m ρ c (ix4 B h r ⟨128 + n.val, by omega⟩)
    = ((val_main_v120 (F := Ideal) x1 x2 x3 x4 x6 : FVec Ideal Cert.ReferenceIdeal.S8x4096x8x64 .f32) (ix4 b r h n) * Ideal.ofBits .f32 1033096506#32 : EReal) := by
  rw [Q_eq ρ]
  have hn : ¬ ((ix4 B h r ⟨128 + n.val, by omega⟩ : S9x8x4096x192.Idx) 3).val < 128 := by
    show ¬ 128 + n.val < 128
    omega
  unfold qF
  rw [dif_neg hn]
  refine congrArg (fun x : EReal => x * Ideal.ofBits .f32 1033096506#32) ?_
  have hl : (128 + n.val) - 128 = n.val := by omega
  have e1 : qaccF (P m ρ c) (W5 m ρ c (Proc.devRef .tc main_v92)) (W5 m ρ c (Proc.devRef .tc main_v91)) B r
      ⟨1024 + (h.val * 64 + ((128 + n.val) - 128)), by omega⟩ = (val_main_v60 (F := Ideal) x1 x2 x3 x4 x6 : FVec Ideal Cert.ReferenceIdeal.S8x4096x8x192 .f32) (ix4 b r h ⟨128 + n.val, by omega⟩) := by
    rw [Cert.ReferenceIdeal.Stage.v60]
    refine (qacc_at ρ hx B b hB r _ ⟨h.val * 192 + (128 + n.val), by omega⟩ (fun e => ?_))
    rw [← wq_rope ρ hx e h n]
    exact congrArg (fun k => (W5 m ρ c (Proc.devRef .tc main_v91) : FVec Ideal S512x2048 .bf16) (ix2 e k)) (Fin.ext (by simp only []; omega))
  have e2 : qaccF (P m ρ c) (W5 m ρ c (Proc.devRef .tc main_v92)) (W5 m ρ c (Proc.devRef .tc main_v91)) B r
      ⟨1536 + (h.val * 64 + ((128 + n.val) - 128)), by omega⟩ = (val_main_v60 (F := Ideal) x1 x2 x3 x4 x6 : FVec Ideal Cert.ReferenceIdeal.S8x4096x8x192 .f32) (ix4 b r h ⟨128 + (n.val / 32 * 32 + (1 - n.val / 16 % 2) * 16 + n.val % 16), by omega⟩) := by
    rw [Cert.ReferenceIdeal.Stage.v60]
    refine (qacc_at ρ hx B b hB r _ ⟨h.val * 192 + (128 + (n.val / 32 * 32 + (1 - n.val / 16 % 2) * 16 + n.val % 16)), by omega⟩ (fun e => ?_))
    rw [← wq_swap ρ hx e h n]
    exact congrArg (fun k => (W5 m ρ c (Proc.devRef .tc main_v91) : FVec Ideal S512x2048 .bf16) (ix2 e k)) (Fin.ext (by simp only []; omega))
  have hB1 : min B.val 1 = 1 := by omega
  have eC : (W1 m ρ c (Proc.devRef .tc main_v70) : FVec Ideal S2x4096x512 .f32) (ix3 ⟨min B.val 1, by omega⟩ r ⟨h.val * 64 + ((128 + n.val) - 128), by omega⟩)
      = (val_main_v98 (F := Ideal) : FVec Ideal S4096x2x16 .f32) (ix3 r ⟨n.val / 32, by omega⟩ ⟨n.val % 16, by omega⟩) := by
    rw [Cert.ReferenceIdeal.Stage.v98]
    refine (HostB.v70 (W0 m ρ c) _ _ _).trans ?_
    rw [dif_neg (by simp only []; omega)]
    have a1 : (h.val * 64 + ((128 + n.val) - 128)) % 64 / 32 = n.val / 32 := by omega
    have a2 : (h.val * 64 + ((128 + n.val) - 128)) % 64 % 16 = n.val % 16 := by omega
    simp only [a1, a2]
  have eS : (W1 m ρ c (Proc.devRef .tc main_v74) : FVec Ideal S2x4096x512 .f32) (ix3 ⟨min B.val 1, by omega⟩ r ⟨h.val * 64 + ((128 + n.val) - 128), by omega⟩)
      = (if n.val / 16 % 2 < 1 then -((val_main_v99 (F := Ideal) : FVec Ideal S4096x2x16 .f32) (ix3 r ⟨n.val / 32, by omega⟩ ⟨n.val % 16, by omega⟩) : EReal)
        else ((val_main_v99 (F := Ideal) : FVec Ideal S4096x2x16 .f32) (ix3 r ⟨n.val / 32, by omega⟩ ⟨n.val % 16, by omega⟩) : EReal)) := by
    rw [Cert.ReferenceIdeal.Stage.v99]
    refine (HostC.v74 (W0 m ρ c) _ _ _).trans ?_
    rw [dif_neg (by simp only []; omega)]
    have a1 : (h.val * 64 + ((128 + n.val) - 128)) % 64 / 32 = n.val / 32 := by omega
    have a2 : (h.val * 64 + ((128 + n.val) - 128)) % 64 % 16 = n.val % 16 := by omega
    have a3 : (h.val * 64 + ((128 + n.val) - 128)) % 64 / 16 % 2 = n.val / 16 % 2 := by omega
    simp only [a1, a2, a3]
    split <;> rfl
  refine (congrArg₂ (· + ·) (congrArg₂ (· * ·) e1 eC) (congrArg₂ (· * ·) e2 eS)).trans ?_
  rw [Cert.ReferenceIdeal.Stage.v120]
  by_cases hh : n.val / 16 % 2 < 1
  · rw [dif_pos hh, if_pos hh]
    have i1 : (⟨128 + n.val, by omega⟩ : Fin 192) = ⟨128 + (n.val / 32 * 32 + n.val % 16), by omega⟩ := Fin.ext (by simp only []; omega)
    have i2 : (⟨128 + (n.val / 32 * 32 + (1 - n.val / 16 % 2) * 16 + n.val % 16), by omega⟩ : Fin 192) = ⟨128 + (n.val / 32 * 32 + 16 + n.val % 16), by omega⟩ :=
      Fin.ext (by simp only []; omega)
    rw [i1, i2]
    show (_ + _ * -_ : EReal) = _
    rw [mul_neg, ← sub_eq_add_neg]
  · rw [dif_neg hh, if_neg hh]
    have i1 : (⟨128 + n.val, by omega⟩ : Fin 192) = ⟨128 + (n.val / 32 * 32 + 16 + n.val % 16), by omega⟩ := Fin.ext (by simp only []; omega)
    have i2 : (⟨128 + (n.val / 32 * 32 + (1 - n.val / 16 % 2) * 16 + n.val % 16), by omega⟩ : Fin 192) = ⟨128 + (n.val / 32 * 32 + n.val % 16), by omega⟩ :=
      Fin.ext (by simp only []; omega)
    rw [i1, i2]

end Cert.Link

end
-- ==== Proof.Kv.lean ====
/- The key and value projection: what its result arrays hold. -/
module

public import proofs.«01_k».proof.Proof.Gen.KernelIdeal.Frame
public import proofs.«01_k».proof.Proof.Body
public import proofs.«01_k».proof.Proof.Pay
public import Idealize.ShloMosaic.Lib.Pipeline.ValueKit
public import Idealize.ShloMosaic.Lib.Pointwise

@[expose] public section

set_option maxRecDepth 16384

noncomputable section

namespace Cert.KernelIdeal.Kv

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg2.N, win2_0.index t = ![(grid2.coords t 0).val, (grid2.coords t 1).val, 0]
    ∧ win2_1.index t = ![(grid2.coords t 0).val, (grid2.coords t 1).val, 0] ∧ win2_2.index t = ![0, 0]
    ∧ win2_3.index t = ![(grid2.coords t 0).val, 0, (grid2.coords t 1).val, 0]
    ∧ win2_4.index t = ![(grid2.coords t 0).val, 0, (grid2.coords t 1).val, 0] :=
  (by decide +kernel : ∀ t : Fin grid2.N, _)

/-- The block of keys, from the latent times the weights `A` and the rotated part `R`. -/
def blkK (A : FVec Ideal S256x2048 .f32) (R : FVec Ideal S256x64 .bf16) (y : S1x8x256x192.Idx) : EReal :=
  if h : (y 3).val < 128 then
    A (ix2 (y 2) ⟨(y 1).val * 256 + (y 3).val, by have := (y 1).isLt; simp at this; omega⟩)
  else R (ix2 (y 2) ⟨(y 3).val - 128, by have := (y 3).isLt; simp at *; omega⟩)

/-- The block of values, from the latent times the weights `A`. -/
def blkV (A : FVec Ideal S256x2048 .f32) (y : S1x8x256x128.Idx) : EReal :=
  A (ix2 (y 2) ⟨(y 1).val * 256 + 128 + (y 3).val, by have := (y 1).isLt; have := (y 3).isLt; simp at *; omega⟩)

/-- A piece of the keys' part without position. -/
theorem blkK_nope (A : FVec Ideal S256x2048 .f32) (R : FVec Ideal S256x64 .bf16) (P : FVec Ideal S1x1x256x128 .bf16) (x : S1x1x256x128.Idx)
    (y : S1x8x256x192.Idx) (o : ℕ) (hP : ∀ (r : Fin 256) (l : Fin 128) (n : Fin 2048), n.val = o + l.val → P (ix4 0 0 r l) = A (ix2 r n))
    (h1 : (y 1).val * 256 = o) (h2 : (y 2).val = (x 2).val) (h3 : (y 3).val = (x 3).val) : P x = blkK A R y := by
  have hx : x = (ix4 0 0 (x 2) (x 3) : S1x1x256x128.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 128 := (x 3).isLt
  unfold blkK
  refine (congrArg P hx).trans (Eq.trans ?_ (dif_pos (by omega)).symm)
  refine (hP _ _ ⟨(y 1).val * 256 + (y 3).val, by have : (y 1).val < 8 := (y 1).isLt; omega⟩ (by show (y 1).val * 256 + (y 3).val = o + (x 3).val; omega)).trans ?_
  exact congrArg (fun r : Fin 256 => A (ix2 r _)) (Fin.ext h2.symm)

/-- A piece of the keys' rotated part. -/
theorem blkK_rope (A : FVec Ideal S256x2048 .f32) (R : FVec Ideal S256x64 .bf16) (P : FVec Ideal S1x1x256x64 .bf16) (x : S1x1x256x64.Idx)
    (y : S1x8x256x192.Idx) (hP : ∀ (r : Fin 256) (l : Fin 64), P (ix4 0 0 r l) = R (ix2 r l))
    (h2 : (y 2).val = (x 2).val) (h3 : (y 3).val = 128 + (x 3).val) : P x = blkK A R y := by
  have hx : x = (ix4 0 0 (x 2) (x 3) : S1x1x256x64.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 64 := (x 3).isLt
  unfold blkK
  refine (congrArg P hx).trans (Eq.trans ?_ (dif_neg (by omega)).symm)
  refine (hP _ _).trans ?_
  refine (congrArg (fun r : Fin 256 => R (ix2 r _)) (Fin.ext h2.symm)).trans (congrArg (fun l : Fin 64 => R (ix2 (y 2) l)) (Fin.ext ?_))
  show (x 3).val = (y 3).val - 128
  omega

/-- A piece of the values. -/
theorem blkV_piece (A : FVec Ideal S256x2048 .f32) (P : FVec Ideal S1x1x256x128 .bf16) (x : S1x1x256x128.Idx)
    (y : S1x8x256x128.Idx) (o : ℕ) (hP : ∀ (r : Fin 256) (l : Fin 128) (n : Fin 2048), n.val = o + l.val → P (ix4 0 0 r l) = A (ix2 r n))
    (h1 : (y 1).val * 256 + 128 = o) (h2 : (y 2).val = (x 2).val) (h3 : (y 3).val = (x 3).val) : P x = blkV A y := by
  have hx : x = (ix4 0 0 (x 2) (x 3) : S1x1x256x128.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 128 := (x 3).isLt
  unfold blkV
  refine (congrArg P hx).trans ?_
  refine (hP _ _ ⟨(y 1).val * 256 + 128 + (y 3).val, by have : (y 1).val < 8 := (y 1).isLt; omega⟩ (by show (y 1).val * 256 + 128 + (y 3).val = o + (x 3).val; omega)).trans ?_
  exact congrArg (fun r : Fin 256 => A (ix2 r _)) (Fin.ext h2.symm)

/-- What the body's stores leave in the block of keys. -/
theorem tilesK (c : Dev nD) (t : Fin cfg2.N) (y : S1x8x256x192.Idx) : (outsAt2 V c t).1 y
    = blkK (k2_pay2 (F := Ideal) (iblk2 V c 0 t) (iblk2 V c 2 t)) (k2_pay3 (F := Ideal) (iblk2 V c 1 t)) y := by
  unfold outsAt2; frame_out
  canon_tiles x h using (View.cover_of_tiledBy _ ![1, 1, 256, 64] (by sl_kernel_rfl) y)
  case piece0 => exact blkK_rope _ _ _ x y (Pay.kr7 _) h2 h3
  case piece1 => exact blkK_nope _ _ _ x y 1792 (Pay.kn7 _) (by omega) h2 h3
  case piece2 => exact blkK_rope _ _ _ x y (Pay.kr6 _) h2 h3
  case piece3 => exact blkK_nope _ _ _ x y 1536 (Pay.kn6 _) (by omega) h2 h3
  case piece4 => exact blkK_rope _ _ _ x y (Pay.kr5 _) h2 h3
  case piece5 => exact blkK_nope _ _ _ x y 1280 (Pay.kn5 _) (by omega) h2 h3
  case piece6 => exact blkK_rope _ _ _ x y (Pay.kr4 _) h2 h3
  case piece7 => exact blkK_nope _ _ _ x y 1024 (Pay.kn4 _) (by omega) h2 h3
  case piece8 => exact blkK_rope _ _ _ x y (Pay.kr3 _) h2 h3
  case piece9 => exact blkK_nope _ _ _ x y 768 (Pay.kn3 _) (by omega) h2 h3
  case piece10 => exact blkK_rope _ _ _ x y (Pay.kr2 _) h2 h3
  case piece11 => exact blkK_nope _ _ _ x y 512 (Pay.kn2 _) (by omega) h2 h3
  case piece12 => exact blkK_rope _ _ _ x y (Pay.kr1 _) h2 h3
  case piece13 => exact blkK_nope _ _ _ x y 256 (Pay.kn1 _ _) (by omega) h2 h3
  case piece14 => exact blkK_rope _ _ _ x y (Pay.kr0 _) h2 h3
  case piece15 => exact blkK_nope _ _ _ x y 0 (Pay.kn0 _ _) (by omega) h2 h3

/-- What the body's stores leave in the block of values. -/
theorem tilesV (c : Dev nD) (t : Fin cfg2.N) (y : S1x8x256x128.Idx) : (outsAt2 V c t).2 y
    = blkV (k2_pay2 (F := Ideal) (iblk2 V c 0 t) (iblk2 V c 2 t)) y := by
  unfold outsAt2; frame_out
  canon_tiles x h
  case piece0 => exact blkV_piece _ _ x y 1920 (Pay.vn7 _) (by omega) h2 h3
  case piece1 => exact blkV_piece _ _ x y 1664 (Pay.vn6 _) (by omega) h2 h3
  case piece2 => exact blkV_piece _ _ x y 1408 (Pay.vn5 _) (by omega) h2 h3
  case piece3 => exact blkV_piece _ _ x y 1152 (Pay.vn4 _) (by omega) h2 h3
  case piece4 => exact blkV_piece _ _ x y 896 (Pay.vn3 _) (by omega) h2 h3
  case piece5 => exact blkV_piece _ _ x y 640 (Pay.vn2 _) (by omega) h2 h3
  case piece6 => exact blkV_piece _ _ x y 384 (Pay.vn1 _) (by omega) h2 h3
  case piece7 => exact blkV_piece _ _ x y 128 (Pay.vn0 _ _) (by omega) h2 h3

/-- The block of the latent. -/
theorem rd0 (c : Dev nD) (t : Fin cfg2.N) (r e : Fin 256) (b : Fin 8) (R : Fin 4352) (hb : b.val = (grid2.coords t 0).val)
    (hR : R.val = (grid2.coords t 1).val * 256 + r.val) :
    (iblk2 V c 0 t : Vec Ideal S1x256x256 .f32) (ix3 0 r e) = (V c main_v150 : FVec Ideal S8x4352x256 .f32) (ix3 b R e) := by
  blk_point [iblk2, idx t]

/-- The block of the rotated part. -/
theorem rd1 (c : Dev nD) (t : Fin cfg2.N) (r : Fin 256) (e : Fin 64) (b : Fin 8) (R : Fin 4352) (hb : b.val = (grid2.coords t 0).val)
    (hR : R.val = (grid2.coords t 1).val * 256 + r.val) :
    (iblk2 V c 1 t : Vec Ideal S1x256x64 .f32) (ix3 0 r e) = (V c main_v151 : FVec Ideal S8x4352x64 .f32) (ix3 b R e) := by
  blk_point [iblk2, idx t]

/-- The block of the weights. -/
theorem rd2 (c : Dev nD) (t : Fin cfg2.N) (e : Fin 256) (n : Fin 2048) :
    (iblk2 V c 2 t : Vec Ideal S256x2048 .bf16) (ix2 e n) = (V c main_v152 : FVec Ideal S256x2048 .bf16) (ix2 e n) := by
  blk_point [iblk2, idx t]

/-- The latent times the weights, at a row of the block. -/
theorem acc (c : Dev nD) (t : Fin cfg2.N) (r : Fin 256) (n : Fin 2048) (b : Fin 8) (R : Fin 4352) (hb : b.val = (grid2.coords t 0).val)
    (hR : R.val = (grid2.coords t 1).val * 256 + r.val) :
    k2_pay2 (F := Ideal) (iblk2 V c 0 t) (iblk2 V c 2 t) (ix2 r n) = kvaccF (V c main_v150) (V c main_v152) b R n := by
  refine (k2_acc _ _ r n).trans ?_
  unfold kvaccF
  exact Finset.sum_congr rfl fun e _ => congrArg₂ (· * ·) (rd0 V c t r e b R hb hR) (rd2 V c t e n)

/-- What the block's index `y` of point `t` holds of the keys, at the array index `j` under it. -/
theorem coreK (c : Dev nD) (t : Fin cfg2.N) (y : S1x8x256x192.Idx) (j : S8x8x4352x192.Idx) (h0 : (j 0).val = (grid2.coords t 0).val)
    (h1 : (j 1 : Fin 8) = y 1) (h2 : (j 2).val = (grid2.coords t 1).val * 256 + (y 2).val) (h3 : (j 3 : Fin 192) = y 3) : (outsAt2 V c t).1 y
    = kF (V c main_v150) (V c main_v151) (V c main_v152) j := by
  have hj : j = ix4 (j 0) (y 1) (j 2) (y 3) := by
    funext a; match a with
    | ⟨0, _⟩ => rfl
    | ⟨1, _⟩ => exact h1
    | ⟨2, _⟩ => rfl
    | ⟨3, _⟩ => exact h3
  rw [tilesK, hj]
  unfold blkK kF
  by_cases h : (y 3).val < 128
  · refine (dif_pos h).trans (Eq.trans ?_ (dif_pos h).symm)
    exact acc V c t (y 2) _ (j 0) (j 2) h0 h2
  · refine (dif_neg h).trans (Eq.trans ?_ (dif_neg h).symm)
    exact (k2_rot _ (y 2) _).trans (rd1 V c t (y 2) _ (j 0) (j 2) h0 h2)

/-- What the block's index `y` of point `t` holds of the values, at the array index `j` under it. -/
theorem coreV (c : Dev nD) (t : Fin cfg2.N) (y : S1x8x256x128.Idx) (j : S8x8x4352x128.Idx) (h0 : (j 0).val = (grid2.coords t 0).val)
    (h1 : (j 1 : Fin 8) = y 1) (h2 : (j 2).val = (grid2.coords t 1).val * 256 + (y 2).val) (h3 : (j 3 : Fin 128) = y 3) : (outsAt2 V c t).2 y
    = vF (V c main_v150) (V c main_v152) j := by
  have hj : j = ix4 (j 0) (y 1) (j 2) (y 3) := by
    funext a; match a with
    | ⟨0, _⟩ => rfl
    | ⟨1, _⟩ => exact h1
    | ⟨2, _⟩ => rfl
    | ⟨3, _⟩ => exact h3
  rw [tilesV, hj]
  unfold blkV vF
  exact acc V c t (y 2) _ (j 0) (j 2) h0 h2

/-- The array of keys after the run. -/
theorem finalK (c : Dev nD) : (dat2 V c).arrAt 3 cfg2.N = kF (V c main_v150) (V c main_v151) (V c main_v152) := by
  refine (dat2 V c).arrAt_eq_of_covers 3 _ (by decide +kernel) fun t _ y => ?_
  blk_simp
  rw [after2_3]
  refine coreK V c t y _ ?_ (Fin.ext ?_) ?_ (Fin.ext ?_) <;> (blk_simp [idx t] <;> try omega)

/-- The array of values after the run. -/
theorem finalV (c : Dev nD) : (dat2 V c).arrAt 4 cfg2.N = vF (V c main_v150) (V c main_v152) := by
  refine (dat2 V c).arrAt_eq_of_covers 4 _ (by decide +kernel) fun t _ y => ?_
  blk_simp
  rw [after2_4]
  refine coreV V c t y _ ?_ (Fin.ext ?_) ?_ (Fin.ext ?_) <;> (blk_simp [idx t] <;> try omega)

end Cert.KernelIdeal.Kv

end
-- ==== Proof.LinkC.lean ====
/- The keys and values against the reference. -/
module

public import proofs.«01_k».proof.Proof.LinkA
public import proofs.«01_k».proof.Proof.Carry
public import proofs.«01_k».proof.Proof.HostE
public import proofs.«01_k».proof.Proof.Kv

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

/-- The keys the third call leaves. -/
def K (m : (ℓ : Loc nD τ sig) → Buf (Elt Ideal) ℓ) (ρ : Dev nD → PrngReg) (c : Dev nD) : FVec Ideal S8x8x4352x192 .bf16 :=
  W8 m ρ c (Proc.devRef .tc main_v153_0)

/-- The values the third call leaves. -/
def U (m : (ℓ : Loc nD τ sig) → Buf (Elt Ideal) ℓ) (ρ : Dev nD → PrngReg) (c : Dev nD) : FVec Ideal S8x8x4352x128 .bf16 :=
  W8 m ρ c (Proc.devRef .tc main_v153_1)

/-- They are the keys of the latents and rotated keys that the host prepared. -/
theorem K_eq : K m ρ c = kF (W7 m ρ c (Proc.devRef .tc main_v150)) (W7 m ρ c (Proc.devRef .tc main_v151)) (W7 m ρ c (Proc.devRef .tc main_v152)) :=
  (W8_arr m ρ c 3).trans (Kv.finalK (V7 m ρ) c)

/-- They are the values of the latents that the host prepared. -/
theorem U_eq : U m ρ c = vF (W7 m ρ c (Proc.devRef .tc main_v150)) (W7 m ρ c (Proc.devRef .tc main_v152)) :=
  (W8_arr m ρ c 4).trans (Kv.finalV (V7 m ρ) c)

include hx in
/-- The key-value latents the third call reads. -/
theorem lat_at (b : Fin 8) (t : Fin 4352) (e : Fin 256) : (W7 m ρ c (Proc.devRef .tc main_v150) : FVec Ideal S8x4352x256 .f32) (ix3 b t e) = ((val_main_v144 (F := Ideal) x1 x2 x3 x5 x11 : FVec Ideal Cert.ReferenceIdeal.S8x4352x256 .f32) (ix3 b t e) : EReal) := by
  rw [Cert.ReferenceIdeal.Stage.v144]
  refine (HostD.v150 (W6 m ρ c) _ (v79_6 m ρ c) x5 ((W6_args m ρ c main_arg5 (by decide)).trans hx.a5) b t e).trans ?_
  by_cases ht : t.val < 256
  · rw [dif_pos ht, dif_pos ht]
    exact congrFun ((W6_args m ρ c main_arg11 (by decide)).trans hx.a11) _
  · rw [dif_neg ht, dif_neg ht]
    have hp : ∀ n : Fin 256, P m ρ c (ix3 ⟨1 + b.val, by omega⟩ ⟨t.val - 256, by omega⟩ ⟨512 + n.val, by omega⟩)
        = (val_main_v40 (F := Ideal) x1 x2 x3 : FVec Ideal Cert.ReferenceIdeal.S8x4096x3904 .f32) (ix3 b ⟨t.val - 256, by omega⟩ ⟨512 + n.val, by omega⟩) :=
      fun n => p_at ρ hx _ b (by simp only []; omega) _ _ _ (Or.inl ⟨by simp only []; omega, rfl⟩)
    simp only [← hp]
    rfl

include hx in
/-- The rotated keys the third call reads. -/
theorem rot_at (b : Fin 8) (t : Fin 4352) (e : Fin 64) : (W7 m ρ c (Proc.devRef .tc main_v151) : FVec Ideal S8x4352x64 .f32) (ix3 b t e) = ((val_main_v145 (F := Ideal) x1 x2 x3 x12 : FVec Ideal Cert.ReferenceIdeal.S8x4352x64 .f32) (ix3 b t e) : EReal) := by
  rw [Cert.ReferenceIdeal.Stage.v145]
  have hC : (W6 m ρ c (Proc.devRef .tc main_v27) : FVec Ideal S4096x2x16 .f32) = (val_main_v98 (F := Ideal) : FVec Ideal S4096x2x16 .f32) := by
    rw [v27_6]; funext j
    rw [eq_ix3 j]
    exact (HostA.v27 (W0 m ρ c) _ _ _).trans (Cert.ReferenceIdeal.Stage.v98 _ _ _).symm
  have hS : (W6 m ρ c (Proc.devRef .tc main_v28) : FVec Ideal S4096x2x16 .f32) = (val_main_v99 (F := Ideal) : FVec Ideal S4096x2x16 .f32) := by
    rw [v28_6]; funext j
    rw [eq_ix3 j]
    exact (HostA.v28 (W0 m ρ c) _ _ _).trans (Cert.ReferenceIdeal.Stage.v99 _ _ _).symm
  refine (HostE.v151 (W6 m ρ c) _ (v79_6 m ρ c) _ _ hC hS b t e).trans ?_
  by_cases ht : t.val < 256
  · rw [dif_pos ht, dif_pos ht]
    exact congrFun ((W6_args m ρ c main_arg12 (by decide)).trans hx.a12) _
  · rw [dif_neg ht, dif_neg ht, Cert.ReferenceIdeal.Stage.v143]
    have hp : ∀ (n : ℕ) (hn : n < 64), P m ρ c (ix3 ⟨1 + b.val, by omega⟩ ⟨t.val - 256, by omega⟩ ⟨768 + n, by omega⟩)
        = (val_main_v40 (F := Ideal) x1 x2 x3 : FVec Ideal Cert.ReferenceIdeal.S8x4096x3904 .f32) (ix3 b ⟨t.val - 256, by omega⟩ ⟨768 + n, by omega⟩) :=
      fun n hn => p_at ρ hx _ b (by simp only []; omega) _ _ _ (Or.inl ⟨by simp only []; omega, rfl⟩)
    by_cases h1 : e.val / 16 % 2 < 1
    · rw [dif_pos h1, dif_pos h1]
      rw [← hp (e.val / 32 * 32 + e.val % 16) (by omega), ← hp (e.val / 32 * 32 + 16 + e.val % 16) (by omega)]
      rfl
    · rw [dif_neg h1, dif_neg h1]
      rw [← hp (e.val / 32 * 32 + e.val % 16) (by omega), ← hp (e.val / 32 * 32 + 16 + e.val % 16) (by omega)]
      rfl

include hx in
/-- A column of the keys without position, or of the values. -/
theorem kv_at (b : Fin 8) (t : Fin 4352) (n : Fin 2048) :
    kvaccF (W7 m ρ c (Proc.devRef .tc main_v150)) (W7 m ρ c (Proc.devRef .tc main_v152)) b t n = (val_main_v146 (F := Ideal) x1 x2 x3 x5 x7 x11 : FVec Ideal Cert.ReferenceIdeal.S8x4352x2048 .f32) (ix3 b t n) := by
  rw [Cert.ReferenceIdeal.Stage.v146]
  unfold kvaccF
  refine Finset.sum_congr rfl fun e _ => ?_
  rw [lat_at ρ hx b t e]
  refine congrArg (fun x : EReal => (val_main_v144 (F := Ideal) x1 x2 x3 x5 x11 : FVec Ideal Cert.ReferenceIdeal.S8x4352x256 .f32) (ix3 b t e) * x) ?_
  exact (HostD.v152 (W6 m ρ c) e n).trans (congrFun ((W6_args m ρ c main_arg7 (by decide)).trans hx.a7) _)

include hx in
/-- The part of a key without position. -/
theorem k_nope (b h : Fin 8) (t : Fin 4352) (n : Fin 128) : K m ρ c (ix4 b h t ⟨n.val, by omega⟩) = (val_main_v146 (F := Ideal) x1 x2 x3 x5 x7 x11 : FVec Ideal Cert.ReferenceIdeal.S8x4352x2048 .f32) (ix3 b t ⟨h.val * 256 + n.val, by omega⟩) := by
  rw [K_eq ρ]
  have hn : ((ix4 b h t ⟨n.val, by omega⟩ : S8x8x4352x192.Idx) 3).val < 128 := n.isLt
  unfold kF
  rw [dif_pos hn]
  exact kv_at ρ hx b t _

include hx in
/-- The rotated part of a key. -/
theorem k_rope (b h : Fin 8) (t : Fin 4352) (n : Fin 64) : K m ρ c (ix4 b h t ⟨128 + n.val, by omega⟩) = (val_main_v145 (F := Ideal) x1 x2 x3 x12 : FVec Ideal Cert.ReferenceIdeal.S8x4352x64 .f32) (ix3 b t n) := by
  rw [K_eq ρ]
  have hn : ¬ ((ix4 b h t ⟨128 + n.val, by omega⟩ : S8x8x4352x192.Idx) 3).val < 128 := by
    show ¬ 128 + n.val < 128
    omega
  unfold kF
  rw [dif_neg hn]
  refine Eq.trans ?_ (rot_at ρ hx b t n)
  exact congrArg (fun k => (W7 m ρ c (Proc.devRef .tc main_v151) : FVec Ideal S8x4352x64 .f32) (ix3 b t k)) (Fin.ext (show 128 + n.val - 128 = n.val by omega))

include hx in
/-- A value. -/
theorem v_at (b h : Fin 8) (t : Fin 4352) (n : Fin 128) : U m ρ c (ix4 b h t n) = (val_main_v146 (F := Ideal) x1 x2 x3 x5 x7 x11 : FVec Ideal Cert.ReferenceIdeal.S8x4352x2048 .f32) (ix3 b t ⟨h.val * 256 + (128 + n.val), by omega⟩) := by
  rw [U_eq ρ]
  refine (kv_at ρ hx b t _).trans ?_
  exact congrArg (fun k => (val_main_v146 (F := Ideal) x1 x2 x3 x5 x7 x11 : FVec Ideal Cert.ReferenceIdeal.S8x4352x2048 .f32) (ix3 b t k)) (Fin.ext (show h.val * 256 + 128 + n.val = h.val * 256 + (128 + n.val) by omega))

end Cert.Link

end
-- ==== Proof.RefB.lean ====
/- The reference of the mixers: its attention. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Stage

open Idealize.ShloMosaic Idealize.ShloMosaic.TcCoe Idealize.SL.Sem
open Idealize.ShloMosaic.Pipeline (Dat)
open Cert.ReferenceIdeal Cert.ReferenceIdeal.Gen Cert.ReferenceIdeal.Read

/-- The scaled score. -/
theorem v155 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) (u : Fin 4352) : (val_main_v155 (F := Ideal) x1 x2 x3 x4 x5 x6 x7 x11 x12 : FVec Ideal S8x8x4096x4352 .f32) (ix4 b h r u)
    = ((∑ e : Fin 128, (val_main_v60 (F := Ideal) x1 x2 x3 x4 x6 : FVec Ideal S8x4096x8x192 .f32) (ix4 b r h ⟨e.val, by omega⟩) * (val_main_v146 (F := Ideal) x1 x2 x3 x5 x7 x11 : FVec Ideal S8x4352x2048 .f32) (ix3 b u ⟨h.val * 256 + e.val, by omega⟩) + ∑ e : Fin 64, (val_main_v145 (F := Ideal) x1 x2 x3 x12 : FVec Ideal S8x4352x64 .f32) (ix3 b u e) * (val_main_v120 (F := Ideal) x1 x2 x3 x4 x6 : FVec Ideal S8x4096x8x64 .f32) (ix4 b r h e)) * Ideal.ofBits FTy.f32 1033096506#32 : EReal) := by
  unfold val_main_v155 val_main_v154 val_main_cst_12 val_main_v153 val_main_v152 val_main_v151 val_main_v150 val_main_v148 val_main_v147 val_main_v61
  generalize val_main_v120 (F := Ideal) x1 x2 x3 x4 x6 = y0
  generalize val_main_v145 (F := Ideal) x1 x2 x3 x12 = y1
  generalize val_main_v146 (F := Ideal) x1 x2 x3 x5 x7 x11 = y2
  generalize val_main_v60 (F := Ideal) x1 x2 x3 x4 x6 = y3
  pointwise

/-- The largest score of a row. -/
theorem v156 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) : (val_main_v156 (F := Ideal) x1 x2 x3 x4 x5 x6 x7 x11 x12 : FVec Ideal S8x8x4096 .f32) (ix3 b h r)
    = (Finset.univ.fold max (Ideal.ofBits .f32 0xFF800000#32) (fun t : Fin 4352 => (val_main_v155 (F := Ideal) x1 x2 x3 x4 x5 x6 x7 x11 x12 : FVec Ideal S8x8x4096x4352 .f32) (ix4 b h r t)) : EReal) := by
  unfold val_main_v156
  generalize val_main_v155 (F := Ideal) x1 x2 x3 x4 x5 x6 x7 x11 x12 = y
  pointwise
  rfl

/-- The largest score of a row, and at least the least value. -/
theorem v158 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) : (val_main_v158 (F := Ideal) x1 x2 x3 x4 x5 x6 x7 x11 x12 : FVec Ideal S8x8x4096 .f32) (ix3 b h r)
    = (max (Ideal.ofBits .f32 0xFF800000#32) ((val_main_v156 (F := Ideal) x1 x2 x3 x4 x5 x6 x7 x11 x12 : FVec Ideal S8x8x4096 .f32) (ix3 b h r)) : EReal) := by
  rw [val_main_v158_apply, val_main_v157_apply, val_main_cst_14_apply]
  generalize val_main_v156 (F := Ideal) x1 x2 x3 x4 x5 x6 x7 x11 x12 (ix3 b h r) = y
  rw [Ideal.maximumf_eq_max]
  rfl

/-- The exponential of a score less the largest. -/
theorem v162 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) (u : Fin 4352) : (val_main_v162 (F := Ideal) x1 x2 x3 x4 x5 x6 x7 x11 x12 : FVec Ideal S8x8x4096x4352 .f32) (ix4 b h r u)
    = (Ideal.exp ((val_main_v155 (F := Ideal) x1 x2 x3 x4 x5 x6 x7 x11 x12 : FVec Ideal S8x8x4096x4352 .f32) (ix4 b h r u) - (val_main_v158 (F := Ideal) x1 x2 x3 x4 x5 x6 x7 x11 x12 : FVec Ideal S8x8x4096 .f32) (ix3 b h r)) : EReal) := by
  unfold val_main_v162 val_main_v161 val_main_v160 val_main_v159
  generalize val_main_v155 (F := Ideal) x1 x2 x3 x4 x5 x6 x7 x11 x12 = y0
  generalize val_main_v158 (F := Ideal) x1 x2 x3 x4 x5 x6 x7 x11 x12 = y1
  pointwise

/-- The sum of a row of exponentials. -/
theorem v163 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) : (val_main_v163 (F := Ideal) x1 x2 x3 x4 x5 x6 x7 x11 x12 : FVec Ideal S8x8x4096 .f32) (ix3 b h r)
    = (∑ t : Fin 4352, (val_main_v162 (F := Ideal) x1 x2 x3 x4 x5 x6 x7 x11 x12 : FVec Ideal S8x8x4096x4352 .f32) (ix4 b h r t) : EReal) := by
  unfold val_main_v163 val_main_cst_15
  generalize val_main_v162 (F := Ideal) x1 x2 x3 x4 x5 x6 x7 x11 x12 = y0
  pointwise

/-- The weight of a key. -/
theorem v166 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b h : Fin 8) (r : Fin 4096) (u : Fin 4352) : (val_main_v166 (F := Ideal) x1 x2 x3 x4 x5 x6 x7 x11 x12 : FVec Ideal S8x8x4096x4352 .f32) (ix4 b h r u)
    = (Ideal.div ((val_main_v162 (F := Ideal) x1 x2 x3 x4 x5 x6 x7 x11 x12 : FVec Ideal S8x8x4096x4352 .f32) (ix4 b h r u)) ((val_main_v163 (F := Ideal) x1 x2 x3 x4 x5 x6 x7 x11 x12 : FVec Ideal S8x8x4096 .f32) (ix3 b h r)) : EReal) := by
  unfold val_main_v166 val_main_v165 val_main_v164
  generalize val_main_v162 (F := Ideal) x1 x2 x3 x4 x5 x6 x7 x11 x12 = y0
  generalize val_main_v163 (F := Ideal) x1 x2 x3 x4 x5 x6 x7 x11 x12 = y1
  pointwise

/-- The result of the attention. -/
theorem v169 (x1 : FVec Ideal S8x4096x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (x11 : FVec Ideal S8x256x256 .f32) (x12 : FVec Ideal S8x256x64 .f32) (b : Fin 8) (r : Fin 4096) (u : Fin 1024) : (val_main_v169 (F := Ideal) x1 x2 x3 x4 x5 x6 x7 x11 x12 : FVec Ideal S8x4096x1024 .f32) (ix3 b r u)
    = (∑ t : Fin 4352, (val_main_v146 (F := Ideal) x1 x2 x3 x5 x7 x11 : FVec Ideal S8x4352x2048 .f32) (ix3 b t ⟨u.val / 128 * 256 + (128 + u.val % 128), by omega⟩) * (val_main_v166 (F := Ideal) x1 x2 x3 x4 x5 x6 x7 x11 x12 : FVec Ideal S8x8x4096x4352 .f32) (ix4 b ⟨u.val / 128, by omega⟩ r t) : EReal) := by
  unfold val_main_v169 val_main_v168 val_main_v167 val_main_v149 val_main_v147
  generalize val_main_v146 (F := Ideal) x1 x2 x3 x5 x7 x11 = y0
  generalize val_main_v166 (F := Ideal) x1 x2 x3 x4 x5 x6 x7 x11 x12 = y1
  pointwise

end Cert.ReferenceIdeal.Stage

end
-- ==== Proof.Att.lean ====
/- The attention: what its result array holds. -/
module

public import proofs.«01_k».proof.Proof.Gen.KernelIdeal.Frame
public import proofs.«01_k».proof.Proof.Body
public import Idealize.ShloMosaic.Lib.Pipeline.ValueKit
public import Idealize.ShloMosaic.Lib.Pointwise

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg3.N, win3_0.index t = ![(grid3.coords t 0).val + 1, (grid3.coords t 1).val, (grid3.coords t 2).val, 0] ∧ win3_1.index t = ![(grid3.coords t 0).val, (grid3.coords t 1).val, 0, 0]
    ∧ win3_2.index t = ![(grid3.coords t 0).val, (grid3.coords t 1).val, 0, 0] ∧ win3_3.index t = ![(grid3.coords t 0).val, (grid3.coords t 2).val, (grid3.coords t 1).val] :=
  (by decide +kernel : ∀ t : Fin grid3.N, _)

/-- The block of queries. -/
theorem rd0 (c : Dev nD) (t : Fin cfg3.N) (r : Fin 256) (e : Fin 192) (b : Fin 9) (h : Fin 8) (R : Fin 4096)
    (hb : b.val = (grid3.coords t 0).val + 1) (hh : h.val = (grid3.coords t 1).val) (hR : R.val = (grid3.coords t 2).val * 256 + r.val) :
    (iblk3 V c 0 t : Vec Ideal S1x1x256x192 .bf16) (ix4 0 0 r e) = (V c main_v93 : FVec Ideal S9x8x4096x192 .bf16) (ix4 b h R e) := by
  blk_point [iblk3, idx t]

/-- The block of keys. -/
theorem rd1 (c : Dev nD) (t : Fin cfg3.N) (r : Fin 4352) (e : Fin 192) (b : Fin 8) (h : Fin 8)
    (hb : b.val = (grid3.coords t 0).val) (hh : h.val = (grid3.coords t 1).val) :
    (iblk3 V c 1 t : Vec Ideal S1x1x4352x192 .bf16) (ix4 0 0 r e) = (V c main_v153_0 : FVec Ideal S8x8x4352x192 .bf16) (ix4 b h r e) := by
  blk_point [iblk3, idx t]

/-- The block of values. -/
theorem rd2 (c : Dev nD) (t : Fin cfg3.N) (r : Fin 4352) (e : Fin 128) (b : Fin 8) (h : Fin 8)
    (hb : b.val = (grid3.coords t 0).val) (hh : h.val = (grid3.coords t 1).val) :
    (iblk3 V c 2 t : Vec Ideal S1x1x4352x128 .bf16) (ix4 0 0 r e) = (V c main_v153_1 : FVec Ideal S8x8x4352x128 .bf16) (ix4 b h r e) := by
  blk_point [iblk3, idx t]

/-- What the body stores at block row `r` and lane `l` of point `t`, at the array index `j` under it. -/
theorem core (c : Dev nD) (t : Fin cfg3.N) (r : Fin 256) (l : Fin 128) (j : S8x4096x1024.Idx) (h0 : (j 0).val = (grid3.coords t 0).val)
    (h1 : (j 1).val = (grid3.coords t 2).val * 256 + r.val) (h2 : (j 2).val = (grid3.coords t 1).val * 128 + l.val) :
    k3_pay1 (F := Ideal) (iblk3 V c 0 t) (iblk3 V c 1 t) (iblk3 V c 2 t) (ix3 0 r l)
    = attF (V c main_v93) (V c main_v153_0) (V c main_v153_1) j := by
  have hl : l.val < 128 := l.isLt
  have hj0 : (j 0).val < 8 := (j 0).isLt
  have hj2 : (j 2).val < 1024 := (j 2).isLt
  refine (k3_at _ _ _ r l).trans ?_
  unfold attF scoreF
  refine congrArg₂ softF (funext fun u => Finset.sum_congr rfl fun e _ => ?_) (funext fun u => ?_)
  · exact congrArg₂ (· * ·)
      (rd0 V c t r e ⟨(j 0).val + 1, by omega⟩ ⟨(j 2).val / 128, by omega⟩ (j 1)
        (by show (j 0).val + 1 = _; omega) (by show (j 2).val / 128 = _; omega) h1)
      (rd1 V c t u e (j 0) ⟨(j 2).val / 128, by omega⟩ h0 (by show (j 2).val / 128 = _; omega))
  · refine (rd2 V c t u l (j 0) ⟨(j 2).val / 128, by omega⟩ h0 (by show (j 2).val / 128 = _; omega)).trans ?_
    exact congrArg (fun l : Fin 128 => (V c main_v153_1 : FVec Ideal S8x8x4352x128 .bf16) (ix4 (j 0) ⟨(j 2).val / 128, by omega⟩ u l))
      (Fin.ext (by show l.val = (j 2).val % 128; omega))

/-- The result array after the run. -/
theorem final (c : Dev nD) : (dat3 V c).arrAt 3 cfg3.N = attF (V c main_v93) (V c main_v153_0) (V c main_v153_1) := by
  refine (dat3 V c).arrAt_eq_of_covers 3 _ (by decide +kernel) fun t _ y => ?_
  blk_simp
  rw [after3_3]; frame_out
  obtain ⟨r, l, rfl⟩ : ∃ (r : Fin 256) (l : Fin 128), y = (ix3 0 r l : S1x256x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ ?_ ?_ <;> (blk_simp [idx t] <;> try omega)

end Cert.KernelIdeal.Att

end
-- ==== Proof.LinkE.lean ====
/- The attention against the reference. -/
module

public import proofs.«01_k».proof.Proof.LinkB
public import proofs.«01_k».proof.Proof.LinkC
public import proofs.«01_k».proof.Proof.RefB
public import proofs.«01_k».proof.Proof.Att

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

include hx in
/-- A score of the fourth call is the reference's. -/
theorem score_at (B : Fin 8) (h : Fin 8) (r : Fin 4096) (t : Fin 4352) :
    scoreF (Q m ρ c) (K m ρ c) B h r t = (val_main_v155 (F := Ideal) x1 x2 x3 x4 x5 x6 x7 x11 x12 : FVec Ideal Cert.ReferenceIdeal.S8x8x4096x4352 .f32) (ix4 B h r t) := by
  rw [Cert.ReferenceIdeal.Stage.v155]
  obtain ⟨k, hk0, hk⟩ := ofBits_scale
  unfold scoreF
  rw [sum_192, hk, add_mul_coe _ _ k hk0.le, sum_mul_coe _ _ k hk0.le, sum_mul_coe _ _ k hk0.le]
  refine congrArg₂ (· + ·) (Finset.sum_congr rfl fun e _ => ?_) (Finset.sum_congr rfl fun e _ => ?_)
  · rw [q_nope ρ hx ⟨B.val + 1, by omega⟩ B rfl h r e, k_nope ρ hx B h t e, hk]
    rw [mul_assoc, mul_comm (k : EReal) _, ← mul_assoc]
  · rw [q_rope ρ hx ⟨B.val + 1, by omega⟩ B rfl h r e, k_rope ρ hx B h t e, hk]
    rw [mul_assoc, mul_comm (k : EReal) _, ← mul_assoc, mul_comm ((val_main_v120 (F := Ideal) x1 x2 x3 x4 x6 : FVec Ideal Cert.ReferenceIdeal.S8x4096x8x64 .f32) (ix4 B r h e)) _]

include hx in
/-- The attention is the reference's, when the scores are real numbers. -/
theorem att_at (hs : ∀ b h r t, IsR ((val_main_v155 (F := Ideal) x1 x2 x3 x4 x5 x6 x7 x11 x12 : FVec Ideal Cert.ReferenceIdeal.S8x8x4096x4352 .f32) (ix4 b h r t))) (b : Fin 8) (r : Fin 4096) (n : Fin 1024) :
    (W12 m ρ c (Proc.devRef .tc main_v154) : FVec Ideal S8x4096x1024 .f32) (ix3 b r n) = (val_main_v169 (F := Ideal) x1 x2 x3 x4 x5 x6 x7 x11 x12 : FVec Ideal S8x4096x1024 .f32) (ix3 b r n) := by
  rw [v154_12, Cert.ReferenceIdeal.Stage.v169]
  refine (congrFun ((W9_arr m ρ c 3).trans (Att.final (V8 m ρ) c)) (ix3 b r n)).trans ?_
  have hq : (V8 m ρ c main_v93 : FVec Ideal S9x8x4096x192 .bf16) = Q m ρ c := v93_8 m ρ c
  rw [hq]
  show softF (scoreF (Q m ρ c) (K m ρ c) b ⟨n.val / 128, _⟩ r) (fun t => U m ρ c (ix4 b ⟨n.val / 128, _⟩ t ⟨n.val % 128, _⟩)) = _
  have e1 : scoreF (Q m ρ c) (K m ρ c) b ⟨n.val / 128, by omega⟩ r = fun t => (val_main_v155 (F := Ideal) x1 x2 x3 x4 x5 x6 x7 x11 x12 : FVec Ideal Cert.ReferenceIdeal.S8x8x4096x4352 .f32) (ix4 b ⟨n.val / 128, by omega⟩ r t) :=
    funext fun t => score_at ρ hx b _ r t
  have e2 : (fun t => U m ρ c (ix4 b ⟨n.val / 128, by omega⟩ t ⟨n.val % 128, by omega⟩) : Fin 4352 → EReal)
      = fun t => (val_main_v146 (F := Ideal) x1 x2 x3 x5 x7 x11 : FVec Ideal Cert.ReferenceIdeal.S8x4352x2048 .f32) (ix3 b t ⟨n.val / 128 * 256 + (128 + n.val % 128), by omega⟩) :=
    funext fun t => v_at ρ hx b _ t _
  rw [e1, e2]
  unfold softF
  rw [ofBits_neg_inf]
  refine (soft_eq (by norm_num) _ _ fun t => hs b _ r t).trans ?_
  refine Finset.sum_congr rfl fun t _ => ?_
  rw [Cert.ReferenceIdeal.Stage.v166, Cert.ReferenceIdeal.Stage.v163]
  simp only [Cert.ReferenceIdeal.Stage.v162, Cert.ReferenceIdeal.Stage.v158, Cert.ReferenceIdeal.Stage.v156, ofBits_neg_inf]
  rw [max_eq_right bot_le]

end Cert.Link

end
-- ==== Proof.Finite.lean ====
/- With real arguments the scores are real numbers. -/
module

public import proofs.«01_k».proof.Proof.Alg
public import proofs.«01_k».proof.Proof.RefA
public import proofs.«01_k».proof.Proof.RefB

@[expose] public section

set_option maxRecDepth 16384

noncomputable section

namespace Cert.Finite

open Idealize.ShloMosaic Idealize.ShloMosaic.TcCoe Idealize.SL.Sem
open Idealize.ShloMosaic.Pipeline (Dat)
open Cert.ReferenceIdeal Cert.Alg Cert.ReferenceIdeal.Read

variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}

/-- The angle of a position is a real number. -/
theorem ang_real (N p : BitVec 32) : IsR (FloatOps.sitofp (F := Ideal) FTy.f32 N * Ideal.pow (Ideal.ofBits FTy.f32 1176256512#32)
    (Ideal.div (-FloatOps.sitofp (F := Ideal) FTy.f32 p) (Ideal.ofBits FTy.f32 1098907648#32))) := by
  rw [ofBits_16]
  exact isR_mul (isR_sitofp _) (isR_pow ofBits_base (isR_div (isR_neg (isR_sitofp _)) 16 (by norm_num)))

/-- Its cosine. -/
theorem cos_real (r : Fin 4096) (a : Fin 2) (p : Fin 16) : IsR ((val_main_v98 (F := Ideal) : FVec Ideal S4096x2x16 .f32) (ix3 r a p)) := by
  rw [Cert.ReferenceIdeal.Stage.v98]
  exact isR_cos (ang_real _ _)

/-- Its sine. -/
theorem sin_real (r : Fin 4096) (a : Fin 2) (p : Fin 16) : IsR ((val_main_v99 (F := Ideal) : FVec Ideal S4096x2x16 .f32) (ix3 r a p)) := by
  rw [Cert.ReferenceIdeal.Stage.v99]
  exact isR_sin (ang_real _ _)

variable (h1 : ∀ i, IsR (x1 i)) (h2 : ∀ i, IsR (x2 i)) (h3 : ∀ i, IsR (x3 i)) (h4 : ∀ i, IsR (x4 i)) (h5 : ∀ i, IsR (x5 i)) (h6 : ∀ i, IsR (x6 i))
  (h7 : ∀ i, IsR (x7 i)) (h11 : ∀ i, IsR (x11 i)) (h12 : ∀ i, IsR (x12 i))

include h1 h2 h3 in
/-- The projection of the samples. -/
theorem proj_real (b : Fin 8) (r : Fin 4096) (n : Fin 3904) : IsR ((val_main_v40 (F := Ideal) x1 x2 x3 : FVec Ideal Cert.ReferenceIdeal.S8x4096x3904 .f32) (ix3 b r n)) := by
  rw [Cert.ReferenceIdeal.Stage.v40]
  exact isR_sum _ _ fun k => isR_mul (isR_add (isR_mul (h1 _) (isR_add isR_one (h2 _))) (h2 _)) (h3 _)

include h1 h2 h3 h4 h6 in
/-- The queries. -/
theorem que_real (b : Fin 8) (r : Fin 4096) (h : Fin 8) (n : Fin 192) : IsR ((val_main_v60 (F := Ideal) x1 x2 x3 x4 x6 : FVec Ideal Cert.ReferenceIdeal.S8x4096x8x192 .f32) (ix4 b r h n)) := by
  rw [Cert.ReferenceIdeal.Stage.v60, Cert.ReferenceIdeal.Stage.v59]
  refine isR_sum _ _ fun e => isR_mul (isR_mul (isR_mul (proj_real h1 h2 h3 _ _ _) ?_) (h4 _)) (h6 _)
  rw [ofBits_512]
  exact isR_rms _ (fun i => proj_real h1 h2 h3 _ _ _) 512 (by norm_num)

include h1 h2 h3 h4 h6 in
/-- The rotated parts of the queries. -/
theorem qrot_real (b : Fin 8) (r : Fin 4096) (h : Fin 8) (n : Fin 64) : IsR ((val_main_v120 (F := Ideal) x1 x2 x3 x4 x6 : FVec Ideal Cert.ReferenceIdeal.S8x4096x8x64 .f32) (ix4 b r h n)) := by
  rw [Cert.ReferenceIdeal.Stage.v120]
  split
  · exact isR_sub (isR_mul (que_real h1 h2 h3 h4 h6 _ _ _ _) (cos_real _ _ _)) (isR_mul (que_real h1 h2 h3 h4 h6 _ _ _ _) (sin_real _ _ _))
  · exact isR_add (isR_mul (que_real h1 h2 h3 h4 h6 _ _ _ _) (cos_real _ _ _)) (isR_mul (que_real h1 h2 h3 h4 h6 _ _ _ _) (sin_real _ _ _))

include h1 h2 h3 h12 in
/-- The rotated keys. -/
theorem krot_real (b : Fin 8) (t : Fin 4352) (n : Fin 64) : IsR ((val_main_v145 (F := Ideal) x1 x2 x3 x12 : FVec Ideal Cert.ReferenceIdeal.S8x4352x64 .f32) (ix3 b t n)) := by
  rw [Cert.ReferenceIdeal.Stage.v145]
  split
  · exact h12 _
  · rw [Cert.ReferenceIdeal.Stage.v143]
    split
    · exact isR_sub (isR_mul (proj_real h1 h2 h3 _ _ _) (cos_real _ _ _)) (isR_mul (proj_real h1 h2 h3 _ _ _) (sin_real _ _ _))
    · exact isR_add (isR_mul (proj_real h1 h2 h3 _ _ _) (cos_real _ _ _)) (isR_mul (proj_real h1 h2 h3 _ _ _) (sin_real _ _ _))

include h1 h2 h3 h5 h7 h11 in
/-- The keys without position, and the values. -/
theorem kv_real (b : Fin 8) (t : Fin 4352) (n : Fin 2048) : IsR ((val_main_v146 (F := Ideal) x1 x2 x3 x5 x7 x11 : FVec Ideal Cert.ReferenceIdeal.S8x4352x2048 .f32) (ix3 b t n)) := by
  rw [Cert.ReferenceIdeal.Stage.v146]
  refine isR_sum _ _ fun e => isR_mul ?_ (h7 _)
  rw [Cert.ReferenceIdeal.Stage.v144]
  split
  · exact h11 _
  · refine isR_mul (isR_mul (proj_real h1 h2 h3 _ _ _) ?_) (h5 _)
    rw [ofBits_256]
    exact isR_rms _ (fun i => proj_real h1 h2 h3 _ _ _) 256 (by norm_num)

include h1 h2 h3 h4 h5 h6 h7 h11 h12 in
/-- The scores. -/
theorem score_real (b h : Fin 8) (r : Fin 4096) (t : Fin 4352) : IsR ((val_main_v155 (F := Ideal) x1 x2 x3 x4 x5 x6 x7 x11 x12 : FVec Ideal Cert.ReferenceIdeal.S8x8x4096x4352 .f32) (ix4 b h r t)) := by
  rw [Cert.ReferenceIdeal.Stage.v155]
  obtain ⟨k, _, hk⟩ := ofBits_scale
  rw [hk]
  exact isR_mul (isR_add (isR_sum _ _ fun e => isR_mul (que_real h1 h2 h3 h4 h6 _ _ _ _) (kv_real h1 h2 h3 h5 h7 h11 _ _ _))
    (isR_sum _ _ fun e => isR_mul (krot_real h1 h2 h3 h12 _ _ _) (qrot_real h1 h2 h3 h4 h6 _ _ _ _))) (isR_coe k)

end Cert.Finite

end
-- ==== Proof.Real.lean ====
/- The precondition read back: which arguments hold real numbers. -/
module

public import proofs.«01_k».proof.Proof.Alg
public import proofs.«01_k».proof.Proof.Gen.Pre_finite
public import Idealize.ShloMosaic.Lib.ReduceAll
public import Idealize.ShloMosaic.Lib.Pipeline.ValueKit
public import Idealize.ShloMosaic.Lib.Pointwise

@[expose] public section

set_option maxRecDepth 16384

noncomputable section

namespace Cert.Real

open Idealize.ShloMosaic Idealize.ShloMosaic.TcCoe Idealize.SL.Sem
open Idealize.ShloMosaic.Pipeline (Dat)
open Cert.KernelIdeal

open Cert.Alg

/-- A scalar has one index. -/
instance : Subsingleton (Cert.Pre_finite.S_).Idx := ⟨fun a b => funext fun k => k.elim0⟩

/-- A value whose absolute value is below infinity is a real number. -/
theorem isR_of {x : EReal} (h : Ideal.cmp .olt (max x (-x)) (Ideal.ofBits .f32 0x7F800000#32) = 1#1) : IsR x := by
  rw [ofBits_inf] at h
  rw [isR_iff]
  constructor
  · rintro rfl; simp [Ideal.cmp] at h
  · rintro rfl; simp [Ideal.cmp] at h

/-- An array all of whose values compare so holds real numbers. -/
theorem isR_all {s : Shape} {axes : List (Fin s.rank)} (x : FVec Ideal s .f32) (hb : (Cert.Pre_finite.S_).BroadcastsInDim s ![]) (h : s.ReducesTo axes Cert.Pre_finite.S_)
    (hu : 0 < (Cert.Pre_finite.S_).numel) (j : (Cert.Pre_finite.S_).Idx)
    (e : Host.reduce IntOp.andi (cmpf .olt (Host.absf x) (broadcastInDim s ![] hb (constant (F := Ideal) Cert.Pre_finite.S_ .f32 0x7F800000#32)))
      (constantI Cert.Pre_finite.S_ 1 1#1) h hu j = 1#1) : ∀ i, IsR (x i) := fun i =>
  isR_of (Host.reduce_andi_all _ _ h hu j e i)

/-- Under the precondition the arrays the scores depend on hold real numbers. -/
theorem real [Cert.Pre_finite.Facts] (x0 : FVec Ideal S16x256x2048 .f32) (x1 : FVec Ideal S8x4096x2048 .f32) (x2 : FVec Ideal S9x6x2048 .f32) (x3 : FVec Ideal S2048x3904 .f32)
    (x4 : FVec Ideal S512 .f32) (x5 : FVec Ideal S256 .f32) (x6 : FVec Ideal S512x1536 .f32) (x7 : FVec Ideal S256x2048 .f32) (x8 : FVec Ideal S3x512 .f32)
    (x9 : FVec Ideal S3x1536 .f32) (x10 : FVec Ideal S1536 .f32) (x11 : FVec Ideal S8x256x256 .f32) (x12 : FVec Ideal S8x256x64 .f32)
    (h : Cert.Pre_finite.fn (F := Ideal) x0 x1 x2 x3 x4 x5 x6 x7 x8 x9 x10 x11 x12 = fun _ => 1#1) :
    (∀ i, IsR (x1 i)) ∧ (∀ i, IsR (x2 i)) ∧ (∀ i, IsR (x3 i)) ∧ (∀ i, IsR (x4 i)) ∧ (∀ i, IsR (x5 i)) ∧ (∀ i, IsR (x6 i))
    ∧ (∀ i, IsR (x7 i)) ∧ (∀ i, IsR (x11 i)) ∧ (∀ i, IsR (x12 i)) ∧ (∀ i, IsR (x0 i)) := by
  have e := congrFun h (fun a => a.elim0)
  dsimp only [Cert.Pre_finite.fn, Cert.Pre_finite.fn_part1, Cert.Pre_finite.fn_part2] at e
  obtain ⟨e, e0⟩ := IntOp.andi_eq_one.1 e
  obtain ⟨e, e12⟩ := IntOp.andi_eq_one.1 e
  obtain ⟨e, e11⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isR_all x1 _ _ _ _ e1, isR_all x2 _ _ _ _ e2, isR_all x3 _ _ _ _ e3, isR_all x4 _ _ _ _ e4, isR_all x5 _ _ _ _ e5,
    isR_all x6 _ _ _ _ e6, isR_all x7 _ _ _ _ e7, isR_all x11 _ _ _ _ e11, isR_all x12 _ _ _ _ e12, isR_all x0 _ _ _ _ e0⟩

end Cert.Real

end
-- ==== Proof.CarryC.lean ====
/- What the later steps leave as it was. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- Array 96 of the host code is not written between steps 7 and 12. -/
theorem v96_12 : (W12 m ρ c (Proc.devRef .tc main_v96) : FVec Ideal S16x256x4096 .f32) = W7 m ρ c (Proc.devRef .tc main_v96) :=
  (W12_of m ρ c main_v96 (by decide)).trans ((W11_of m ρ c main_v96 (by decide)).trans ((W10_of m ρ c main_v96 (by decide)).trans ((W9_of m ρ c main_v96 (by decide)).trans ((W8_of m ρ c main_v96 (by decide))))))

/-- Array 96 of the host code is not written between steps 7 and 14. -/
theorem v96_14 : (W14 m ρ c (Proc.devRef .tc main_v96) : FVec Ideal S16x256x4096 .f32) = W7 m ρ c (Proc.devRef .tc main_v96) :=
  (W14_of m ρ c main_v96 (by decide)).trans ((W13_of m ρ c main_v96 (by decide)).trans ((W12_of m ρ c main_v96 (by decide)).trans ((W11_of m ρ c main_v96 (by decide)).trans ((W10_of m ρ c main_v96 (by decide)).trans ((W9_of m ρ c main_v96 (by decide)).trans ((W8_of m ρ c main_v96 (by decide))))))))

/-- Array 93 of the host code is not written between steps 6 and 15. -/
theorem v93_15 : (W15 m ρ c (Proc.devRef .tc main_v93) : FVec Ideal S9x8x4096x192 .bf16) = W6 m ρ c (Proc.devRef .tc main_v93) :=
  (W15_of m ρ c main_v93 (by decide)).trans ((W14_of m ρ c main_v93 (by decide)).trans ((W13_of m ρ c main_v93 (by decide)).trans ((W12_of m ρ c main_v93 (by decide)).trans ((W11_of m ρ c main_v93 (by decide)).trans ((W10_of m ρ c main_v93 (by decide)).trans ((W9_of m ρ c main_v93 (by decide)).trans ((W8_of m ρ c main_v93 (by decide)).trans ((W7_of m ρ c main_v93 (by decide))))))))))

/-- Array 164 of the host code is not written between steps 16 and 17. -/
theorem v164_17 : (W17 m ρ c (Proc.devRef .tc main_v164) : FVec Ideal S16x8x256x192 .bf16) = W16 m ρ c (Proc.devRef .tc main_v164) :=
  (W17_of m ρ c main_v164 (by decide))

/-- Array 110 of the host code is not written between steps 12 and 16. -/
theorem v110_16 : (W16 m ρ c (Proc.devRef .tc main_v110) : FVec Ideal S16x256x256 .f32) = W12 m ρ c (Proc.devRef .tc main_v110) :=
  (W16_of m ρ c main_v110 (by decide)).trans ((W15_of m ρ c main_v110 (by decide)).trans ((W14_of m ρ c main_v110 (by decide)).trans ((W13_of m ρ c main_v110 (by decide)))))

/-- Array 111 of the host code is not written between steps 12 and 16. -/
theorem v111_16 : (W16 m ρ c (Proc.devRef .tc main_v111) : FVec Ideal S16x256x64 .f32) = W12 m ρ c (Proc.devRef .tc main_v111) :=
  (W16_of m ρ c main_v111 (by decide)).trans ((W15_of m ρ c main_v111 (by decide)).trans ((W14_of m ρ c main_v111 (by decide)).trans ((W13_of m ρ c main_v111 (by decide)))))

/-- Array 152 of the host code is not written between steps 7 and 16. -/
theorem v152_16 : (W16 m ρ c (Proc.devRef .tc main_v152) : FVec Ideal S256x2048 .bf16) = W7 m ρ c (Proc.devRef .tc main_v152) :=
  (W16_of m ρ c main_v152 (by decide)).trans ((W15_of m ρ c main_v152 (by decide)).trans ((W14_of m ρ c main_v152 (by decide)).trans ((W13_of m ρ c main_v152 (by decide)).trans ((W12_of m ρ c main_v152 (by decide)).trans ((W11_of m ρ c main_v152 (by decide)).trans ((W10_of m ρ c main_v152 (by decide)).trans ((W9_of m ρ c main_v152 (by decide)).trans ((W8_of m ρ c main_v152 (by decide))))))))))

/-- Array 110 of the host code is not written between steps 12 and 18. -/
theorem v110_18 : (W18 m ρ c (Proc.devRef .tc main_v110) : FVec Ideal S16x256x256 .f32) = W12 m ρ c (Proc.devRef .tc main_v110) :=
  (W18_of m ρ c main_v110 (by decide)).trans ((W17_of m ρ c main_v110 (by decide)).trans ((W16_of m ρ c main_v110 (by decide)).trans ((W15_of m ρ c main_v110 (by decide)).trans ((W14_of m ρ c main_v110 (by decide)).trans ((W13_of m ρ c main_v110 (by decide)))))))

/-- Array 111 of the host code is not written between steps 12 and 18. -/
theorem v111_18 : (W18 m ρ c (Proc.devRef .tc main_v111) : FVec Ideal S16x256x64 .f32) = W12 m ρ c (Proc.devRef .tc main_v111) :=
  (W18_of m ρ c main_v111 (by decide)).trans ((W17_of m ρ c main_v111 (by decide)).trans ((W16_of m ρ c main_v111 (by decide)).trans ((W15_of m ρ c main_v111 (by decide)).trans ((W14_of m ρ c main_v111 (by decide)).trans ((W13_of m ρ c main_v111 (by decide)))))))

/-- Array 154 of the host code is not written between steps 12 and 18. -/
theorem v154_18 : (W18 m ρ c (Proc.devRef .tc main_v154) : FVec Ideal S8x4096x1024 .f32) = W12 m ρ c (Proc.devRef .tc main_v154) :=
  (W18_of m ρ c main_v154 (by decide)).trans ((W17_of m ρ c main_v154 (by decide)).trans ((W16_of m ρ c main_v154 (by decide)).trans ((W15_of m ρ c main_v154 (by decide)).trans ((W14_of m ρ c main_v154 (by decide)).trans ((W13_of m ρ c main_v154 (by decide)))))))

/-- Array 155 of the host code is not written between steps 12 and 18. -/
theorem v155_18 : (W18 m ρ c (Proc.devRef .tc main_v155) : FVec Ideal S8x4096x512 .f32) = W12 m ρ c (Proc.devRef .tc main_v155) :=
  (W18_of m ρ c main_v155 (by decide)).trans ((W17_of m ρ c main_v155 (by decide)).trans ((W16_of m ρ c main_v155 (by decide)).trans ((W15_of m ρ c main_v155 (by decide)).trans ((W14_of m ρ c main_v155 (by decide)).trans ((W13_of m ρ c main_v155 (by decide)))))))

/-- Array 157 of the host code is not written between steps 12 and 18. -/
theorem v157_18 : (W18 m ρ c (Proc.devRef .tc main_v157) : FVec Ideal S8x4096x1536 .f32) = W12 m ρ c (Proc.devRef .tc main_v157) :=
  (W18_of m ρ c main_v157 (by decide)).trans ((W17_of m ρ c main_v157 (by decide)).trans ((W16_of m ρ c main_v157 (by decide)).trans ((W15_of m ρ c main_v157 (by decide)).trans ((W14_of m ρ c main_v157 (by decide)).trans ((W13_of m ρ c main_v157 (by decide)))))))

/-- Array 158 of the host code is not written between steps 13 and 18. -/
theorem v158_18 : (W18 m ρ c (Proc.devRef .tc main_v158) : FVec Ideal S16x256x512 .f32) = W13 m ρ c (Proc.devRef .tc main_v158) :=
  (W18_of m ρ c main_v158 (by decide)).trans ((W17_of m ρ c main_v158 (by decide)).trans ((W16_of m ρ c main_v158 (by decide)).trans ((W15_of m ρ c main_v158 (by decide)).trans ((W14_of m ρ c main_v158 (by decide))))))

/-- Array 160 of the host code is not written between steps 15 and 18. -/
theorem v160_18 : (W18 m ρ c (Proc.devRef .tc main_v160) : FVec Ideal S16x256x1536 .f32) = W15 m ρ c (Proc.devRef .tc main_v160) :=
  (W18_of m ρ c main_v160 (by decide)).trans ((W17_of m ρ c main_v160 (by decide)).trans ((W16_of m ρ c main_v160 (by decide))))

end Cert.Link

end
-- ==== Proof.FnsC.lean ====
/- What each call of the prompts' mixers computes, as a function of the arrays it reads. -/
module

public import proofs.«01_k».proof.Proof.Gen.KernelIdeal
public import Idealize.ShloMosaic.Lib.Pipeline.ValueKit
public import Idealize.ShloMosaic.Lib.Pointwise

@[expose] public section

set_option maxRecDepth 16384

noncomputable section

namespace Cert.KernelIdeal.Mix

open Idealize.ShloMosaic Idealize.ShloMosaic.TcCoe Idealize.SL.Sem
open Idealize.ShloMosaic.Pipeline (Dat)
open Cert.KernelIdeal Cert.KernelIdeal.Gen

/-- The score of a prompt's query row `r` against its key `t`. -/
def scoreC (q k : FVec Ideal S16x8x256x192 .bf16) (b : Fin 16) (h : Fin 8) (r t : Fin 256) : EReal :=
  ∑ e : Fin 192, q (ix4 b h r e) * k (ix4 b h t e)

/-- The attention of a prompt's row of scores over the values. -/
def softC (s : Fin 256 → EReal) (v : Fin 256 → EReal) : EReal :=
  Ideal.div (∑ t : Fin 256, Ideal.exp (s t - Finset.univ.fold max (Ideal.ofBits .f32 0xFF800000#32) s) * v t)
    (∑ t : Fin 256, Ideal.exp (s t - Finset.univ.fold max (Ideal.ofBits .f32 0xFF800000#32) s))

/-- The prompts' attention's result. -/
def attC (q : FVec Ideal S16x8x256x192 .bf16) (k : FVec Ideal S16x8x256x192 .bf16) (v : FVec Ideal S16x8x256x128 .bf16) :
    FVec Ideal S16x256x1024 .f32 := fun j =>
  softC (scoreC q k (j 0) ⟨(j 2).val / 128, by have := (j 2).isLt; simp at this; omega⟩ (j 1))
    (fun t => v (ix4 (j 0) ⟨(j 2).val / 128, by have := (j 2).isLt; simp at this; omega⟩ t ⟨(j 2).val % 128, by omega⟩))

/-- A centred convolution of width three over the rows of a prompt's column. -/
def conv3C (u : Fin 256 → EReal) (w0 w1 w2 : EReal) (r : Fin 256) : EReal :=
  (if r.val = 0 then Ideal.ofBits .f32 0x00000000#32 else u ⟨(r.val + 256 - 1) % 256, by omega⟩) * w0 + u r * w1
    + (if r.val = 255 then Ideal.ofBits .f32 0x00000000#32 else u ⟨(r.val + 256 - 255) % 256, by omega⟩) * w2

/-- The short gated convolution of the prompts. -/
def scC (p : FVec Ideal S16x256x4096 .f32) (w : FVec Ideal S3x512 .f32) : FVec Ideal S16x256x512 .f32 := fun j =>
  p (ix3 (j 0) (j 1) ⟨1024 + (j 2).val, by have := (j 2).isLt; simp at this; omega⟩)
  * conv3C (fun r => p (ix3 (j 0) r ⟨1536 + (j 2).val, by have := (j 2).isLt; simp at this; omega⟩)
      * p (ix3 (j 0) r ⟨2048 + (j 2).val, by have := (j 2).isLt; simp at this; omega⟩))
    (w (ix2 0 (j 2))) (w (ix2 1 (j 2))) (w (ix2 2 (j 2))) (j 1)

/-- The convolution of the prompts' Hyena input. -/
def hyC (p : FVec Ideal S16x256x4096 .f32) (w : FVec Ideal S3x1536 .f32) (b : FVec Ideal S1x1536 .f32) :
    FVec Ideal S16x256x1536 .f32 := fun j =>
  conv3C (fun r => p (ix3 (j 0) r ⟨2560 + (j 2).val, by have := (j 2).isLt; simp at this; omega⟩))
    (w (ix2 0 (j 2))) (w (ix2 1 (j 2))) (w (ix2 2 (j 2))) (j 1) + b (ix2 0 (j 2))

/-- The prompts' key-value latent times the weights. -/
def kvaccC (ckv : FVec Ideal S16x256x256 .f32) (w : FVec Ideal S256x2048 .bf16) (b : Fin 16) (t : Fin 256) (n : Fin 2048) : EReal :=
  ∑ e : Fin 256, ckv (ix3 b t e) * w (ix2 e n)

/-- The prompts' keys: their parts without position, then the shared part. -/
def kC (ckv : FVec Ideal S16x256x256 .f32) (kr : FVec Ideal S16x256x64 .f32) (w : FVec Ideal S256x2048 .bf16) :
    FVec Ideal S16x8x256x192 .bf16 := fun j =>
  if h : (j 3).val < 128 then
    kvaccC ckv w (j 0) (j 2) ⟨(j 1).val * 256 + (j 3).val, by have := (j 1).isLt; simp at this; omega⟩
  else kr (ix3 (j 0) (j 2) ⟨(j 3).val - 128, by have := (j 3).isLt; simp at *; omega⟩)

/-- The prompts' values. -/
def vC (ckv : FVec Ideal S16x256x256 .f32) (w : FVec Ideal S256x2048 .bf16) : FVec Ideal S16x8x256x128 .bf16 := fun j =>
  kvaccC ckv w (j 0) (j 2) ⟨(j 1).val * 256 + 128 + (j 3).val, by have := (j 1).isLt; have := (j 3).isLt; simp at *; omega⟩

end Cert.KernelIdeal.Mix

end
-- ==== Proof.BodyC.lean ====
/- What the bodies of the prompts' calls compute at an index of their block. -/
module

public import proofs.«01_k».proof.Proof.Gen.KernelIdeal.Skeleton
public import proofs.«01_k».proof.Proof.FnsC
public import proofs.«01_k».proof.Proof.Body
public import Idealize.ShloMosaic.Lib.Pipeline.ValueKit
public import Idealize.ShloMosaic.Lib.Pointwise

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Mix

/-- A select on a row number of a prompt is a case distinction on it. -/
theorem sel_rowC (r : Fin 256) (n : ℕ) (hn : n < 256) (x y : EReal) :
    Scalar.select (IntOp.cmpi CmpIPredicate.eq (BitVec.ofNat 32 r.val) (BitVec.ofNat 32 n)) x y = if r.val = n then x else y := by
  have hr := r.isLt
  by_cases h : r.val = n
  · subst h; simp [Scalar.select, IntOp.cmpi]
  · have hne : (BitVec.ofNat 32 r.val) ≠ (BitVec.ofNat 32 n) := by
      intro he
      have := congrArg BitVec.toNat he
      simp only [BitVec.toNat_ofNat] at this
      omega
    simp [Scalar.select, IntOp.cmpi, h, beq_eq_false_iff_ne.mpr hne]

/-- The key-value latent of the block times the weights. -/
theorem k8_acc (ckv : Vec Ideal S1x256x256 .f32) (w : Vec Ideal S256x2048 .bf16) (r : Fin 256) (n : Fin 2048) :
    k8_pay2 (F := Ideal) ckv w (ix2 r n) = ∑ e : Fin 256, ckv (ix3 0 r e) * w (ix2 e n) := by
  pointwise [k8_pay2]

/-- The rotated part of the keys in the block. -/
theorem k8_rot (kr : Vec Ideal S1x256x64 .f32) (r : Fin 256) (l : Fin 64) : k8_pay3 (F := Ideal) kr (ix2 r l) = kr (ix3 0 r l) := by
  pointwise [k8_pay3]

/-- The attention's body at a block index. -/
theorem k9_at (q : Vec Ideal S1x1x256x192 .bf16) (k : Vec Ideal S1x1x256x192 .bf16) (v : Vec Ideal S1x1x256x128 .bf16) (r : Fin 256) (l : Fin 128) :
    k9_pay1 (F := Ideal) q k v (ix3 0 r l)
    = softC (fun t => ∑ e : Fin 192, q (ix4 0 0 r e) * k (ix4 0 0 t e)) (fun t => v (ix4 0 0 t l)) := by
  pointwise [k9_pay1]
  rfl

set_option maxRecDepth 200000 in
/-- The gated convolution's body at a block index. -/
theorem k6_at (a b d : Vec Ideal S1x256x128 .f32) (w : Vec Ideal S3x128 .f32) (r : Fin 256) (l : Fin 128) :
    k6_pay1 (F := Ideal) a b d w (ix3 0 r l)
    = a (ix3 0 r l) * conv3C (fun r => b (ix3 0 r l) * d (ix3 0 r l)) (w (ix2 0 l)) (w (ix2 1 l)) (w (ix2 2 l)) r := by
  pointwise [k6_pay1]
  unfold conv3C
  rw [sel_rowC r 0 (by omega), sel_rowC r 255 (by omega)]
  simp only [ite_mul, Ideal.ofBits_zero_f32, zero_mul]

set_option maxRecDepth 200000 in
/-- The convolution's body at a block index. -/
theorem k7_at (a : Vec Ideal S1x256x128 .f32) (w : Vec Ideal S3x128 .f32) (b : Vec Ideal S1x128 .f32) (r : Fin 256) (l : Fin 128) :
    k7_pay1 (F := Ideal) a w b (ix3 0 r l)
    = conv3C (fun r => a (ix3 0 r l)) (w (ix2 0 l)) (w (ix2 1 l)) (w (ix2 2 l)) r + b (ix2 0 l) := by
  pointwise [k7_pay1]
  unfold conv3C
  rw [sel_rowC r 0 (by omega), sel_rowC r 255 (by omega)]
  simp only [ite_mul, Ideal.ofBits_zero_f32, zero_mul]

end Cert.KernelIdeal.Body

end
-- ==== Proof.GateC.lean ====
/- The gated convolution of the prompts: what its result array holds. -/
module

public import proofs.«01_k».proof.Proof.Gen.KernelIdeal.Frame
public import proofs.«01_k».proof.Proof.BodyC
public import Idealize.ShloMosaic.Lib.Pipeline.ValueKit
public import Idealize.ShloMosaic.Lib.Pointwise

@[expose] public section

set_option maxRecDepth 16384

noncomputable section

namespace Cert.KernelIdeal.GateC

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg6.N, win6_0.index t = ![(grid6.coords t 0).val, 0, 8 + (grid6.coords t 1).val] ∧ win6_1.index t = ![(grid6.coords t 0).val, 0, 12 + (grid6.coords t 1).val]
    ∧ win6_2.index t = ![(grid6.coords t 0).val, 0, 16 + (grid6.coords t 1).val] ∧ win6_3.index t = ![0, (grid6.coords t 1).val] ∧ win6_4.index t = ![(grid6.coords t 0).val, 0, (grid6.coords t 1).val] :=
  (by decide +kernel : ∀ t : Fin grid6.N, _)

/-- The block of columns that window 0 takes. -/
theorem rd0 (c : Dev nD) (t : Fin cfg6.N) (r : Fin 256) (l : Fin 128) (b : Fin 16) (L : Fin 4096)
    (hb : b.val = (grid6.coords t 0).val) (hL : L.val = (8 + (grid6.coords t 1).val) * 128 + l.val) :
    (iblk6 V c 0 t : Vec Ideal S1x256x128 .f32) (ix3 0 r l) = (V c main_v96 : FVec Ideal S16x256x4096 .f32) (ix3 b r L) := by
  blk_point [iblk6, idx t]

/-- The block of columns that window 1 takes. -/
theorem rd1 (c : Dev nD) (t : Fin cfg6.N) (r : Fin 256) (l : Fin 128) (b : Fin 16) (L : Fin 4096)
    (hb : b.val = (grid6.coords t 0).val) (hL : L.val = (12 + (grid6.coords t 1).val) * 128 + l.val) :
    (iblk6 V c 1 t : Vec Ideal S1x256x128 .f32) (ix3 0 r l) = (V c main_v96 : FVec Ideal S16x256x4096 .f32) (ix3 b r L) := by
  blk_point [iblk6, idx t]

/-- The block of columns that window 2 takes. -/
theorem rd2 (c : Dev nD) (t : Fin cfg6.N) (r : Fin 256) (l : Fin 128) (b : Fin 16) (L : Fin 4096)
    (hb : b.val = (grid6.coords t 0).val) (hL : L.val = (16 + (grid6.coords t 1).val) * 128 + l.val) :
    (iblk6 V c 2 t : Vec Ideal S1x256x128 .f32) (ix3 0 r l) = (V c main_v96 : FVec Ideal S16x256x4096 .f32) (ix3 b r L) := by
  blk_point [iblk6, idx t]

/-- The block of the filter. -/
theorem rd3 (c : Dev nD) (t : Fin cfg6.N) (i : Fin 3) (l : Fin 128) (L : Fin 512) (hL : L.val = (grid6.coords t 1).val * 128 + l.val) :
    (iblk6 V c 3 t : Vec Ideal S3x128 .f32) (ix2 i l) = (V c main_arg8 : FVec Ideal S3x512 .f32) (ix2 i L) := by
  blk_point [iblk6, idx t]

/-- What the body stores at block row `r` and lane `l` of point `t`, at the array index `j` under it. -/
theorem core (c : Dev nD) (t : Fin cfg6.N) (r : Fin 256) (l : Fin 128) (j : S16x256x512.Idx) (h0 : (j 0).val = (grid6.coords t 0).val)
    (h1 : (j 1 : Fin 256) = r) (h2 : (j 2).val = (grid6.coords t 1).val * 128 + l.val) :
    k6_pay1 (F := Ideal) (iblk6 V c 0 t) (iblk6 V c 1 t) (iblk6 V c 2 t) (iblk6 V c 3 t) (ix3 0 r l)
    = scC (V c main_v96) (V c main_arg8) j := by
  have hj0 : (j 0).val < 16 := (j 0).isLt
  have hj2 : (j 2).val < 512 := (j 2).isLt
  refine (k6_at _ _ _ _ r l).trans ?_
  unfold scC
  subst h1
  refine congrArg₂ (· * ·) (rd0 V c t _ l (j 0) ⟨1024 + (j 2).val, by omega⟩ h0 (by show 1024 + (j 2).val = _; omega)) ?_
  congr 1
  · funext r
    exact congrArg₂ (· * ·)
      (rd1 V c t r l (j 0) ⟨1536 + (j 2).val, by omega⟩ h0 (by show 1536 + (j 2).val = _; omega))
      (rd2 V c t r l (j 0) ⟨2048 + (j 2).val, by omega⟩ h0 (by show 2048 + (j 2).val = _; omega))
  · exact rd3 V c t 0 l (j 2) h2
  · exact rd3 V c t 1 l (j 2) h2
  · exact rd3 V c t 2 l (j 2) h2

/-- The result array after the run. -/
theorem final (c : Dev nD) : (dat6 V c).arrAt 4 cfg6.N = scC (V c main_v96) (V c main_arg8) := by
  refine (dat6 V c).arrAt_eq_of_covers 4 _ (by decide +kernel) fun t _ y => ?_
  blk_simp
  rw [after6_4]; frame_out
  obtain ⟨r, l, rfl⟩ : ∃ (r : Fin 256) (l : Fin 128), y = (ix3 0 r l : S1x256x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ (Fin.ext ?_) ?_ <;> (blk_simp [idx t] <;> try omega)

end Cert.KernelIdeal.GateC

end
-- ==== Proof.HyC.lean ====
/- The convolution of the prompts' Hyena input: what its result array holds. -/
module

public import proofs.«01_k».proof.Proof.Gen.KernelIdeal.Frame
public import proofs.«01_k».proof.Proof.BodyC
public import Idealize.ShloMosaic.Lib.Pipeline.ValueKit
public import Idealize.ShloMosaic.Lib.Pointwise

@[expose] public section

set_option maxRecDepth 16384

noncomputable section

namespace Cert.KernelIdeal.HyC

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg7.N, win7_0.index t = ![(grid7.coords t 0).val, 0, 20 + (grid7.coords t 1).val] ∧ win7_1.index t = ![0, (grid7.coords t 1).val]
    ∧ win7_2.index t = ![0, (grid7.coords t 1).val] ∧ win7_3.index t = ![(grid7.coords t 0).val, 0, (grid7.coords t 1).val] :=
  (by decide +kernel : ∀ t : Fin grid7.N, _)

/-- The block of columns that window 0 takes. -/
theorem rd0 (c : Dev nD) (t : Fin cfg7.N) (r : Fin 256) (l : Fin 128) (b : Fin 16) (L : Fin 4096)
    (hb : b.val = (grid7.coords t 0).val) (hL : L.val = (20 + (grid7.coords t 1).val) * 128 + l.val) :
    (iblk7 V c 0 t : Vec Ideal S1x256x128 .f32) (ix3 0 r l) = (V c main_v96 : FVec Ideal S16x256x4096 .f32) (ix3 b r L) := by
  blk_point [iblk7, idx t]

/-- The block of the filter. -/
theorem rd1 (c : Dev nD) (t : Fin cfg7.N) (i : Fin 3) (l : Fin 128) (L : Fin 1536) (hL : L.val = (grid7.coords t 1).val * 128 + l.val) :
    (iblk7 V c 1 t : Vec Ideal S3x128 .f32) (ix2 i l) = (V c main_arg9 : FVec Ideal S3x1536 .f32) (ix2 i L) := by
  blk_point [iblk7, idx t]

/-- The block of the bias. -/
theorem rd2 (c : Dev nD) (t : Fin cfg7.N) (l : Fin 128) (L : Fin 1536) (hL : L.val = (grid7.coords t 1).val * 128 + l.val) :
    (iblk7 V c 2 t : Vec Ideal S1x128 .f32) (ix2 0 l) = (V c main_v159 : FVec Ideal S1x1536 .f32) (ix2 0 L) := by
  blk_point [iblk7, idx t]

/-- What the body stores at block row `r` and lane `l` of point `t`, at the array index `j` under it. -/
theorem core (c : Dev nD) (t : Fin cfg7.N) (r : Fin 256) (l : Fin 128) (j : S16x256x1536.Idx) (h0 : (j 0).val = (grid7.coords t 0).val)
    (h1 : (j 1 : Fin 256) = r) (h2 : (j 2).val = (grid7.coords t 1).val * 128 + l.val) :
    k7_pay1 (F := Ideal) (iblk7 V c 0 t) (iblk7 V c 1 t) (iblk7 V c 2 t) (ix3 0 r l)
    = hyC (V c main_v96) (V c main_arg9) (V c main_v159) j := by
  have hj0 : (j 0).val < 16 := (j 0).isLt
  have hj2 : (j 2).val < 1536 := (j 2).isLt
  refine (k7_at _ _ _ r l).trans ?_
  unfold hyC
  subst h1
  refine congrArg₂ (· + ·) ?_ (rd2 V c t l (j 2) h2)
  congr 1
  · funext r
    exact rd0 V c t r l (j 0) ⟨2560 + (j 2).val, by omega⟩ h0 (by show 2560 + (j 2).val = _; omega)
  · exact rd1 V c t 0 l (j 2) h2
  · exact rd1 V c t 1 l (j 2) h2
  · exact rd1 V c t 2 l (j 2) h2

/-- The result array after the run. -/
theorem final (c : Dev nD) : (dat7 V c).arrAt 3 cfg7.N = hyC (V c main_v96) (V c main_arg9) (V c main_v159) := by
  refine (dat7 V c).arrAt_eq_of_covers 3 _ (by decide +kernel) fun t _ y => ?_
  blk_simp
  rw [after7_3]; frame_out
  obtain ⟨r, l, rfl⟩ : ∃ (r : Fin 256) (l : Fin 128), y = (ix3 0 r l : S1x256x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ (Fin.ext ?_) ?_ <;> (blk_simp [idx t] <;> try omega)

end Cert.KernelIdeal.HyC

end
-- ==== Proof.HostF.lean ====
/- What the prompts' later calls read, by the program's own operations. -/
module

public import proofs.«01_k».proof.Proof.Gen.KernelIdeal.Frame
public import proofs.«01_k».proof.Proof.Fns
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

namespace Cert.KernelIdeal.HostF

open Idealize.ShloMosaic Idealize.ShloMosaic.TcCoe Idealize.SL.Sem
open Idealize.ShloMosaic.Pipeline (Dat)
open Cert.KernelIdeal Cert.KernelIdeal.Gen Cert.KernelIdeal.Mix

variable (X : Valuation τ sig (Elt Ideal))

/-- The prompts' projection, by prompt. -/
theorem v96 (b : Fin 16) (r : Fin 256) (n : Fin 4096) : (StableHlo.after (hostOps2 (F := Ideal)) X (Proc.devRef .tc main_v96) : FVec Ideal S16x256x4096 .f32) (ix3 b r n)
    = ((X (Proc.devRef .tc main_v79) : FVec Ideal S9x4096x4096 .f32) (ix3 0 ⟨b.val * 256 + r.val, by omega⟩ n) : EReal) := by
  after_reads_simp
  pointwise

/-- The bias of the Hyena input's convolution, for the prompts. -/
theorem v159 (l : Fin 1536) : (StableHlo.after (hostOps7 (F := Ideal)) X (Proc.devRef .tc main_v159) : FVec Ideal S1x1536 .f32) (ix2 0 l)
    = ((X (Proc.devRef .tc main_arg10) : FVec Ideal S1536 .f32) (ix1 l) : EReal) := by
  after_reads_simp
  pointwise

/-- The prompts' queries, by prompt. -/
theorem v164 (b : Fin 16) (h : Fin 8) (r : Fin 256) (e : Fin 192) : (StableHlo.after (hostOps8 (F := Ideal)) X (Proc.devRef .tc main_v164) : FVec Ideal S16x8x256x192 .bf16) (ix4 b h r e)
    = ((X (Proc.devRef .tc main_v93) : FVec Ideal S9x8x4096x192 .bf16) (ix4 0 h ⟨b.val * 256 + r.val, by omega⟩ e) : EReal) := by
  after_reads_simp
  pointwise

end Cert.KernelIdeal.HostF

end
-- ==== Proof.RefD.lean ====
/- The reference's stages for the prompts, at an index. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Stage

open Idealize.ShloMosaic Idealize.ShloMosaic.TcCoe Idealize.SL.Sem
open Idealize.ShloMosaic.Pipeline (Dat)
open Cert.ReferenceIdeal Cert.ReferenceIdeal.Gen Cert.ReferenceIdeal.Read

/-- Prompts: The short gated convolution. -/
theorem v250 (x0 : FVec Ideal S16x256x2048 .f32) (x2 : FVec Ideal S9x6x2048 .f32) (x3 : FVec Ideal S2048x3904 .f32) (x8 : FVec Ideal S3x512 .f32) (b : Fin 16) (r : Fin 256) (n : Fin 512) : (val_main_v250 (F := Ideal) x0 x2 x3 x8 : FVec Ideal S16x256x512 .f32) (ix3 b r n)
    = ((val_main_v12 (F := Ideal) x0 x2 x3 : FVec Ideal S16x256x3904 .f32) (ix3 b r ⟨832 + n.val, by omega⟩) * ((if h : 1 ≤ r.val ∧ r.val - 1 < 256 then (val_main_v12 (F := Ideal) x0 x2 x3 : FVec Ideal S16x256x3904 .f32) (ix3 b ⟨r.val - 1, by omega⟩ ⟨832 + (512 + n.val), by omega⟩) * (val_main_v12 (F := Ideal) x0 x2 x3 : FVec Ideal S16x256x3904 .f32) (ix3 b ⟨r.val - 1, by omega⟩ ⟨832 + (1024 + n.val), by omega⟩) else FloatOps.sitofp (F := Ideal) FTy.f32 0#32) * x8 (ix2 0 n) + (val_main_v12 (F := Ideal) x0 x2 x3 : FVec Ideal S16x256x3904 .f32) (ix3 b r ⟨832 + (512 + n.val), by omega⟩) * (val_main_v12 (F := Ideal) x0 x2 x3 : FVec Ideal S16x256x3904 .f32) (ix3 b r ⟨832 + (1024 + n.val), by omega⟩) * x8 (ix2 1 n) + (if h : 1 ≤ 2 + r.val ∧ 2 + r.val - 1 < 256 then (val_main_v12 (F := Ideal) x0 x2 x3 : FVec Ideal S16x256x3904 .f32) (ix3 b ⟨2 + r.val - 1, by omega⟩ ⟨832 + (512 + n.val), by omega⟩) * (val_main_v12 (F := Ideal) x0 x2 x3 : FVec Ideal S16x256x3904 .f32) (ix3 b ⟨2 + r.val - 1, by omega⟩ ⟨832 + (1024 + n.val), by omega⟩) else FloatOps.sitofp (F := Ideal) FTy.f32 0#32) * x8 (ix2 2 n)) : EReal) := by
  unfold val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_call2_v0 val_main_c_17 val_main_v228 val_main_v227 val_main_v226 val_main_v225 val_main_v223
  generalize val_main_v12 (F := Ideal) x0 x2 x3 = y0
  pointwise

/-- Prompts: The convolution of the Hyena group. -/
theorem v274 (x0 : FVec Ideal S16x256x2048 .f32) (x2 : FVec Ideal S9x6x2048 .f32) (x3 : FVec Ideal S2048x3904 .f32) (x9 : FVec Ideal S3x1536 .f32) (x10 : FVec Ideal S1536 .f32) (b : Fin 16) (r : Fin 256) (n : Fin 1536) : (val_main_v274 (F := Ideal) x0 x2 x3 x9 x10 : FVec Ideal S16x256x1536 .f32) (ix3 b r n)
    = ((if h : 1 ≤ r.val ∧ r.val - 1 < 256 then (val_main_v12 (F := Ideal) x0 x2 x3 : FVec Ideal S16x256x3904 .f32) (ix3 b ⟨r.val - 1, by omega⟩ ⟨2368 + n.val, by omega⟩) else FloatOps.sitofp (F := Ideal) FTy.f32 0#32) * x9 (ix2 0 n) + (val_main_v12 (F := Ideal) x0 x2 x3 : FVec Ideal S16x256x3904 .f32) (ix3 b r ⟨2368 + n.val, by omega⟩) * x9 (ix2 1 n) + (if h : 1 ≤ 2 + r.val ∧ 2 + r.val - 1 < 256 then (val_main_v12 (F := Ideal) x0 x2 x3 : FVec Ideal S16x256x3904 .f32) (ix3 b ⟨2 + r.val - 1, by omega⟩ ⟨2368 + n.val, by omega⟩) else FloatOps.sitofp (F := Ideal) FTy.f32 0#32) * x9 (ix2 2 n) + x10 (ix1 n) : EReal) := by
  unfold val_main_v274 val_main_v273 val_main_v272 val_main_v271 val_main_v270 val_main_v269 val_main_v268 val_main_v267 val_main_v266 val_main_v265 val_main_v264 val_main_v263 val_main_v262 val_main_v261 val_main_v260 val_main_v259 val_main_v258 val_main_v257 val_main_v256 val_main_v255 val_main_v254 val_main_v253 val_main_v252 val_main_v251 val_main_call3_v0 val_main_c_18 val_main_v224
  generalize val_main_v12 (F := Ideal) x0 x2 x3 = y0
  pointwise

/-- Prompts: The queries before their rotation. -/
theorem v288 (x0 : FVec Ideal S16x256x2048 .f32) (x2 : FVec Ideal S9x6x2048 .f32) (x3 : FVec Ideal S2048x3904 .f32) (x4 : FVec Ideal S512 .f32) (x6 : FVec Ideal S512x1536 .f32) (b : Fin 16) (r : Fin 256) (n : Fin 1536) : (val_main_v288 (F := Ideal) x0 x2 x3 x4 x6 : FVec Ideal S16x256x1536 .f32) (ix3 b r n)
    = (∑ e : Fin 512, (val_main_v12 (F := Ideal) x0 x2 x3 : FVec Ideal S16x256x3904 .f32) (ix3 b r ⟨e.val, by omega⟩) * Ideal.rsqrt (Ideal.div (∑ x : Fin 512, (val_main_v12 (F := Ideal) x0 x2 x3 : FVec Ideal S16x256x3904 .f32) (ix3 b r ⟨x.val, by omega⟩) * (val_main_v12 (F := Ideal) x0 x2 x3 : FVec Ideal S16x256x3904 .f32) (ix3 b r ⟨x.val, by omega⟩)) (Ideal.ofBits FTy.f32 1140850688#32) + Ideal.ofBits FTy.f32 897988541#32) * x4 (ix1 e) * x6 (ix2 e n) : EReal) := by
  unfold val_main_v288 val_main_v287 val_main_v286 val_main_v285 val_main_v284 val_main_v283 val_main_v282 val_main_v281 val_main_v280 val_main_cst_21 val_main_v279 val_main_v278 val_main_cst_20 val_main_v277 val_main_v276 val_main_cst_19 val_main_v275 val_main_v220
  generalize val_main_v12 (F := Ideal) x0 x2 x3 = y0
  pointwise

/-- Prompts: The queries by head. -/
theorem v289 (x0 : FVec Ideal S16x256x2048 .f32) (x2 : FVec Ideal S9x6x2048 .f32) (x3 : FVec Ideal S2048x3904 .f32) (x4 : FVec Ideal S512 .f32) (x6 : FVec Ideal S512x1536 .f32) (b : Fin 16) (r : Fin 256) (h : Fin 8) (n : Fin 192) : (val_main_v289 (F := Ideal) x0 x2 x3 x4 x6 : FVec Ideal S16x256x8x192 .f32) (ix4 b r h n)
    = ((val_main_v288 (F := Ideal) x0 x2 x3 x4 x6 : FVec Ideal S16x256x1536 .f32) (ix3 b r ⟨h.val * 192 + n.val, by omega⟩) : EReal) := by
  unfold val_main_v289
  generalize val_main_v288 (F := Ideal) x0 x2 x3 x4 x6 = y0
  pointwise

/-- Prompts: Keys without position, and values. -/
theorem v290 (x0 : FVec Ideal S16x256x2048 .f32) (x2 : FVec Ideal S9x6x2048 .f32) (x3 : FVec Ideal S2048x3904 .f32) (x5 : FVec Ideal S256 .f32) (x7 : FVec Ideal S256x2048 .f32) (b : Fin 16) (r : Fin 256) (n : Fin 2048) : (val_main_v290 (F := Ideal) x0 x2 x3 x5 x7 : FVec Ideal S16x256x2048 .f32) (ix3 b r n)
    = (∑ e : Fin 256, (val_main_v26 (F := Ideal) x0 x2 x3 x5 : FVec Ideal S16x256x256 .f32) (ix3 b r e) * x7 (ix2 e n) : EReal) := by
  unfold val_main_v290
  generalize val_main_v26 (F := Ideal) x0 x2 x3 x5 = y0
  pointwise

/-- Prompts: The scaled score. -/
theorem v301 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) (u : Fin 256) : (val_main_v301 (F := Ideal) x0 x2 x3 x4 x5 x6 x7 : FVec Ideal S16x8x256x256 .f32) (ix4 b h r u)
    = ((∑ e : Fin 128, (val_main_v289 (F := Ideal) x0 x2 x3 x4 x6 : FVec Ideal S16x256x8x192 .f32) (ix4 b r h ⟨e.val, by omega⟩) * (val_main_v290 (F := Ideal) x0 x2 x3 x5 x7 : FVec Ideal S16x256x2048 .f32) (ix3 b u ⟨h.val * 256 + e.val, by omega⟩) + ∑ e : Fin 64, (val_main_v27 (F := Ideal) x0 x2 x3 : FVec Ideal S16x256x64 .f32) (ix3 b u e) * (val_main_v289 (F := Ideal) x0 x2 x3 x4 x6 : FVec Ideal S16x256x8x192 .f32) (ix4 b r h ⟨128 + e.val, by omega⟩)) * Ideal.ofBits FTy.f32 1033096506#32 : EReal) := by
  unfold val_main_v301 val_main_v300 val_main_cst_22 val_main_v299 val_main_v298 val_main_v297 val_main_v295 val_main_v292 val_main_v291 val_main_v294 val_main_v296
  generalize val_main_v27 (F := Ideal) x0 x2 x3 = y1
  generalize val_main_v290 (F := Ideal) x0 x2 x3 x5 x7 = y2
  generalize val_main_v289 (F := Ideal) x0 x2 x3 x4 x6 = y3
  pointwise

/-- Prompts: The largest score of a row. -/
theorem v302 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) : (val_main_v302 (F := Ideal) x0 x2 x3 x4 x5 x6 x7 : FVec Ideal S16x8x256 .f32) (ix3 b h r)
    = (Finset.univ.fold max (Ideal.ofBits .f32 0xFF800000#32) (fun t : Fin 256 => (val_main_v301 (F := Ideal) x0 x2 x3 x4 x5 x6 x7 : FVec Ideal S16x8x256x256 .f32) (ix4 b h r t)) : EReal) := by
  unfold val_main_v302
  generalize val_main_v301 (F := Ideal) x0 x2 x3 x4 x5 x6 x7 = y
  pointwise
  rfl

/-- Prompts: The largest score of a row, and at least the least value. -/
theorem v304 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) : (val_main_v304 (F := Ideal) x0 x2 x3 x4 x5 x6 x7 : FVec Ideal S16x8x256 .f32) (ix3 b h r)
    = (max (Ideal.ofBits .f32 0xFF800000#32) ((val_main_v302 (F := Ideal) x0 x2 x3 x4 x5 x6 x7 : FVec Ideal S16x8x256 .f32) (ix3 b h r)) : EReal) := by
  rw [val_main_v304_apply, val_main_v303_apply, val_main_cst_24_apply]
  generalize val_main_v302 (F := Ideal) x0 x2 x3 x4 x5 x6 x7 (ix3 b h r) = y
  rw [Ideal.maximumf_eq_max]
  rfl

/-- Prompts: The exponential of a score less the largest. -/
theorem v308 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) (u : Fin 256) : (val_main_v308 (F := Ideal) x0 x2 x3 x4 x5 x6 x7 : FVec Ideal S16x8x256x256 .f32) (ix4 b h r u)
    = (Ideal.exp ((val_main_v301 (F := Ideal) x0 x2 x3 x4 x5 x6 x7 : FVec Ideal S16x8x256x256 .f32) (ix4 b h r u) - (val_main_v304 (F := Ideal) x0 x2 x3 x4 x5 x6 x7 : FVec Ideal S16x8x256 .f32) (ix3 b h r)) : EReal) := by
  unfold val_main_v308 val_main_v307 val_main_v306 val_main_v305
  generalize val_main_v301 (F := Ideal) x0 x2 x3 x4 x5 x6 x7 = y0
  generalize val_main_v304 (F := Ideal) x0 x2 x3 x4 x5 x6 x7 = y1
  pointwise

/-- Prompts: The sum of a row of exponentials. -/
theorem v309 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) : (val_main_v309 (F := Ideal) x0 x2 x3 x4 x5 x6 x7 : FVec Ideal S16x8x256 .f32) (ix3 b h r)
    = (∑ t : Fin 256, (val_main_v308 (F := Ideal) x0 x2 x3 x4 x5 x6 x7 : FVec Ideal S16x8x256x256 .f32) (ix4 b h r t) : EReal) := by
  unfold val_main_v309 val_main_cst_25
  generalize val_main_v308 (F := Ideal) x0 x2 x3 x4 x5 x6 x7 = y0
  pointwise

/-- Prompts: The weight of a key. -/
theorem v312 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (h : Fin 8) (r : Fin 256) (u : Fin 256) : (val_main_v312 (F := Ideal) x0 x2 x3 x4 x5 x6 x7 : FVec Ideal S16x8x256x256 .f32) (ix4 b h r u)
    = (Ideal.div ((val_main_v308 (F := Ideal) x0 x2 x3 x4 x5 x6 x7 : FVec Ideal S16x8x256x256 .f32) (ix4 b h r u)) ((val_main_v309 (F := Ideal) x0 x2 x3 x4 x5 x6 x7 : FVec Ideal S16x8x256 .f32) (ix3 b h r)) : EReal) := by
  unfold val_main_v312 val_main_v311 val_main_v310
  generalize val_main_v308 (F := Ideal) x0 x2 x3 x4 x5 x6 x7 = y0
  generalize val_main_v309 (F := Ideal) x0 x2 x3 x4 x5 x6 x7 = y1
  pointwise

/-- Prompts: The result of the attention. -/
theorem v315 (x0 : FVec Ideal S16x256x2048 .f32) (x2 : FVec Ideal S9x6x2048 .f32) (x3 : FVec Ideal S2048x3904 .f32) (x4 : FVec Ideal S512 .f32) (x5 : FVec Ideal S256 .f32) (x6 : FVec Ideal S512x1536 .f32) (x7 : FVec Ideal S256x2048 .f32) (b : Fin 16) (r : Fin 256) (u : Fin 1024) : (val_main_v315 (F := Ideal) x0 x2 x3 x4 x5 x6 x7 : FVec Ideal S16x256x1024 .f32) (ix3 b r u)
    = (∑ t : Fin 256, (val_main_v290 (F := Ideal) x0 x2 x3 x5 x7 : FVec Ideal S16x256x2048 .f32) (ix3 b t ⟨u.val / 128 * 256 + (128 + u.val % 128), by omega⟩) * (val_main_v312 (F := Ideal) x0 x2 x3 x4 x5 x6 x7 : FVec Ideal S16x8x256x256 .f32) (ix4 b ⟨u.val / 128, by omega⟩ r t) : EReal) := by
  unfold val_main_v315 val_main_v314 val_main_v313 val_main_v293 val_main_v291
  generalize val_main_v290 (F := Ideal) x0 x2 x3 x5 x7 = y0
  generalize val_main_v312 (F := Ideal) x0 x2 x3 x4 x5 x6 x7 = y1
  pointwise

end Cert.ReferenceIdeal.Stage

end
-- ==== Proof.LinkG.lean ====
/- The prompts' convolutions, compared with the reference's. -/
module

public import proofs.«01_k».proof.Proof.LinkA
public import proofs.«01_k».proof.Proof.Carry
public import proofs.«01_k».proof.Proof.HostE
public import proofs.«01_k».proof.Proof.RefC
public import proofs.«01_k».proof.Proof.Gate
public import proofs.«01_k».proof.Proof.Hy
public import proofs.«01_k».proof.Proof.CarryC
public import proofs.«01_k».proof.Proof.GateC
public import proofs.«01_k».proof.Proof.HyC
public import proofs.«01_k».proof.Proof.HostF
public import proofs.«01_k».proof.Proof.RefD
public import proofs.«01_k».proof.Proof.LinkD

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

/-- The prompts' projection, by prompt. -/
def PC (m : (ℓ : Loc nD τ sig) → Buf (Elt Ideal) ℓ) (ρ : Dev nD → PrngReg) (c : Dev nD) : FVec Ideal S16x256x4096 .f32 :=
  W7 m ρ c (Proc.devRef .tc main_v96)

include hx in
/-- It is the reference's. -/
theorem p96_at (b : Fin 16) (r : Fin 256) (N : Fin 4096) (M : Fin 3904) (hNM : (N.val < 832 ∧ M.val = N.val) ∨ (M.val + 192 = N.val ∧ 1024 ≤ N.val)) :
    PC m ρ c (ix3 b r N) = (val_main_v12 (F := Ideal) x0 x2 x3 : FVec Ideal Cert.ReferenceIdeal.S16x256x3904 .f32) (ix3 b r M) := by
  refine (HostF.v96 (W6 m ρ c) b r N).trans ?_
  rw [v79_6]
  exact pc_at ρ hx b r _ rfl _ _ hNM

/-- A prompt's convolution's first and last rows read a zero where the reference pads with one. -/
theorem convC_eq (u : Fin 256 → EReal) (w0 w1 w2 : EReal) (r : Fin 256) :
    conv3C u w0 w1 w2 r = (if h : 1 ≤ r.val ∧ r.val - 1 < 256 then u ⟨r.val - 1, by omega⟩ else FloatOps.sitofp (F := Ideal) FTy.f32 0#32) * w0 + u r * w1
      + (if h : 1 ≤ 2 + r.val ∧ 2 + r.val - 1 < 256 then u ⟨2 + r.val - 1, by omega⟩ else FloatOps.sitofp (F := Ideal) FTy.f32 0#32) * w2 := by
  have hz : (FloatOps.sitofp (F := Ideal) FTy.f32 0#32 : EReal) = Ideal.ofBits .f32 0x00000000#32 := by
    rw [Ideal.ofBits_zero_f32]
    show (((0#32 : BitVec 32).toInt : ℝ) : EReal) = 0
    simp
  unfold conv3C
  rw [hz]
  have e0 : (if r.val = 0 then Ideal.ofBits .f32 0x00000000#32 else u ⟨(r.val + 256 - 1) % 256, by omega⟩ : EReal)
      = if h : 1 ≤ r.val ∧ r.val - 1 < 256 then u ⟨r.val - 1, by omega⟩ else Ideal.ofBits .f32 0x00000000#32 := by
    by_cases h : r.val = 0
    · rw [if_pos h, dif_neg (by omega)]
    · rw [if_neg h, dif_pos (by omega)]; exact congrArg u (Fin.ext (by simp only []; omega))
  have e2 : (if r.val = 255 then Ideal.ofBits .f32 0x00000000#32 else u ⟨(r.val + 256 - 255) % 256, by omega⟩ : EReal)
      = if h : 1 ≤ 2 + r.val ∧ 2 + r.val - 1 < 256 then u ⟨2 + r.val - 1, by omega⟩ else Ideal.ofBits .f32 0x00000000#32 := by
    by_cases h : r.val = 255
    · rw [if_pos h, dif_neg (by omega)]
    · rw [if_neg h, dif_pos (by omega)]; exact congrArg u (Fin.ext (by simp only []; omega))
  rw [e0, e2]

include hx in
/-- The prompts' short gated convolution is the reference's. -/
theorem scC_at (b : Fin 16) (r : Fin 256) (n : Fin 512) : (W18 m ρ c (Proc.devRef .tc main_v158) : FVec Ideal S16x256x512 .f32) (ix3 b r n) = (val_main_v250 (F := Ideal) x0 x2 x3 x8 : FVec Ideal S16x256x512 .f32) (ix3 b r n) := by
  rw [v158_18, Cert.ReferenceIdeal.Stage.v250]
  refine (congrFun ((W13_arr m ρ c 4).trans (GateC.final (V12 m ρ) c)) (ix3 b r n)).trans ?_
  have h8 : (V12 m ρ c main_arg8 : FVec Ideal S3x512 .f32) = x8 := (W12_args m ρ c main_arg8 (by decide)).trans hx.a8
  have h79 : (V12 m ρ c main_v96 : FVec Ideal S16x256x4096 .f32) = PC m ρ c := v96_12 m ρ c
  rw [h8, h79]
  show (PC m ρ c (ix3 b r ⟨1024 + n.val, _⟩) * conv3C (fun r => PC m ρ c (ix3 b r ⟨1536 + n.val, _⟩)
      * PC m ρ c (ix3 b r ⟨2048 + n.val, _⟩)) (x8 (ix2 0 n)) (x8 (ix2 1 n)) (x8 (ix2 2 n)) r : EReal) = _
  rw [convC_eq]
  have e1 : ∀ r, PC m ρ c (ix3 b r ⟨1024 + n.val, by omega⟩) = (val_main_v12 (F := Ideal) x0 x2 x3 : FVec Ideal Cert.ReferenceIdeal.S16x256x3904 .f32) (ix3 b r ⟨832 + n.val, by omega⟩) :=
    fun r => p96_at ρ hx b r _ _ (Or.inr ⟨by simp only []; omega, by simp only []; omega⟩)
  have e2 : ∀ r, PC m ρ c (ix3 b r ⟨1536 + n.val, by omega⟩) = (val_main_v12 (F := Ideal) x0 x2 x3 : FVec Ideal Cert.ReferenceIdeal.S16x256x3904 .f32) (ix3 b r ⟨832 + (512 + n.val), by omega⟩) :=
    fun r => p96_at ρ hx b r _ _ (Or.inr ⟨by simp only []; omega, by simp only []; omega⟩)
  have e3 : ∀ r, PC m ρ c (ix3 b r ⟨2048 + n.val, by omega⟩) = (val_main_v12 (F := Ideal) x0 x2 x3 : FVec Ideal Cert.ReferenceIdeal.S16x256x3904 .f32) (ix3 b r ⟨832 + (1024 + n.val), by omega⟩) :=
    fun r => p96_at ρ hx b r _ _ (Or.inr ⟨by simp only []; omega, by simp only []; omega⟩)
  simp only [e1, e2, e3]

include hx in
/-- The prompts' Hyena group's convolution is the reference's. -/
theorem uC_at (b : Fin 16) (r : Fin 256) (n : Fin 1536) : (W18 m ρ c (Proc.devRef .tc main_v160) : FVec Ideal S16x256x1536 .f32) (ix3 b r n) = (val_main_v274 (F := Ideal) x0 x2 x3 x9 x10 : FVec Ideal S16x256x1536 .f32) (ix3 b r n) := by
  rw [v160_18, Cert.ReferenceIdeal.Stage.v274]
  refine (congrFun ((W15_arr m ρ c 3).trans (HyC.final (V14 m ρ) c)) (ix3 b r n)).trans ?_
  have h9 : (V14 m ρ c main_arg9 : FVec Ideal S3x1536 .f32) = x9 := (W14_args m ρ c main_arg9 (by decide)).trans hx.a9
  have h79 : (V14 m ρ c main_v96 : FVec Ideal S16x256x4096 .f32) = PC m ρ c := v96_14 m ρ c
  have h159 : (V14 m ρ c main_v159 : FVec Ideal S1x1536 .f32) (ix2 0 n) = (x10 (ix1 n) : EReal) :=
    (HostF.v159 (W13 m ρ c) n).trans (congrFun ((W13_args m ρ c main_arg10 (by decide)).trans hx.a10) (ix1 n))
  rw [h9, h79]
  show (conv3C (fun r => PC m ρ c (ix3 b r ⟨2560 + n.val, _⟩)) (x9 (ix2 0 n)) (x9 (ix2 1 n)) (x9 (ix2 2 n)) r
    + (V14 m ρ c main_v159 : FVec Ideal S1x1536 .f32) (ix2 0 n) : EReal) = _
  rw [convC_eq, h159]
  have e1 : ∀ r, PC m ρ c (ix3 b r ⟨2560 + n.val, by omega⟩) = (val_main_v12 (F := Ideal) x0 x2 x3 : FVec Ideal Cert.ReferenceIdeal.S16x256x3904 .f32) (ix3 b r ⟨2368 + n.val, by omega⟩) :=
    fun r => p96_at ρ hx b r _ _ (Or.inr ⟨by simp only []; omega, by simp only []; omega⟩)
  simp only [e1]

end Cert.Link

end
-- ==== Proof.PayC.lean ====
/- What each head's store of the prompts' keys and values writes at an index of its piece. -/
module

public import proofs.«01_k».proof.Proof.Gen.KernelIdeal.Skeleton
public import proofs.«01_k».proof.Proof.Fns
public import Idealize.ShloMosaic.Lib.Pipeline.ValueKit
public import Idealize.ShloMosaic.Lib.Pointwise

@[expose] public section

set_option maxRecDepth 16384

noncomputable section

namespace Cert.KernelIdeal.PayC

open Idealize.ShloMosaic Idealize.ShloMosaic.TcCoe Idealize.SL.Sem
open Idealize.ShloMosaic.Pipeline (Dat)
open Cert.KernelIdeal Cert.KernelIdeal.Gen Cert.KernelIdeal.Mix

/-- What head 0's store of the part of the keys without position writes. -/
theorem kn0 (p : Vec Ideal S1x256x256 .f32) (w : Vec Ideal S256x2048 .bf16) (r : Fin 256) (l : Fin 128) (n : Fin 2048) (hn : n.val = 0 + l.val) :
    k8_pay4 (F := Ideal) p w (ix4 0 0 r l) = k8_pay2 (F := Ideal) p w (ix2 r n) := by
  rw [show n = ⟨0 + l.val, by clear hn; omega⟩ from Fin.ext hn]
  pointwise [k8_pay4]

/-- What head 0's store of the values writes. -/
theorem vn0 (p : Vec Ideal S1x256x256 .f32) (w : Vec Ideal S256x2048 .bf16) (r : Fin 256) (l : Fin 128) (n : Fin 2048) (hn : n.val = 128 + l.val) :
    k8_pay6 (F := Ideal) p w (ix4 0 0 r l) = k8_pay2 (F := Ideal) p w (ix2 r n) := by
  rw [show n = ⟨128 + l.val, by clear hn; omega⟩ from Fin.ext hn]
  pointwise [k8_pay6]

/-- What head 0's store of the rotated part of the keys writes. -/
theorem kr0 (p : Vec Ideal S1x256x64 .f32) (r : Fin 256) (l : Fin 64) : k8_pay5 (F := Ideal) p (ix4 0 0 r l) = k8_pay3 (F := Ideal) p (ix2 r l) := by
  pointwise [k8_pay5]

/-- What head 1's store of the part of the keys without position writes. -/
theorem kn1 (p : Vec Ideal S1x256x256 .f32) (w : Vec Ideal S256x2048 .bf16) (r : Fin 256) (l : Fin 128) (n : Fin 2048) (hn : n.val = 256 + l.val) :
    k8_pay7 (F := Ideal) p w (ix4 0 0 r l) = k8_pay2 (F := Ideal) p w (ix2 r n) := by
  rw [show n = ⟨256 + l.val, by clear hn; omega⟩ from Fin.ext hn]
  pointwise [k8_pay7]

/-- What head 1's store of the values writes. -/
theorem vn1 (A : FVec Ideal S256x2048 .f32) (r : Fin 256) (l : Fin 128) (n : Fin 2048) (hn : n.val = 384 + l.val) :
    k8_pay9 (F := Ideal) A (ix4 0 0 r l) = A (ix2 r n) := by
  rw [show n = ⟨384 + l.val, by clear hn; omega⟩ from Fin.ext hn]
  pointwise [k8_pay9]

/-- What head 1's store of the rotated part of the keys writes. -/
theorem kr1 (A : FVec Ideal S256x64 .bf16) (r : Fin 256) (l : Fin 64) : k8_pay8 (F := Ideal) A (ix4 0 0 r l) = A (ix2 r l) := by
  pointwise [k8_pay8]

/-- What head 2's store of the part of the keys without position writes. -/
theorem kn2 (A : FVec Ideal S256x2048 .f32) (r : Fin 256) (l : Fin 128) (n : Fin 2048) (hn : n.val = 512 + l.val) :
    k8_pay10 (F := Ideal) A (ix4 0 0 r l) = A (ix2 r n) := by
  rw [show n = ⟨512 + l.val, by clear hn; omega⟩ from Fin.ext hn]
  pointwise [k8_pay10]

/-- What head 2's store of the values writes. -/
theorem vn2 (A : FVec Ideal S256x2048 .f32) (r : Fin 256) (l : Fin 128) (n : Fin 2048) (hn : n.val = 640 + l.val) :
    k8_pay12 (F := Ideal) A (ix4 0 0 r l) = A (ix2 r n) := by
  rw [show n = ⟨640 + l.val, by clear hn; omega⟩ from Fin.ext hn]
  pointwise [k8_pay12]

/-- What head 2's store of the rotated part of the keys writes. -/
theorem kr2 (A : FVec Ideal S256x64 .bf16) (r : Fin 256) (l : Fin 64) : k8_pay11 (F := Ideal) A (ix4 0 0 r l) = A (ix2 r l) := by
  pointwise [k8_pay11]

/-- What head 3's store of the part of the keys without position writes. -/
theorem kn3 (A : FVec Ideal S256x2048 .f32) (r : Fin 256) (l : Fin 128) (n : Fin 2048) (hn : n.val = 768 + l.val) :
    k8_pay13 (F := Ideal) A (ix4 0 0 r l) = A (ix2 r n) := by
  rw [show n = ⟨768 + l.val, by clear hn; omega⟩ from Fin.ext hn]
  pointwise [k8_pay13]

/-- What head 3's store of the values writes. -/
theorem vn3 (A : FVec Ideal S256x2048 .f32) (r : Fin 256) (l : Fin 128) (n : Fin 2048) (hn : n.val = 896 + l.val) :
    k8_pay15 (F := Ideal) A (ix4 0 0 r l) = A (ix2 r n) := by
  rw [show n = ⟨896 + l.val, by clear hn; omega⟩ from Fin.ext hn]
  pointwise [k8_pay15]

/-- What head 3's store of the rotated part of the keys writes. -/
theorem kr3 (A : FVec Ideal S256x64 .bf16) (r : Fin 256) (l : Fin 64) : k8_pay14 (F := Ideal) A (ix4 0 0 r l) = A (ix2 r l) := by
  pointwise [k8_pay14]

/-- What head 4's store of the part of the keys without position writes. -/
theorem kn4 (A : FVec Ideal S256x2048 .f32) (r : Fin 256) (l : Fin 128) (n : Fin 2048) (hn : n.val = 1024 + l.val) :
    k8_pay16 (F := Ideal) A (ix4 0 0 r l) = A (ix2 r n) := by
  rw [show n = ⟨1024 + l.val, by clear hn; omega⟩ from Fin.ext hn]
  pointwise [k8_pay16]

/-- What head 4's store of the values writes. -/
theorem vn4 (A : FVec Ideal S256x2048 .f32) (r : Fin 256) (l : Fin 128) (n : Fin 2048) (hn : n.val = 1152 + l.val) :
    k8_pay18 (F := Ideal) A (ix4 0 0 r l) = A (ix2 r n) := by
  rw [show n = ⟨1152 + l.val, by clear hn; omega⟩ from Fin.ext hn]
  pointwise [k8_pay18]

/-- What head 4's store of the rotated part of the keys writes. -/
theorem kr4 (A : FVec Ideal S256x64 .bf16) (r : Fin 256) (l : Fin 64) : k8_pay17 (F := Ideal) A (ix4 0 0 r l) = A (ix2 r l) := by
  pointwise [k8_pay17]

/-- What head 5's store of the part of the keys without position writes. -/
theorem kn5 (A : FVec Ideal S256x2048 .f32) (r : Fin 256) (l : Fin 128) (n : Fin 2048) (hn : n.val = 1280 + l.val) :
    k8_pay19 (F := Ideal) A (ix4 0 0 r l) = A (ix2 r n) := by
  rw [show n = ⟨1280 + l.val, by clear hn; omega⟩ from Fin.ext hn]
  pointwise [k8_pay19]

/-- What head 5's store of the values writes. -/
theorem vn5 (A : FVec Ideal S256x2048 .f32) (r : Fin 256) (l : Fin 128) (n : Fin 2048) (hn : n.val = 1408 + l.val) :
    k8_pay22 (F := Ideal) (k8_pay21 (F := Ideal) A) (ix4 0 0 r l) = A (ix2 r n) := by
  rw [show n = ⟨1408 + l.val, by clear hn; omega⟩ from Fin.ext hn]
  pointwise [k8_pay22, k8_pay21]

/-- What head 5's store of the rotated part of the keys writes. -/
theorem kr5 (A : FVec Ideal S256x64 .bf16) (r : Fin 256) (l : Fin 64) : k8_pay20 (F := Ideal) A (ix4 0 0 r l) = A (ix2 r l) := by
  pointwise [k8_pay20]

/-- What head 6's store of the part of the keys without position writes. -/
theorem kn6 (A : FVec Ideal S256x2048 .f32) (r : Fin 256) (l : Fin 128) (n : Fin 2048) (hn : n.val = 1536 + l.val) :
    k8_pay23 (F := Ideal) A (ix4 0 0 r l) = A (ix2 r n) := by
  rw [show n = ⟨1536 + l.val, by clear hn; omega⟩ from Fin.ext hn]
  pointwise [k8_pay23]

/-- What head 6's store of the values writes. -/
theorem vn6 (A : FVec Ideal S256x2048 .f32) (r : Fin 256) (l : Fin 128) (n : Fin 2048) (hn : n.val = 1664 + l.val) :
    k8_pay25 (F := Ideal) A (ix4 0 0 r l) = A (ix2 r n) := by
  rw [show n = ⟨1664 + l.val, by clear hn; omega⟩ from Fin.ext hn]
  pointwise [k8_pay25]

/-- What head 6's store of the rotated part of the keys writes. -/
theorem kr6 (A : FVec Ideal S256x64 .bf16) (r : Fin 256) (l : Fin 64) : k8_pay24 (F := Ideal) A (ix4 0 0 r l) = A (ix2 r l) := by
  pointwise [k8_pay24]

/-- What head 7's store of the part of the keys without position writes. -/
theorem kn7 (A : FVec Ideal S256x2048 .f32) (r : Fin 256) (l : Fin 128) (n : Fin 2048) (hn : n.val = 1792 + l.val) :
    k8_pay26 (F := Ideal) A (ix4 0 0 r l) = A (ix2 r n) := by
  rw [show n = ⟨1792 + l.val, by clear hn; omega⟩ from Fin.ext hn]
  pointwise [k8_pay26]

/-- What head 7's store of the values writes. -/
theorem vn7 (A : FVec Ideal S256x2048 .f32) (r : Fin 256) (l : Fin 128) (n : Fin 2048) (hn : n.val = 1920 + l.val) :
    k8_pay1 (F := Ideal) (k8_pay28 (F := Ideal) A) (ix4 0 0 r l) = A (ix2 r n) := by
  rw [show n = ⟨1920 + l.val, by clear hn; omega⟩ from Fin.ext hn]
  pointwise [k8_pay1, k8_pay28]

/-- What head 7's store of the rotated part of the keys writes. -/
theorem kr7 (A : FVec Ideal S256x64 .bf16) (r : Fin 256) (l : Fin 64) : k8_pay27 (F := Ideal) A (ix4 0 0 r l) = A (ix2 r l) := by
  pointwise [k8_pay27]

end Cert.KernelIdeal.PayC

end
-- ==== Proof.KvC.lean ====
/- The prompts' key and value projection: what its result arrays hold. -/
module

public import proofs.«01_k».proof.Proof.Gen.KernelIdeal.Frame
public import proofs.«01_k».proof.Proof.BodyC
public import proofs.«01_k».proof.Proof.PayC
public import Idealize.ShloMosaic.Lib.Pipeline.ValueKit
public import Idealize.ShloMosaic.Lib.Pointwise

@[expose] public section

set_option maxRecDepth 16384

noncomputable section

namespace Cert.KernelIdeal.KvC

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg8.N, win8_0.index t = ![(grid8.coords t 0).val, (grid8.coords t 1).val, 0]
    ∧ win8_1.index t = ![(grid8.coords t 0).val, (grid8.coords t 1).val, 0] ∧ win8_2.index t = ![0, 0]
    ∧ win8_3.index t = ![(grid8.coords t 0).val, 0, (grid8.coords t 1).val, 0]
    ∧ win8_4.index t = ![(grid8.coords t 0).val, 0, (grid8.coords t 1).val, 0] :=
  (by decide +kernel : ∀ t : Fin grid8.N, _)

/-- The block of keys, from the latent times the weights `A` and the rotated part `R`. -/
def blkK (A : FVec Ideal S256x2048 .f32) (R : FVec Ideal S256x64 .bf16) (y : S1x8x256x192.Idx) : EReal :=
  if h : (y 3).val < 128 then
    A (ix2 (y 2) ⟨(y 1).val * 256 + (y 3).val, by have := (y 1).isLt; simp at this; omega⟩)
  else R (ix2 (y 2) ⟨(y 3).val - 128, by have := (y 3).isLt; simp at *; omega⟩)

/-- The block of values, from the latent times the weights `A`. -/
def blkV (A : FVec Ideal S256x2048 .f32) (y : S1x8x256x128.Idx) : EReal :=
  A (ix2 (y 2) ⟨(y 1).val * 256 + 128 + (y 3).val, by have := (y 1).isLt; have := (y 3).isLt; simp at *; omega⟩)

/-- A piece of the keys' part without position. -/
theorem blkK_nope (A : FVec Ideal S256x2048 .f32) (R : FVec Ideal S256x64 .bf16) (P : FVec Ideal S1x1x256x128 .bf16) (x : S1x1x256x128.Idx)
    (y : S1x8x256x192.Idx) (o : ℕ) (hP : ∀ (r : Fin 256) (l : Fin 128) (n : Fin 2048), n.val = o + l.val → P (ix4 0 0 r l) = A (ix2 r n))
    (h1 : (y 1).val * 256 = o) (h2 : (y 2).val = (x 2).val) (h3 : (y 3).val = (x 3).val) : P x = blkK A R y := by
  have hx : x = (ix4 0 0 (x 2) (x 3) : S1x1x256x128.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 128 := (x 3).isLt
  unfold blkK
  refine (congrArg P hx).trans (Eq.trans ?_ (dif_pos (by omega)).symm)
  refine (hP _ _ ⟨(y 1).val * 256 + (y 3).val, by have : (y 1).val < 8 := (y 1).isLt; omega⟩ (by show (y 1).val * 256 + (y 3).val = o + (x 3).val; omega)).trans ?_
  exact congrArg (fun r : Fin 256 => A (ix2 r _)) (Fin.ext h2.symm)

/-- A piece of the keys' rotated part. -/
theorem blkK_rope (A : FVec Ideal S256x2048 .f32) (R : FVec Ideal S256x64 .bf16) (P : FVec Ideal S1x1x256x64 .bf16) (x : S1x1x256x64.Idx)
    (y : S1x8x256x192.Idx) (hP : ∀ (r : Fin 256) (l : Fin 64), P (ix4 0 0 r l) = R (ix2 r l))
    (h2 : (y 2).val = (x 2).val) (h3 : (y 3).val = 128 + (x 3).val) : P x = blkK A R y := by
  have hx : x = (ix4 0 0 (x 2) (x 3) : S1x1x256x64.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 64 := (x 3).isLt
  unfold blkK
  refine (congrArg P hx).trans (Eq.trans ?_ (dif_neg (by omega)).symm)
  refine (hP _ _).trans ?_
  refine (congrArg (fun r : Fin 256 => R (ix2 r _)) (Fin.ext h2.symm)).trans (congrArg (fun l : Fin 64 => R (ix2 (y 2) l)) (Fin.ext ?_))
  show (x 3).val = (y 3).val - 128
  omega

/-- A piece of the values. -/
theorem blkV_piece (A : FVec Ideal S256x2048 .f32) (P : FVec Ideal S1x1x256x128 .bf16) (x : S1x1x256x128.Idx)
    (y : S1x8x256x128.Idx) (o : ℕ) (hP : ∀ (r : Fin 256) (l : Fin 128) (n : Fin 2048), n.val = o + l.val → P (ix4 0 0 r l) = A (ix2 r n))
    (h1 : (y 1).val * 256 + 128 = o) (h2 : (y 2).val = (x 2).val) (h3 : (y 3).val = (x 3).val) : P x = blkV A y := by
  have hx : x = (ix4 0 0 (x 2) (x 3) : S1x1x256x128.Idx) := by
    funext a; match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hl : (x 3).val < 128 := (x 3).isLt
  unfold blkV
  refine (congrArg P hx).trans ?_
  refine (hP _ _ ⟨(y 1).val * 256 + 128 + (y 3).val, by have : (y 1).val < 8 := (y 1).isLt; omega⟩ (by show (y 1).val * 256 + 128 + (y 3).val = o + (x 3).val; omega)).trans ?_
  exact congrArg (fun r : Fin 256 => A (ix2 r _)) (Fin.ext h2.symm)

/-- What the body's stores leave in the block of keys. -/
theorem tilesK (c : Dev nD) (t : Fin cfg8.N) (y : S1x8x256x192.Idx) : (outsAt8 V c t).1 y
    = blkK (k8_pay2 (F := Ideal) (iblk8 V c 0 t) (iblk8 V c 2 t)) (k8_pay3 (F := Ideal) (iblk8 V c 1 t)) y := by
  unfold outsAt8; frame_out
  canon_tiles x h using (View.cover_of_tiledBy _ ![1, 1, 256, 64] (by sl_kernel_rfl) y)
  case piece0 => exact blkK_rope _ _ _ x y (PayC.kr7 _) h2 h3
  case piece1 => exact blkK_nope _ _ _ x y 1792 (PayC.kn7 _) (by omega) h2 h3
  case piece2 => exact blkK_rope _ _ _ x y (PayC.kr6 _) h2 h3
  case piece3 => exact blkK_nope _ _ _ x y 1536 (PayC.kn6 _) (by omega) h2 h3
  case piece4 => exact blkK_rope _ _ _ x y (PayC.kr5 _) h2 h3
  case piece5 => exact blkK_nope _ _ _ x y 1280 (PayC.kn5 _) (by omega) h2 h3
  case piece6 => exact blkK_rope _ _ _ x y (PayC.kr4 _) h2 h3
  case piece7 => exact blkK_nope _ _ _ x y 1024 (PayC.kn4 _) (by omega) h2 h3
  case piece8 => exact blkK_rope _ _ _ x y (PayC.kr3 _) h2 h3
  case piece9 => exact blkK_nope _ _ _ x y 768 (PayC.kn3 _) (by omega) h2 h3
  case piece10 => exact blkK_rope _ _ _ x y (PayC.kr2 _) h2 h3
  case piece11 => exact blkK_nope _ _ _ x y 512 (PayC.kn2 _) (by omega) h2 h3
  case piece12 => exact blkK_rope _ _ _ x y (PayC.kr1 _) h2 h3
  case piece13 => exact blkK_nope _ _ _ x y 256 (PayC.kn1 _ _) (by omega) h2 h3
  case piece14 => exact blkK_rope _ _ _ x y (PayC.kr0 _) h2 h3
  case piece15 => exact blkK_nope _ _ _ x y 0 (PayC.kn0 _ _) (by omega) h2 h3

/-- What the body's stores leave in the block of values. -/
theorem tilesV (c : Dev nD) (t : Fin cfg8.N) (y : S1x8x256x128.Idx) : (outsAt8 V c t).2 y
    = blkV (k8_pay2 (F := Ideal) (iblk8 V c 0 t) (iblk8 V c 2 t)) y := by
  unfold outsAt8; frame_out
  canon_tiles x h
  case piece0 => exact blkV_piece _ _ x y 1920 (PayC.vn7 _) (by omega) h2 h3
  case piece1 => exact blkV_piece _ _ x y 1664 (PayC.vn6 _) (by omega) h2 h3
  case piece2 => exact blkV_piece _ _ x y 1408 (PayC.vn5 _) (by omega) h2 h3
  case piece3 => exact blkV_piece _ _ x y 1152 (PayC.vn4 _) (by omega) h2 h3
  case piece4 => exact blkV_piece _ _ x y 896 (PayC.vn3 _) (by omega) h2 h3
  case piece5 => exact blkV_piece _ _ x y 640 (PayC.vn2 _) (by omega) h2 h3
  case piece6 => exact blkV_piece _ _ x y 384 (PayC.vn1 _) (by omega) h2 h3
  case piece7 => exact blkV_piece _ _ x y 128 (PayC.vn0 _ _) (by omega) h2 h3

/-- The block of the latent. -/
theorem rd0 (c : Dev nD) (t : Fin cfg8.N) (r e : Fin 256) (b : Fin 16) (R : Fin 256) (hb : b.val = (grid8.coords t 0).val)
    (hR : R.val = (grid8.coords t 1).val * 256 + r.val) :
    (iblk8 V c 0 t : Vec Ideal S1x256x256 .f32) (ix3 0 r e) = (V c main_v110 : FVec Ideal S16x256x256 .f32) (ix3 b R e) := by
  blk_point [iblk8, idx t]

/-- The block of the rotated part. -/
theorem rd1 (c : Dev nD) (t : Fin cfg8.N) (r : Fin 256) (e : Fin 64) (b : Fin 16) (R : Fin 256) (hb : b.val = (grid8.coords t 0).val)
    (hR : R.val = (grid8.coords t 1).val * 256 + r.val) :
    (iblk8 V c 1 t : Vec Ideal S1x256x64 .f32) (ix3 0 r e) = (V c main_v111 : FVec Ideal S16x256x64 .f32) (ix3 b R e) := by
  blk_point [iblk8, idx t]

/-- The block of the weights. -/
theorem rd2 (c : Dev nD) (t : Fin cfg8.N) (e : Fin 256) (n : Fin 2048) :
    (iblk8 V c 2 t : Vec Ideal S256x2048 .bf16) (ix2 e n) = (V c main_v152 : FVec Ideal S256x2048 .bf16) (ix2 e n) := by
  blk_point [iblk8, idx t]

/-- The latent times the weights, at a row of the block. -/
theorem acc (c : Dev nD) (t : Fin cfg8.N) (r : Fin 256) (n : Fin 2048) (b : Fin 16) (R : Fin 256) (hb : b.val = (grid8.coords t 0).val)
    (hR : R.val = (grid8.coords t 1).val * 256 + r.val) :
    k8_pay2 (F := Ideal) (iblk8 V c 0 t) (iblk8 V c 2 t) (ix2 r n) = kvaccC (V c main_v110) (V c main_v152) b R n := by
  refine (k8_acc _ _ r n).trans ?_
  unfold kvaccC
  exact Finset.sum_congr rfl fun e _ => congrArg₂ (· * ·) (rd0 V c t r e b R hb hR) (rd2 V c t e n)

/-- What the block's index `y` of point `t` holds of the keys, at the array index `j` under it. -/
theorem coreK (c : Dev nD) (t : Fin cfg8.N) (y : S1x8x256x192.Idx) (j : S16x8x256x192.Idx) (h0 : (j 0).val = (grid8.coords t 0).val)
    (h1 : (j 1 : Fin 8) = y 1) (h2 : (j 2).val = (grid8.coords t 1).val * 256 + (y 2).val) (h3 : (j 3 : Fin 192) = y 3) : (outsAt8 V c t).1 y
    = kC (V c main_v110) (V c main_v111) (V c main_v152) j := by
  have hj : j = ix4 (j 0) (y 1) (j 2) (y 3) := by
    funext a; match a with
    | ⟨0, _⟩ => rfl
    | ⟨1, _⟩ => exact h1
    | ⟨2, _⟩ => rfl
    | ⟨3, _⟩ => exact h3
  rw [tilesK, hj]
  unfold blkK kC
  by_cases h : (y 3).val < 128
  · refine (dif_pos h).trans (Eq.trans ?_ (dif_pos h).symm)
    exact acc V c t (y 2) _ (j 0) (j 2) h0 h2
  · refine (dif_neg h).trans (Eq.trans ?_ (dif_neg h).symm)
    exact (k8_rot _ (y 2) _).trans (rd1 V c t (y 2) _ (j 0) (j 2) h0 h2)

/-- What the block's index `y` of point `t` holds of the values, at the array index `j` under it. -/
theorem coreV (c : Dev nD) (t : Fin cfg8.N) (y : S1x8x256x128.Idx) (j : S16x8x256x128.Idx) (h0 : (j 0).val = (grid8.coords t 0).val)
    (h1 : (j 1 : Fin 8) = y 1) (h2 : (j 2).val = (grid8.coords t 1).val * 256 + (y 2).val) (h3 : (j 3 : Fin 128) = y 3) : (outsAt8 V c t).2 y
    = vC (V c main_v110) (V c main_v152) j := by
  have hj : j = ix4 (j 0) (y 1) (j 2) (y 3) := by
    funext a; match a with
    | ⟨0, _⟩ => rfl
    | ⟨1, _⟩ => exact h1
    | ⟨2, _⟩ => rfl
    | ⟨3, _⟩ => exact h3
  rw [tilesV, hj]
  unfold blkV vC
  exact acc V c t (y 2) _ (j 0) (j 2) h0 h2

/-- The array of keys after the run. -/
theorem finalK (c : Dev nD) : (dat8 V c).arrAt 3 cfg8.N = kC (V c main_v110) (V c main_v111) (V c main_v152) := by
  refine (dat8 V c).arrAt_eq_of_covers 3 _ (by decide +kernel) fun t _ y => ?_
  blk_simp
  rw [after8_3]
  refine coreK V c t y _ ?_ (Fin.ext ?_) ?_ (Fin.ext ?_) <;> (blk_simp [idx t] <;> try omega)

/-- The array of values after the run. -/
theorem finalV (c : Dev nD) : (dat8 V c).arrAt 4 cfg8.N = vC (V c main_v110) (V c main_v152) := by
  refine (dat8 V c).arrAt_eq_of_covers 4 _ (by decide +kernel) fun t _ y => ?_
  blk_simp
  rw [after8_4]
  refine coreV V c t y _ ?_ (Fin.ext ?_) ?_ (Fin.ext ?_) <;> (blk_simp [idx t] <;> try omega)

end Cert.KernelIdeal.KvC

end
-- ==== Proof.AttC.lean ====
/- The prompts' attention: what its result array holds. -/
module

public import proofs.«01_k».proof.Proof.Gen.KernelIdeal.Frame
public import proofs.«01_k».proof.Proof.BodyC
public import Idealize.ShloMosaic.Lib.Pipeline.ValueKit
public import Idealize.ShloMosaic.Lib.Pointwise

@[expose] public section

set_option maxRecDepth 16384

noncomputable section

namespace Cert.KernelIdeal.AttC

open Idealize.ShloMosaic Idealize.ShloMosaic.TcCoe Idealize.SL.Sem
open Idealize.ShloMosaic.Pipeline (Dat)
open Cert.KernelIdeal Cert.KernelIdeal.Gen Cert.KernelIdeal.Mix Cert.KernelIdeal.Body

variable (V : (c : Dev nD) → (b : Ref sig .tc) → Buf (Elt Ideal) ((c : Thread nD τ).loc b))

/-- Where each window's block sits at a grid point. -/
theorem idx : ∀ t : Fin cfg9.N, win9_0.index t = ![(grid9.coords t 0).val, (grid9.coords t 1).val, (grid9.coords t 2).val, 0] ∧ win9_1.index t = ![(grid9.coords t 0).val, (grid9.coords t 1).val, 0, 0]
    ∧ win9_2.index t = ![(grid9.coords t 0).val, (grid9.coords t 1).val, 0, 0] ∧ win9_3.index t = ![(grid9.coords t 0).val, (grid9.coords t 2).val, (grid9.coords t 1).val] :=
  (by decide +kernel : ∀ t : Fin grid9.N, _)

/-- The block of queries. -/
theorem rd0 (c : Dev nD) (t : Fin cfg9.N) (r : Fin 256) (e : Fin 192) (b : Fin 16) (h : Fin 8) (R : Fin 256)
    (hb : b.val = (grid9.coords t 0).val) (hh : h.val = (grid9.coords t 1).val) (hR : R.val = (grid9.coords t 2).val * 256 + r.val) :
    (iblk9 V c 0 t : Vec Ideal S1x1x256x192 .bf16) (ix4 0 0 r e) = (V c main_v164 : FVec Ideal S16x8x256x192 .bf16) (ix4 b h R e) := by
  blk_point [iblk9, idx t]

/-- The block of keys. -/
theorem rd1 (c : Dev nD) (t : Fin cfg9.N) (r : Fin 256) (e : Fin 192) (b : Fin 16) (h : Fin 8)
    (hb : b.val = (grid9.coords t 0).val) (hh : h.val = (grid9.coords t 1).val) :
    (iblk9 V c 1 t : Vec Ideal S1x1x256x192 .bf16) (ix4 0 0 r e) = (V c main_v165_0 : FVec Ideal S16x8x256x192 .bf16) (ix4 b h r e) := by
  blk_point [iblk9, idx t]

/-- The block of values. -/
theorem rd2 (c : Dev nD) (t : Fin cfg9.N) (r : Fin 256) (e : Fin 128) (b : Fin 16) (h : Fin 8)
    (hb : b.val = (grid9.coords t 0).val) (hh : h.val = (grid9.coords t 1).val) :
    (iblk9 V c 2 t : Vec Ideal S1x1x256x128 .bf16) (ix4 0 0 r e) = (V c main_v165_1 : FVec Ideal S16x8x256x128 .bf16) (ix4 b h r e) := by
  blk_point [iblk9, idx t]

/-- What the body stores at block row `r` and lane `l` of point `t`, at the array index `j` under it. -/
theorem core (c : Dev nD) (t : Fin cfg9.N) (r : Fin 256) (l : Fin 128) (j : S16x256x1024.Idx) (h0 : (j 0).val = (grid9.coords t 0).val)
    (h1 : (j 1).val = (grid9.coords t 2).val * 256 + r.val) (h2 : (j 2).val = (grid9.coords t 1).val * 128 + l.val) :
    k9_pay1 (F := Ideal) (iblk9 V c 0 t) (iblk9 V c 1 t) (iblk9 V c 2 t) (ix3 0 r l)
    = attC (V c main_v164) (V c main_v165_0) (V c main_v165_1) j := by
  have hl : l.val < 128 := l.isLt
  have hj0 : (j 0).val < 16 := (j 0).isLt
  have hj2 : (j 2).val < 1024 := (j 2).isLt
  refine (k9_at _ _ _ r l).trans ?_
  unfold attC scoreC
  refine congrArg₂ softC (funext fun u => Finset.sum_congr rfl fun e _ => ?_) (funext fun u => ?_)
  · exact congrArg₂ (· * ·)
      (rd0 V c t r e (j 0) ⟨(j 2).val / 128, by omega⟩ (j 1)
        h0 (by show (j 2).val / 128 = _; omega) h1)
      (rd1 V c t u e (j 0) ⟨(j 2).val / 128, by omega⟩ h0 (by show (j 2).val / 128 = _; omega))
  · refine (rd2 V c t u l (j 0) ⟨(j 2).val / 128, by omega⟩ h0 (by show (j 2).val / 128 = _; omega)).trans ?_
    exact congrArg (fun l : Fin 128 => (V c main_v165_1 : FVec Ideal S16x8x256x128 .bf16) (ix4 (j 0) ⟨(j 2).val / 128, by omega⟩ u l))
      (Fin.ext (by show l.val = (j 2).val % 128; omega))

/-- The result array after the run. -/
theorem final (c : Dev nD) : (dat9 V c).arrAt 3 cfg9.N = attC (V c main_v164) (V c main_v165_0) (V c main_v165_1) := by
  refine (dat9 V c).arrAt_eq_of_covers 3 _ (by decide +kernel) fun t _ y => ?_
  blk_simp
  rw [after9_3]; frame_out
  obtain ⟨r, l, rfl⟩ : ∃ (r : Fin 256) (l : Fin 128), y = (ix3 0 r l : S1x256x128.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core V c t r l _ ?_ ?_ ?_ <;> (blk_simp [idx t] <;> try omega)

end Cert.KernelIdeal.AttC

end
-- ==== Proof.LinkH.lean ====
/- The prompts' attention, compared with the reference's. -/
module

public import proofs.«01_k».proof.Proof.LinkB
public import proofs.«01_k».proof.Proof.LinkC
public import proofs.«01_k».proof.Proof.RefB
public import proofs.«01_k».proof.Proof.Att
public import proofs.«01_k».proof.Proof.CarryC
public import proofs.«01_k».proof.Proof.KvC
public import proofs.«01_k».proof.Proof.AttC
public import proofs.«01_k».proof.Proof.HostF
public import proofs.«01_k».proof.Proof.RefD
public import proofs.«01_k».proof.Proof.LinkE
public import proofs.«01_k».proof.Proof.LinkD

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

include hx in
/-- A column of the prompts' queries before their rotation. -/
theorem qaccC_at (b : Fin 16) (r : Fin 256) (R : Fin 4096) (hR : R.val = b.val * 256 + r.val) (N : Fin 2048) (M : Fin 1536)
    (hw : ∀ e : Fin 512, (W5 m ρ c (Proc.devRef .tc main_v91) : FVec Ideal S512x2048 .bf16) (ix2 e N) = (x6 (ix2 e M) : EReal)) :
    qaccF (P m ρ c) (W5 m ρ c (Proc.devRef .tc main_v92)) (W5 m ρ c (Proc.devRef .tc main_v91)) 0 R N = (val_main_v288 (F := Ideal) x0 x2 x3 x4 x6 : FVec Ideal Cert.ReferenceIdeal.S16x256x1536 .f32) (ix3 b r M) := by
  rw [Cert.ReferenceIdeal.Stage.v288]
  unfold qaccF
  refine Finset.sum_congr rfl fun e _ => ?_
  rw [hw e]
  have hg : (W5 m ρ c (Proc.devRef .tc main_v92) : FVec Ideal S1x512 .f32) (ix2 0 e) = (x4 (ix1 e) : EReal) :=
    (HostD.v92 (W4 m ρ c) e).trans (congrFun ((W4_args m ρ c main_arg4 (by decide)).trans hx.a4) (ix1 e))
  have hp : ∀ n : Fin 512, P m ρ c (ix3 0 R ⟨n.val, by omega⟩) = (val_main_v12 (F := Ideal) x0 x2 x3 : FVec Ideal Cert.ReferenceIdeal.S16x256x3904 .f32) (ix3 b r ⟨n.val, by omega⟩) :=
    fun n => pc_at ρ hx b r R hR _ _ (Or.inl ⟨by simp only []; omega, rfl⟩)
  unfold qlatF
  rw [hg]
  simp only [hp]

/-- The prompts' queries, by prompt. -/
def QC (m : (ℓ : Loc nD τ sig) → Buf (Elt Ideal) ℓ) (ρ : Dev nD → PrngReg) (c : Dev nD) : FVec Ideal S16x8x256x192 .bf16 :=
  W16 m ρ c (Proc.devRef .tc main_v164)

/-- They are the first group of the queries. -/
theorem QC_at (b : Fin 16) (h : Fin 8) (r : Fin 256) (e : Fin 192) : QC m ρ c (ix4 b h r e) = Q m ρ c (ix4 0 h ⟨b.val * 256 + r.val, by omega⟩ e) := by
  refine (HostF.v164 (W15 m ρ c) b h r e).trans ?_
  rw [v93_15]
  rfl

include hx in
/-- The part of a prompt's query without position. -/
theorem qC_nope (b : Fin 16) (h : Fin 8) (r : Fin 256) (n : Fin 128) : QC m ρ c (ix4 b h r ⟨n.val, by omega⟩)
    = ((val_main_v289 (F := Ideal) x0 x2 x3 x4 x6 : FVec Ideal Cert.ReferenceIdeal.S16x256x8x192 .f32) (ix4 b r h ⟨n.val, by omega⟩) * Ideal.ofBits .f32 1033096506#32 : EReal) := by
  rw [QC_at ρ, Q_eq ρ]
  have hn : ((ix4 0 h ⟨b.val * 256 + r.val, by omega⟩ ⟨n.val, by omega⟩ : S9x8x4096x192.Idx) 3).val < 128 := n.isLt
  unfold qF
  rw [dif_pos hn]
  refine congrArg (fun x : EReal => x * Ideal.ofBits .f32 1033096506#32) ?_
  refine (qaccC_at ρ hx b r _ rfl _ ⟨h.val * 192 + n.val, by omega⟩ (fun e => wq_nope ρ hx e h n)).trans ?_
  rw [Cert.ReferenceIdeal.Stage.v289]

include hx in
/-- The other part of a prompt's query: its rotation is by no angle. -/
theorem qC_rope (b : Fin 16) (h : Fin 8) (r : Fin 256) (n : Fin 64) : QC m ρ c (ix4 b h r ⟨128 + n.val, by omega⟩)
    = ((val_main_v289 (F := Ideal) x0 x2 x3 x4 x6 : FVec Ideal Cert.ReferenceIdeal.S16x256x8x192 .f32) (ix4 b r h ⟨128 + n.val, by omega⟩) * Ideal.ofBits .f32 1033096506#32 : EReal) := by
  rw [QC_at ρ, Q_eq ρ]
  have hn : ¬ ((ix4 0 h ⟨b.val * 256 + r.val, by omega⟩ ⟨128 + n.val, by omega⟩ : S9x8x4096x192.Idx) 3).val < 128 := by
    show ¬ 128 + n.val < 128
    omega
  unfold qF
  rw [dif_neg hn]
  refine congrArg (fun x : EReal => x * Ideal.ofBits .f32 1033096506#32) ?_
  have e1 : qaccF (P m ρ c) (W5 m ρ c (Proc.devRef .tc main_v92)) (W5 m ρ c (Proc.devRef .tc main_v91)) 0 ⟨b.val * 256 + r.val, by omega⟩
      ⟨1024 + (h.val * 64 + ((128 + n.val) - 128)), by omega⟩ = (val_main_v289 (F := Ideal) x0 x2 x3 x4 x6 : FVec Ideal Cert.ReferenceIdeal.S16x256x8x192 .f32) (ix4 b r h ⟨128 + n.val, by omega⟩) := by
    rw [Cert.ReferenceIdeal.Stage.v289]
    refine (qaccC_at ρ hx b r _ rfl _ ⟨h.val * 192 + (128 + n.val), by omega⟩ (fun e => ?_))
    rw [← wq_rope ρ hx e h n]
    exact congrArg (fun k => (W5 m ρ c (Proc.devRef .tc main_v91) : FVec Ideal S512x2048 .bf16) (ix2 e k)) (Fin.ext (by simp only []; omega))
  have eC : (W1 m ρ c (Proc.devRef .tc main_v70) : FVec Ideal S2x4096x512 .f32) (ix3 ⟨min (0 : Fin 9).val 1, by omega⟩ ⟨b.val * 256 + r.val, by omega⟩ ⟨h.val * 64 + ((128 + n.val) - 128), by omega⟩)
      = (1 : EReal) := by
    refine (HostB.v70 (W0 m ρ c) _ _ _).trans ?_
    rw [dif_pos (by simp)]
  have eS : (W1 m ρ c (Proc.devRef .tc main_v74) : FVec Ideal S2x4096x512 .f32) (ix3 ⟨min (0 : Fin 9).val 1, by omega⟩ ⟨b.val * 256 + r.val, by omega⟩ ⟨h.val * 64 + ((128 + n.val) - 128), by omega⟩)
      = (0 : EReal) := by
    refine (HostC.v74 (W0 m ρ c) _ _ _).trans ?_
    rw [dif_pos (by simp)]
  refine (congrArg₂ (· + ·) (congrArg₂ (· * ·) e1 eC) (congrArg (fun y : EReal => _ * y) eS)).trans ?_
  show (_ * 1 + _ * 0 : EReal) = _
  rw [mul_one, mul_zero, add_zero]

/-- The prompts' keys the ninth call leaves. -/
def KC (m : (ℓ : Loc nD τ sig) → Buf (Elt Ideal) ℓ) (ρ : Dev nD → PrngReg) (c : Dev nD) : FVec Ideal S16x8x256x192 .bf16 :=
  W17 m ρ c (Proc.devRef .tc main_v165_0)

/-- The prompts' values the ninth call leaves. -/
def UC (m : (ℓ : Loc nD τ sig) → Buf (Elt Ideal) ℓ) (ρ : Dev nD → PrngReg) (c : Dev nD) : FVec Ideal S16x8x256x128 .bf16 :=
  W17 m ρ c (Proc.devRef .tc main_v165_1)

/-- They are the keys of the latents and rotated keys that the host prepared. -/
theorem KC_eq : KC m ρ c = kC (W16 m ρ c (Proc.devRef .tc main_v110)) (W16 m ρ c (Proc.devRef .tc main_v111)) (W16 m ρ c (Proc.devRef .tc main_v152)) :=
  (W17_arr m ρ c 3).trans (KvC.finalK (V16 m ρ) c)

/-- They are the values of the latents that the host prepared. -/
theorem UC_eq : UC m ρ c = vC (W16 m ρ c (Proc.devRef .tc main_v110)) (W16 m ρ c (Proc.devRef .tc main_v152)) :=
  (W17_arr m ρ c 4).trans (KvC.finalV (V16 m ρ) c)

include hx in
/-- A column of the keys without position, or of the values. -/
theorem kvC_at (b : Fin 16) (t : Fin 256) (n : Fin 2048) :
    kvaccC (W16 m ρ c (Proc.devRef .tc main_v110)) (W16 m ρ c (Proc.devRef .tc main_v152)) b t n = (val_main_v290 (F := Ideal) x0 x2 x3 x5 x7 : FVec Ideal Cert.ReferenceIdeal.S16x256x2048 .f32) (ix3 b t n) := by
  rw [Cert.ReferenceIdeal.Stage.v290]
  unfold kvaccC
  refine Finset.sum_congr rfl fun e _ => ?_
  have hl : (W16 m ρ c (Proc.devRef .tc main_v110) : FVec Ideal S16x256x256 .f32) (ix3 b t e) = (val_main_v26 (F := Ideal) x0 x2 x3 x5 : FVec Ideal Cert.ReferenceIdeal.S16x256x256 .f32) (ix3 b t e) := by
    rw [v110_16]; exact ckv_at ρ hx b t e
  have hw : (W16 m ρ c (Proc.devRef .tc main_v152) : FVec Ideal S256x2048 .bf16) (ix2 e n) = (x7 (ix2 e n) : EReal) := by
    rw [v152_16]; exact (HostD.v152 (W6 m ρ c) e n).trans (congrFun ((W6_args m ρ c main_arg7 (by decide)).trans hx.a7) _)
  exact congrArg₂ (· * ·) hl hw

include hx in
/-- The part of a key without position. -/
theorem kC_nope (b : Fin 16) (h : Fin 8) (t : Fin 256) (n : Fin 128) : KC m ρ c (ix4 b h t ⟨n.val, by omega⟩) = (val_main_v290 (F := Ideal) x0 x2 x3 x5 x7 : FVec Ideal Cert.ReferenceIdeal.S16x256x2048 .f32) (ix3 b t ⟨h.val * 256 + n.val, by omega⟩) := by
  rw [KC_eq ρ]
  have hn : ((ix4 b h t ⟨n.val, by omega⟩ : S16x8x256x192.Idx) 3).val < 128 := n.isLt
  unfold kC
  rw [dif_pos hn]
  exact kvC_at ρ hx b t _

include hx in
/-- The rotated part of a key. -/
theorem kC_rope (b : Fin 16) (h : Fin 8) (t : Fin 256) (n : Fin 64) : KC m ρ c (ix4 b h t ⟨128 + n.val, by omega⟩) = (val_main_v27 (F := Ideal) x0 x2 x3 : FVec Ideal Cert.ReferenceIdeal.S16x256x64 .f32) (ix3 b t n) := by
  rw [KC_eq ρ]
  have hn : ¬ ((ix4 b h t ⟨128 + n.val, by omega⟩ : S16x8x256x192.Idx) 3).val < 128 := by
    show ¬ 128 + n.val < 128
    omega
  unfold kC
  rw [dif_neg hn]
  refine Eq.trans ?_ ((congrFun (v111_16 m ρ c) (ix3 b t n)).trans (krope_at ρ hx b t n))
  exact congrArg (fun k => (W16 m ρ c (Proc.devRef .tc main_v111) : FVec Ideal S16x256x64 .f32) (ix3 b t k)) (Fin.ext (show 128 + n.val - 128 = n.val by omega))

include hx in
/-- A value. -/
theorem vC_at (b : Fin 16) (h : Fin 8) (t : Fin 256) (n : Fin 128) : UC m ρ c (ix4 b h t n) = (val_main_v290 (F := Ideal) x0 x2 x3 x5 x7 : FVec Ideal Cert.ReferenceIdeal.S16x256x2048 .f32) (ix3 b t ⟨h.val * 256 + (128 + n.val), by omega⟩) := by
  rw [UC_eq ρ]
  refine (kvC_at ρ hx b t _).trans ?_
  exact congrArg (fun k => (val_main_v290 (F := Ideal) x0 x2 x3 x5 x7 : FVec Ideal Cert.ReferenceIdeal.S16x256x2048 .f32) (ix3 b t k)) (Fin.ext (show h.val * 256 + 128 + n.val = h.val * 256 + (128 + n.val) by omega))

include hx in
/-- A score of the prompts' attention is the reference's. -/
theorem scoreC_at (B : Fin 16) (h : Fin 8) (r : Fin 256) (t : Fin 256) :
    scoreC (QC m ρ c) (KC m ρ c) B h r t = (val_main_v301 (F := Ideal) x0 x2 x3 x4 x5 x6 x7 : FVec Ideal Cert.ReferenceIdeal.S16x8x256x256 .f32) (ix4 B h r t) := by
  rw [Cert.ReferenceIdeal.Stage.v301]
  obtain ⟨k, hk0, hk⟩ := ofBits_scale
  unfold scoreC
  rw [sum_192, hk, add_mul_coe _ _ k hk0.le, sum_mul_coe _ _ k hk0.le, sum_mul_coe _ _ k hk0.le]
  refine congrArg₂ (· + ·) (Finset.sum_congr rfl fun e _ => ?_) (Finset.sum_congr rfl fun e _ => ?_)
  · rw [qC_nope ρ hx B h r e, kC_nope ρ hx B h t e, hk]
    rw [mul_assoc, mul_comm (k : EReal) _, ← mul_assoc]
  · rw [qC_rope ρ hx B h r e, kC_rope ρ hx B h t e, hk]
    rw [mul_assoc, mul_comm (k : EReal) _, ← mul_assoc, mul_comm ((val_main_v289 (F := Ideal) x0 x2 x3 x4 x6 : FVec Ideal Cert.ReferenceIdeal.S16x256x8x192 .f32) (ix4 B r h ⟨128 + e.val, by omega⟩)) _]

include hx in
/-- The prompts' attention is the reference's, when the scores are real numbers. -/
theorem attC_at (hs : ∀ b h r t, IsR ((val_main_v301 (F := Ideal) x0 x2 x3 x4 x5 x6 x7 : FVec Ideal Cert.ReferenceIdeal.S16x8x256x256 .f32) (ix4 b h r t))) (b : Fin 16) (r : Fin 256) (n : Fin 1024) :
    (W18 m ρ c (Proc.devRef .tc main_v166) : FVec Ideal S16x256x1024 .f32) (ix3 b r n) = (val_main_v315 (F := Ideal) x0 x2 x3 x4 x5 x6 x7 : FVec Ideal S16x256x1024 .f32) (ix3 b r n) := by
  rw [Cert.ReferenceIdeal.Stage.v315]
  refine (congrFun ((W18_arr m ρ c 3).trans (AttC.final (V17 m ρ) c)) (ix3 b r n)).trans ?_
  have hq : (V17 m ρ c main_v164 : FVec Ideal S16x8x256x192 .bf16) = QC m ρ c := v164_17 m ρ c
  rw [hq]
  show softC (scoreC (QC m ρ c) (KC m ρ c) b ⟨n.val / 128, _⟩ r) (fun t => UC m ρ c (ix4 b ⟨n.val / 128, _⟩ t ⟨n.val % 128, _⟩)) = _
  have e1 : scoreC (QC m ρ c) (KC m ρ c) b ⟨n.val / 128, by omega⟩ r = fun t => (val_main_v301 (F := Ideal) x0 x2 x3 x4 x5 x6 x7 : FVec Ideal Cert.ReferenceIdeal.S16x8x256x256 .f32) (ix4 b ⟨n.val / 128, by omega⟩ r t) :=
    funext fun t => scoreC_at ρ hx b _ r t
  have e2 : (fun t => UC m ρ c (ix4 b ⟨n.val / 128, by omega⟩ t ⟨n.val % 128, by omega⟩) : Fin 256 → EReal)
      = fun t => (val_main_v290 (F := Ideal) x0 x2 x3 x5 x7 : FVec Ideal Cert.ReferenceIdeal.S16x256x2048 .f32) (ix3 b t ⟨n.val / 128 * 256 + (128 + n.val % 128), by omega⟩) :=
    funext fun t => vC_at ρ hx b _ t _
  rw [e1, e2]
  unfold softC
  rw [ofBits_neg_inf]
  refine (soft_eq (by norm_num) _ _ fun t => hs b _ r t).trans ?_
  refine Finset.sum_congr rfl fun t _ => ?_
  rw [Cert.ReferenceIdeal.Stage.v312, Cert.ReferenceIdeal.Stage.v309]
  simp only [Cert.ReferenceIdeal.Stage.v308, Cert.ReferenceIdeal.Stage.v304, Cert.ReferenceIdeal.Stage.v302, ofBits_neg_inf]
  rw [max_eq_right bot_le]

end Cert.Link

end
-- ==== Proof.FiniteC.lean ====
/- With real arguments the prompts' scores are real numbers. -/
module

public import proofs.«01_k».proof.Proof.Alg
public import proofs.«01_k».proof.Proof.RefA
public import proofs.«01_k».proof.Proof.RefD

@[expose] public section

set_option maxRecDepth 16384

noncomputable section

namespace Cert.Finite

open Idealize.ShloMosaic Idealize.ShloMosaic.TcCoe Idealize.SL.Sem
open Idealize.ShloMosaic.Pipeline (Dat)
open Cert.ReferenceIdeal Cert.Alg Cert.ReferenceIdeal.Read

variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}

variable (h0 : ∀ i, IsR (x0 i)) (h2 : ∀ i, IsR (x2 i)) (h3 : ∀ i, IsR (x3 i)) (h4 : ∀ i, IsR (x4 i)) (h5 : ∀ i, IsR (x5 i)) (h6 : ∀ i, IsR (x6 i))
  (h7 : ∀ i, IsR (x7 i))

include h0 h2 h3 in
/-- The projection of the prompts. -/
theorem projC_real (b : Fin 16) (r : Fin 256) (n : Fin 3904) : IsR ((val_main_v12 (F := Ideal) x0 x2 x3 : FVec Ideal Cert.ReferenceIdeal.S16x256x3904 .f32) (ix3 b r n)) := by
  rw [Cert.ReferenceIdeal.Stage.v12]
  exact isR_sum _ _ fun k => isR_mul (isR_add (isR_mul (h0 _) (isR_add isR_one (h2 _))) (h2 _)) (h3 _)

include h0 h2 h3 h4 h6 in
/-- The prompts' queries. -/
theorem queC_real (b : Fin 16) (r : Fin 256) (h : Fin 8) (n : Fin 192) : IsR ((val_main_v289 (F := Ideal) x0 x2 x3 x4 x6 : FVec Ideal Cert.ReferenceIdeal.S16x256x8x192 .f32) (ix4 b r h n)) := by
  rw [Cert.ReferenceIdeal.Stage.v289, Cert.ReferenceIdeal.Stage.v288]
  refine isR_sum _ _ fun e => isR_mul (isR_mul (isR_mul (projC_real h0 h2 h3 _ _ _) ?_) (h4 _)) (h6 _)
  rw [ofBits_512]
  exact isR_rms _ (fun i => projC_real h0 h2 h3 _ _ _) 512 (by norm_num)

include h0 h2 h3 in
/-- The prompts' shared keys. -/
theorem krC_real (b : Fin 16) (t : Fin 256) (n : Fin 64) : IsR ((val_main_v27 (F := Ideal) x0 x2 x3 : FVec Ideal Cert.ReferenceIdeal.S16x256x64 .f32) (ix3 b t n)) := by
  rw [Cert.ReferenceIdeal.Stage.v27]
  exact projC_real h0 h2 h3 _ _ _

include h0 h2 h3 h5 h7 in
/-- The prompts' keys without position, and their values. -/
theorem kvC_real (b : Fin 16) (t : Fin 256) (n : Fin 2048) : IsR ((val_main_v290 (F := Ideal) x0 x2 x3 x5 x7 : FVec Ideal Cert.ReferenceIdeal.S16x256x2048 .f32) (ix3 b t n)) := by
  rw [Cert.ReferenceIdeal.Stage.v290]
  refine isR_sum _ _ fun e => isR_mul ?_ (h7 _)
  rw [Cert.ReferenceIdeal.Stage.v26]
  refine isR_mul (isR_mul (projC_real h0 h2 h3 _ _ _) ?_) (h5 _)
  rw [ofBits_256]
  exact isR_rms _ (fun i => projC_real h0 h2 h3 _ _ _) 256 (by norm_num)

include h0 h2 h3 h4 h5 h6 h7 in
/-- The prompts' scores. -/
theorem scoreC_real (b : Fin 16) (h : Fin 8) (r t : Fin 256) : IsR ((val_main_v301 (F := Ideal) x0 x2 x3 x4 x5 x6 x7 : FVec Ideal Cert.ReferenceIdeal.S16x8x256x256 .f32) (ix4 b h r t)) := by
  rw [Cert.ReferenceIdeal.Stage.v301]
  obtain ⟨k, _, hk⟩ := ofBits_scale
  rw [hk]
  exact isR_mul (isR_add (isR_sum _ _ fun e => isR_mul (queC_real h0 h2 h3 h4 h6 _ _ _ _) (kvC_real h0 h2 h3 h5 h7 _ _ _))
    (isR_sum _ _ fun e => isR_mul (krC_real h0 h2 h3 _ _ _) (queC_real h0 h2 h3 h4 h6 _ _ _ _))) (isR_coe k)

end Cert.Finite

end
-- ==== Proof.LinkF.lean ====
/- The eight arrays a layer's mixers leave, against the reference. -/
module

public import proofs.«01_k».proof.Proof.LinkD
public import proofs.«01_k».proof.Proof.LinkE
public import proofs.«01_k».proof.Proof.Finite
public import proofs.«01_k».proof.Proof.Real
public import proofs.«01_k».proof.Proof.CarryC
public import proofs.«01_k».proof.Proof.LinkG
public import proofs.«01_k».proof.Proof.LinkH
public import proofs.«01_k».proof.Proof.FiniteC

@[expose] public section

set_option maxRecDepth 16384

noncomputable section

namespace Cert.Link

open Idealize.ShloMosaic Idealize.ShloMosaic.TcCoe Idealize.SL.Sem
open Idealize.ShloMosaic.Pipeline (Dat)
open Cert.KernelIdeal Cert.KernelIdeal.Gen Cert.KernelIdeal.Mix Cert.Alg Cert.ReferenceIdeal.Read

variable {m : (ℓ : Loc nD τ sig) → Buf (Elt Ideal) ℓ} (ρ : Dev nD → PrngReg) {c : Dev nD}
variable {x0 : FVec Ideal S16x256x2048 .f32} {x1 : FVec Ideal S8x4096x2048 .f32} {x2 : FVec Ideal S9x6x2048 .f32} {x3 : FVec Ideal S2048x3904 .f32} {x4 : FVec Ideal S512 .f32} {x5 : FVec Ideal S256 .f32} {x6 : FVec Ideal S512x1536 .f32} {x7 : FVec Ideal S256x2048 .f32} {x8 : FVec Ideal S3x512 .f32} {x9 : FVec Ideal S3x1536 .f32} {x10 : FVec Ideal S1536 .f32} {x11 : FVec Ideal S8x256x256 .f32} {x12 : FVec Ideal S8x256x64 .f32}
variable (hx : Args m c x0 x1 x2 x3 x4 x5 x6 x7 x8 x9 x10 x11 x12)

include hx in
/-- The new latents are the reference's. -/
theorem ckv_eq : (W18 m ρ c (Proc.devRef .tc main_v110) : FVec Ideal S16x256x256 .f32) = (val_main_v26 (F := Ideal) x0 x2 x3 x5 : FVec Ideal S16x256x256 .f32) :=
  funext fun j => by
    rw [eq_ix3 j]
    refine (congrFun (v110_18 m ρ c) _).trans ?_
    exact ckv_at ρ hx (j 0) (j 1) (j 2)

include hx in
/-- The new unrotated keys are the reference's. -/
theorem krope_eq : (W18 m ρ c (Proc.devRef .tc main_v111) : FVec Ideal S16x256x64 .f32) = (val_main_v27 (F := Ideal) x0 x2 x3 : FVec Ideal S16x256x64 .f32) :=
  funext fun j => by
    rw [eq_ix3 j]
    refine (congrFun (v111_18 m ρ c) _).trans ?_
    exact krope_at ρ hx (j 0) (j 1) (j 2)

include hx in
/-- The short convolution's result is the reference's. -/
theorem sc_eq : (W18 m ρ c (Proc.devRef .tc main_v155) : FVec Ideal S8x4096x512 .f32) = (val_main_v195 (F := Ideal) x1 x2 x3 x8 : FVec Ideal S8x4096x512 .f32) :=
  funext fun j => by
    rw [eq_ix3 j]
    refine (congrFun (v155_18 m ρ c) _).trans ?_
    exact sc_at ρ hx (j 0) (j 1) (j 2)

include hx in
/-- The long mixer's first convolution is the reference's. -/
theorem u_eq : (W18 m ρ c (Proc.devRef .tc main_v157) : FVec Ideal S8x4096x1536 .f32) = (val_main_v219 (F := Ideal) x1 x2 x3 x9 x10 : FVec Ideal S8x4096x1536 .f32) :=
  funext fun j => by
    rw [eq_ix3 j]
    refine (congrFun (v157_18 m ρ c) _).trans ?_
    exact u_at ρ hx (j 0) (j 1) (j 2)

include hx in
/-- The attention's result is the reference's, when the arguments the scores depend on hold real numbers. -/
theorem att_eq [Cert.Pre_finite.Facts] (h : Cert.Pre_finite.fn (F := Ideal) x0 x1 x2 x3 x4 x5 x6 x7 x8 x9 x10 x11 x12 = fun _ => 1#1) :
    (W18 m ρ c (Proc.devRef .tc main_v154) : FVec Ideal S8x4096x1024 .f32) = (val_main_v169 (F := Ideal) x1 x2 x3 x4 x5 x6 x7 x11 x12 : FVec Ideal S8x4096x1024 .f32) :=
  funext fun j => by
    obtain ⟨h1, h2, h3, h4, h5, h6, h7, h11, h12, _⟩ := Cert.Real.real x0 x1 x2 x3 x4 x5 x6 x7 x8 x9 x10 x11 x12 h
    rw [eq_ix3 j]
    refine (congrFun (v154_18 m ρ c) _).trans ?_
    exact att_at ρ hx (fun b h r t => Cert.Finite.score_real h1 h2 h3 h4 h5 h6 h7 h11 h12 b h r t) (j 0) (j 1) (j 2)

include hx in
/-- The prompts' short convolution's result is the reference's. -/
theorem scC_eq : (W18 m ρ c (Proc.devRef .tc main_v158) : FVec Ideal S16x256x512 .f32) = (val_main_v250 (F := Ideal) x0 x2 x3 x8 : FVec Ideal S16x256x512 .f32) :=
  funext fun j => by
    rw [eq_ix3 j]
    exact scC_at ρ hx (j 0) (j 1) (j 2)

include hx in
/-- The prompts' long mixer's first convolution is the reference's. -/
theorem uC_eq : (W18 m ρ c (Proc.devRef .tc main_v160) : FVec Ideal S16x256x1536 .f32) = (val_main_v274 (F := Ideal) x0 x2 x3 x9 x10 : FVec Ideal S16x256x1536 .f32) :=
  funext fun j => by
    rw [eq_ix3 j]
    exact uC_at ρ hx (j 0) (j 1) (j 2)

include hx in
/-- The prompts' attention's result is the reference's, when the arguments the scores depend on hold real numbers. -/
theorem attC_eq [Cert.Pre_finite.Facts] (h : Cert.Pre_finite.fn (F := Ideal) x0 x1 x2 x3 x4 x5 x6 x7 x8 x9 x10 x11 x12 = fun _ => 1#1) :
    (W18 m ρ c (Proc.devRef .tc main_v166) : FVec Ideal S16x256x1024 .f32) = (val_main_v315 (F := Ideal) x0 x2 x3 x4 x5 x6 x7 : FVec Ideal S16x256x1024 .f32) :=
  funext fun j => by
    obtain ⟨_, h2, h3, h4, h5, h6, h7, _, _, h0⟩ := Cert.Real.real x0 x1 x2 x3 x4 x5 x6 x7 x8 x9 x10 x11 x12 h
    rw [eq_ix3 j]
    exact attC_at ρ hx (fun b h r t => Cert.Finite.scoreC_real h0 h2 h3 h4 h5 h6 h7 b h r t) (j 0) (j 1) (j 2)

end Cert.Link

end
-- ==== Proof.RefRun.lean ====
/- The reference of a layer's mixers as one run. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.ReferenceIdeal.Whole

open Idealize.ShloMosaic Idealize.ShloMosaic.TcCoe Idealize.SL.Sem
open Idealize.ShloMosaic.Pipeline (Dat)
open Cert.ReferenceIdeal Cert.ReferenceIdeal.Value Cert.ReferenceIdeal.Gen Cert.ReferenceIdeal.Read

/-- The reference runs and leaves, in each result, the value its stages give. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = val_main_v169 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12))
      ∧ r.2.mem ((c.tc : Thread nD τ).loc main_v195) = val_main_v195 (F := Ideal) (m ((c.tc : Thread nD τ).loc main_arg1)) (m ((c.tc : Thread nD τ).loc main_arg2)) (m ((c.tc : Thread nD τ).loc main_arg3)) (m ((c.tc : Thread nD τ).loc main_arg8))
      ∧ r.2.mem ((c.tc : Thread nD τ).loc main_v219) = val_main_v219 (F := Ideal) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_v26) = val_main_v26 (F := Ideal) (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v27) = val_main_v27 (F := Ideal) (m ((c.tc : Thread nD τ).loc main_arg0)) (m ((c.tc : Thread nD τ).loc main_arg2)) (m ((c.tc : Thread nD τ).loc main_arg3))
      ∧ r.2.mem ((c.tc : Thread nD τ).loc main_v250) = val_main_v250 (F := Ideal) (m ((c.tc : Thread nD τ).loc main_arg0)) (m ((c.tc : Thread nD τ).loc main_arg2)) (m ((c.tc : Thread nD τ).loc main_arg3)) (m ((c.tc : Thread nD τ).loc main_arg8))
      ∧ r.2.mem ((c.tc : Thread nD τ).loc main_v274) = val_main_v274 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_v315) = val_main_v315 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine Idealize.ShloMosaic.θ_run_mono (Cert.ReferenceIdeal.Value.run (F := Ideal) m ρ) fun r h c => ?_
  obtain ⟨h0, h1, h2, h3, h4, h5, h6, h7, hr⟩ := h c
  have e0 := h0.trans (val_main_v169_eq (StableHlo.launchContents m c))
  have e1 := h1.trans (val_main_v195_eq (StableHlo.launchContents m c))
  have e2 := h2.trans (val_main_v219_eq (StableHlo.launchContents m c))
  have e3 := h3.trans (val_main_v26_eq (StableHlo.launchContents m c))
  have e4 := h4.trans (val_main_v27_eq (StableHlo.launchContents m c))
  have e5 := h5.trans (val_main_v250_eq (StableHlo.launchContents m c))
  have e6 := h6.trans (val_main_v274_eq (StableHlo.launchContents m c))
  have e7 := h7.trans (val_main_v315_eq (StableHlo.launchContents m c))
  exact ⟨e0, e1, e2, e3, e4, e5, e6, e7, hr⟩

end Cert.ReferenceIdeal.Whole

end
-- ==== Proof.Out.lean ====
/- The output projection of a layer (`Kernel2`): what the region's result array holds after the run is the reference's
   composed term of the argument arrays, index by index, and the two runs side by side. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Out

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's result over the six argument arrays. -/
def REF (x0 x1 : FVec Ideal S9x4096x2048 .f32) (x2 : FVec Ideal S9x6x2048 .f32) (x3 : FVec Ideal S2048x2048 .f32)
    (x4 x5 : FVec Ideal S2048 .f32) : FVec Ideal S9x4096x2048 .f32 :=
  Cert.Reference2Ideal.Read.val_main_v32 (F := Ideal) x0 x1 x2 x3 x4 x5

/-- Where each window's block sits at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, 0]
    ∧ win0_3.index t = ![0, 0] ∧ win0_4.index t = ![0, 0] ∧ win0_5.index t = ![0, 0]
    ∧ win0_6.index t = ![(grid0.coords t 0).val, (grid0.coords t 1).val, 0] :=
  (by decide +kernel : ∀ t : Fin grid0.N, _)

/-- What the body stores at block index `y` of point `t` is the reference's result at the array index under it. -/
theorem point (c : Dev nD) (t : Fin cfg0.N) (y : S1x512x2048.Idx) :
    k0_pay1 (k0_pay2 (iblk m c 5 t)) (k0_pay3 (iblk m c 0 t) (iblk m c 3 t) (iblk m c 1 t) (iblk m c 2 t)) (k0_pay4 (iblk m c 4 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  pointwise [k0_pay1, k0_pay2, k0_pay3, k0_pay4, REF,
    Cert.Reference2Ideal.Read.val_main_v0, Cert.Reference2Ideal.Read.val_main_v1, Cert.Reference2Ideal.Read.val_main_v2,
    Cert.Reference2Ideal.Read.val_main_v3, Cert.Reference2Ideal.Read.val_main_v4, Cert.Reference2Ideal.Read.val_main_v5,
    Cert.Reference2Ideal.Read.val_main_v6, Cert.Reference2Ideal.Read.val_main_v7, Cert.Reference2Ideal.Read.val_main_v8,
    Cert.Reference2Ideal.Read.val_main_v9, Cert.Reference2Ideal.Read.val_main_v10,
    Cert.Reference2Ideal.Read.val_main_v11, Cert.Reference2Ideal.Read.val_main_v12,
    Cert.Reference2Ideal.Read.val_main_v13, Cert.Reference2Ideal.Read.val_main_v14,
    Cert.Reference2Ideal.Read.val_main_v15, Cert.Reference2Ideal.Read.val_main_v16,
    Cert.Reference2Ideal.Read.val_main_v17, Cert.Reference2Ideal.Read.val_main_v18,
    Cert.Reference2Ideal.Read.val_main_v19, Cert.Reference2Ideal.Read.val_main_v20,
    Cert.Reference2Ideal.Read.val_main_v21, Cert.Reference2Ideal.Read.val_main_v22,
    Cert.Reference2Ideal.Read.val_main_v23, Cert.Reference2Ideal.Read.val_main_v24,
    Cert.Reference2Ideal.Read.val_main_v25, Cert.Reference2Ideal.Read.val_main_v26,
    Cert.Reference2Ideal.Read.val_main_v27, Cert.Reference2Ideal.Read.val_main_v28,
    Cert.Reference2Ideal.Read.val_main_v29, Cert.Reference2Ideal.Read.val_main_v30,
    Cert.Reference2Ideal.Read.val_main_v31, Cert.Reference2Ideal.Read.val_main_v32,
    Cert.Reference2Ideal.Read.val_main_cst, Cert.Reference2Ideal.Read.val_main_cst_0,
    Cert.Reference2Ideal.Read.val_main_cst_1, Cert.Reference2Ideal.Read.val_main_cst_2,
    Cert.Reference2Ideal.Read.val_main_cst_3, Cert.Reference2Ideal.Read.val_main_cst_4]
  blk_point [iblk, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

/-- The kernel's run leaves the reference's result of the arguments. -/
theorem run (ρ : Dev nD → PrngReg) : θ_run defs (onTc (τ := τ) (main (F := Ideal))) ⟨m, fun _ => 0, ρ⟩ fun r => ∀ c : Dev nD,
      r.2.mem ((c : Thread nD τ).loc main_v4)
        = REF (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.Kernel2Ideal.Value.run_blocks m ρ)

end Cert.Kernel2Ideal.Out

end
-- ==== Proof.Ref.lean ====
module

public import proofs.«01_k».proof.Proof.Gen.ReferenceIdeal.Run
public import proofs.«01_k».proof.Proof.Gen.ReferenceIdeal.Read
-- ==== Proof.ModRef.lean ====
/- The modulation of every layer as the reference computes it. -/
module

public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Reference3Ideal.ModRef

open Idealize.ShloMosaic Idealize.ShloMosaic.TcCoe Idealize.SL.Sem
open Cert.Reference3Ideal Cert.Reference3Ideal.Read

/-- The activation. -/
def actR (v : EReal) : EReal := v * Ideal.div (Ideal.ofBits .f32 0x3F800000#32) (Ideal.ofBits .f32 0x3F800000#32 + Ideal.exp (-v))

/-- The prompts' modulation. -/
theorem v6_at (x1 : FVec Ideal S2048 .f32) (x2 : FVec Ideal S4x2048x12288 .f32) (x3 : FVec Ideal S4x12288 .f32)
    (l : Fin 4) (s : Fin 6) (d : Fin 2048) :
    val_main_v6 (F := Ideal) x1 x2 x3 (ix4 l 0 s d)
    = ((∑ k : Fin 2048, x2 (ix3 l k ⟨s.val * 2048 + d.val, by omega⟩) * actR (x1 (ix1 k))) + x3 (ix2 l ⟨s.val * 2048 + d.val, by omega⟩) : EReal) := by
  unfold actR
  pointwise [val_main_v6, val_main_v5, val_main_v4, val_main_v3, val_main_v2, val_main_v1, val_main_v0, val_main_call0_v0, val_main_call0_v1,
    val_main_call0_v2, val_main_call0_v3, val_main_call0_v4, val_main_call0_v5, val_main_call0_cst, val_main_call0_cst_0]

/-- The samples' modulation. -/
theorem v13_at (x0 : FVec Ideal S8x2048 .f32) (x2 : FVec Ideal S4x2048x12288 .f32) (x3 : FVec Ideal S4x12288 .f32)
    (l : Fin 4) (g : Fin 8) (s : Fin 6) (d : Fin 2048) :
    val_main_v13 (F := Ideal) x0 x2 x3 (ix4 l g s d)
    = ((∑ k : Fin 2048, x2 (ix3 l k ⟨s.val * 2048 + d.val, by omega⟩) * actR (x0 (ix2 g k))) + x3 (ix2 l ⟨s.val * 2048 + d.val, by omega⟩) : EReal) := by
  unfold actR
  pointwise [val_main_v13, val_main_v12, val_main_v11, val_main_v10, val_main_v9, val_main_v8, val_main_v7, val_main_call1_v0, val_main_call1_v1,
    val_main_call1_v2, val_main_call1_v3, val_main_call1_v4, val_main_call1_v5, val_main_call1_cst, val_main_call1_cst_0]

/-- Both, the prompts' first. -/
theorem v14_at (x0 : FVec Ideal S8x2048 .f32) (x1 : FVec Ideal S2048 .f32) (x2 : FVec Ideal S4x2048x12288 .f32) (x3 : FVec Ideal S4x12288 .f32)
    (l : Fin 4) (g : Fin 9) (s : Fin 6) (d : Fin 2048) :
    val_main_v14 (F := Ideal) x0 x1 x2 x3 (ix4 l g s d)
    = (if h : g.val < 1 then val_main_v6 (F := Ideal) x1 x2 x3 (ix4 l 0 s d) else val_main_v13 (F := Ideal) x0 x2 x3 (ix4 l ⟨g.val - 1, by omega⟩ s d) : EReal) := by
  pointwise [val_main_v14]
  split
  · rename_i h
    have e : (⟨g.val, h⟩ : Fin 1) = 0 := Subsingleton.elim _ _
    rw [e]
  · rfl

end Cert.Reference3Ideal.ModRef

end
-- ==== Proof.Mod.lean ====
/- The modulation of every layer (`Kernel3`): what the product's call leaves, what the host code around it makes of it, and the reference. -/
module

public import proofs.«01_k».proof.Proof.Gen.Kernel3Ideal.Frame
public import proofs.«01_k».proof.Proof.Gen.Reference3Ideal.Run
public import proofs.«01_k».proof.Proof.Gen.Reference3Ideal.Read
public import proofs.«01_k».proof.Proof.ModRef
public import Idealize.ShloMosaic.Lib.StableHlo.RunRead
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Mod

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The activation of the conditioning vectors. -/
def act (v : EReal) : EReal := v * Ideal.div (Ideal.ofBits .f32 0x3F800000#32) (Ideal.ofBits .f32 0x3F800000#32 + Ideal.exp (-v))

/-- The condition of an item: the prompts' first, then the samples'. -/
def condF (x0 : FVec Ideal S8x2048 .f32) (x1 : FVec Ideal S2048 .f32) (g : Fin 9) (k : Fin 2048) : EReal :=
  if h : g.val < 1 then x1 (ix1 k) else x0 (ix2 ⟨g.val - 1, by omega⟩ k)

/-- The modulation at layer `l`, item `g` and column `n`. -/
def modF (x0 : FVec Ideal S8x2048 .f32) (x1 : FVec Ideal S2048 .f32) (x2 : FVec Ideal S4x2048x12288 .f32) (x3 : FVec Ideal S4x12288 .f32)
    (l : Fin 4) (g : Fin 9) (n : Fin 12288) : EReal :=
  (∑ k : Fin 2048, act (condF x0 x1 g k) * x2 (ix3 l k n)) + x3 (ix2 l n)

/-- What the product's call computes. -/
def mmF (a : FVec Ideal S1x16x2048 .f32) (b : FVec Ideal S4x2048x12288 .f32) : FVec Ideal S4x16x12288 .f32 :=
  fun i => ∑ k : Fin 2048, a (ix3 0 (i 1) k) * b (ix3 (i 0) k (i 2))

/-- Where each window's block sits at a grid point. -/
theorem idx : ∀ t : Fin cfg0.N, win0_0.index t = ![0, 0, 0]
    ∧ win0_1.index t = ![(grid0.coords t 0).val, 0, (grid0.coords t 2).val]
    ∧ win0_2.index t = ![(grid0.coords t 0).val, 0, (grid0.coords t 2).val] :=
  (by decide +kernel : ∀ t : Fin grid0.N, _)

/-- The product's body at a block index. -/
theorem k0_at (a : Vec Ideal S1x16x2048 .f32) (b : Vec Ideal S1x2048x1536 .f32) (r : Fin 16) (n : Fin 1536) :
    k0_pay1 (F := Ideal) a b (ix3 0 r n) = ∑ k : Fin 2048, a (ix3 0 r k) * b (ix3 0 k n) := by
  pointwise [k0_pay1]

/-- The block of the activated conditions. -/
theorem rd0 (c : Dev nD) (t : Fin cfg0.N) (r : Fin 16) (k : Fin 2048) :
    (iblk m c 0 t : Vec Ideal S1x16x2048 .f32) (ix3 0 r k) = (V m c main_v4 : FVec Ideal S1x16x2048 .f32) (ix3 0 r k) := by
  blk_point [iblk, idx t]

/-- The block of the weights. -/
theorem rd1 (c : Dev nD) (t : Fin cfg0.N) (k : Fin 2048) (n : Fin 1536) (b : Fin 4) (N : Fin 12288)
    (hb : b.val = (grid0.coords t 0).val) (hN : N.val = (grid0.coords t 2).val * 1536 + n.val) :
    (iblk m c 1 t : Vec Ideal S1x2048x1536 .f32) (ix3 0 k n) = (V m c main_arg2 : FVec Ideal S4x2048x12288 .f32) (ix3 b k N) := by
  blk_point [iblk, idx t]

/-- What the body stores at block row `r` and lane `n` of point `t`, at the array index `j` under it. -/
theorem core (c : Dev nD) (t : Fin cfg0.N) (r : Fin 16) (n : Fin 1536) (j : S4x16x12288.Idx) (h0 : (j 0).val = (grid0.coords t 0).val)
    (h1 : (j 1).val = r.val) (h2 : (j 2).val = (grid0.coords t 2).val * 1536 + n.val) :
    k0_pay1 (F := Ideal) (iblk m c 0 t) (iblk m c 1 t) (ix3 0 r n) = mmF (V m c main_v4) (V m c main_arg2) j := by
  obtain rfl : j 1 = r := Fin.ext h1
  refine (k0_at _ _ (j 1) n).trans ?_
  unfold mmF
  refine Finset.sum_congr rfl fun k _ => ?_
  exact congrArg₂ (· * ·) (rd0 m c t (j 1) k) (rd1 m c t k n (j 0) (j 2) h0 h2)

/-- The product's array after the run. -/
theorem final (c : Dev nD) : (dats m 0 c).arrAt 2 (cfgs 0).N = mmF (V m c main_v4) (V m c main_arg2) := by
  refine (dats m 0 c).arrAt_eq_of_covers 2 _ (by decide +kernel) fun t _ y => ?_
  blk_simp
  rw [after0_2]; unfold outsAt0; frame_out
  obtain ⟨r, l, rfl⟩ : ∃ (r : Fin 16) (l : Fin 1536), y = (ix3 0 r l : S1x16x1536.Idx) := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  refine core m c t r l _ ?_ ?_ ?_ <;> (blk_simp [idx t] <;> try omega)

/-- The first operand of the product in its first nine rows. -/
theorem v4_at (c : Dev nD) (g : Fin 9) (k : Fin 2048) :
    (V m c main_v4 : FVec Ideal S1x16x2048 .f32) (ix3 0 ⟨g.val, by omega⟩ k)
    = act (condF (m ((c : Thread nD τ).loc main_arg0)) (m ((c : Thread nD τ).loc main_arg1)) g k) := by
  unfold act condF
  unfold V V0
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_reads_simp
  pointwise
  try (after_reads_simp; pointwise)

/-- A product's entry plus the bias of its column. -/
def sumF (p : FVec Ideal S4x16x12288 .f32) (b : FVec Ideal S4x12288 .f32) (l : Fin 4) (g : Fin 9) (n : Fin 12288) : EReal :=
  p (ix3 l ⟨g.val, by omega⟩ n) + b (ix2 l n)

/-- The host code after the product, on any arrays. -/
theorem v10_at (X : Valuation τ sig (Elt Ideal)) (l : Fin 4) (g : Fin 9) (s : Fin 6) (d : Fin 2048) :
    (StableHlo.after (hostOps1 (F := Ideal)) X (Proc.devRef .tc main_v10) : FVec Ideal S4x9x6x2048 .f32) (ix4 l g s d)
    = sumF (X (Proc.devRef .tc main_v5)) (X (Proc.devRef .tc main_arg3)) l g ⟨s.val * 2048 + d.val, by omega⟩ := by
  unfold sumF
  after_reads_simp
  pointwise

/-- The product of the activated conditions plus the bias is the modulation. -/
theorem sum_mod {p : FVec Ideal S4x16x12288 .f32} {a : FVec Ideal S1x16x2048 .f32} {w x2 : FVec Ideal S4x2048x12288 .f32}
    {b x3 : FVec Ideal S4x12288 .f32} {x0 : FVec Ideal S8x2048 .f32} {x1 : FVec Ideal S2048 .f32} {g : Fin 9} (h5 : p = mmF a w) (h3 : b = x3)
    (ha : ∀ k : Fin 2048, a (ix3 0 ⟨g.val, by omega⟩ k) = act (condF x0 x1 g k)) (hw : w = x2) (l : Fin 4) (n : Fin 12288) :
    sumF p b l g n = modF x0 x1 x2 x3 l g n := by
  subst h5 h3 hw
  unfold sumF modF mmF
  exact congrArg₂ (· + ·) (Finset.sum_congr rfl fun k _ => congrArg (· * _) (ha k)) rfl

/-- What the kernel's result array holds after the run. -/
theorem result (c : Dev nD) (l : Fin 4) (g : Fin 9) (s : Fin 6) (d : Fin 2048) :
    (Pipeline.afterTail₀ cfgs (dats m) 0 (V0 m) [hostOps1] c main_v10 : FVec Ideal S4x9x6x2048 .f32) (ix4 l g s d)
    = modF (m ((c : Thread nD τ).loc main_arg0)) (m ((c : Thread nD τ).loc main_arg1)) (m ((c : Thread nD τ).loc main_arg2))
        (m ((c : Thread nD τ).loc main_arg3)) l g ⟨s.val * 2048 + d.val, by omega⟩ := by
  unfold Pipeline.afterTail₀
  rw [List.flatten_cons, List.flatten_nil, List.append_nil]
  refine (v10_at _ l g s d).trans ?_
  have h5 : (Pipeline.withArrays (cfgs 0).spec c (V0 m c) (fun w => (dats m 0 c).arrAt w (cfgs 0).N) (Proc.devRef .tc main_v5)
      : FVec Ideal S4x16x12288 .f32) = mmF (V m c main_v4) (V m c main_arg2) :=
    (Pipeline.withArrays_arr (cfgs 0).spec launch0.win.arr_inj c (V0 m c) (fun w => (dats m 0 c).arrAt w (cfgs 0).N) 2).trans (final m c)
  have h3 : (Pipeline.withArrays (cfgs 0).spec c (V0 m c) (fun w => (dats m 0 c).arrAt w (cfgs 0).N) (Proc.devRef .tc main_arg3)
      : FVec Ideal S4x12288 .f32) = m ((c : Thread nD τ).loc main_arg3) :=
    (Pipeline.withArrays_of_ne _ c (V0 m c) _ main_arg3 (by exact (by decide : ∀ w, Pipeline.arrRef spec0 w ≠ main_arg3))).trans (V_main_arg3 m c)
  exact sum_mod h5 h3 (fun k => v4_at m c g k) (V_main_arg2 m c) l _

/-- The reference's result over the four argument arrays. -/
def REF (x0 : FVec Ideal S8x2048 .f32) (x1 : FVec Ideal S2048 .f32) (x2 : FVec Ideal S4x2048x12288 .f32) (x3 : FVec Ideal S4x12288 .f32) :
    FVec Ideal S4x9x6x2048 .f32 :=
  Cert.Reference3Ideal.Read.val_main_v14 (F := Ideal) x0 x1 x2 x3

/-- The reference's result at an index is the modulation's formula. -/
theorem ref_at (x0 : FVec Ideal S8x2048 .f32) (x1 : FVec Ideal S2048 .f32) (x2 : FVec Ideal S4x2048x12288 .f32) (x3 : FVec Ideal S4x12288 .f32)
    (l : Fin 4) (g : Fin 9) (s : Fin 6) (d : Fin 2048) :
    REF x0 x1 x2 x3 (ix4 l g s d) = modF x0 x1 x2 x3 l g ⟨s.val * 2048 + d.val, by omega⟩ := by
  unfold REF
  refine (Cert.Reference3Ideal.ModRef.v14_at x0 x1 x2 x3 l g s d).trans ?_
  unfold modF condF
  by_cases h : g.val < 1
  · rw [dif_pos h]
    refine (Cert.Reference3Ideal.ModRef.v6_at x1 x2 x3 l s d).trans ?_
    refine congrArg₂ (· + ·) (Finset.sum_congr rfl fun k _ => ?_) rfl
    rw [dif_pos h, mul_comm]; rfl
  · rw [dif_neg h]
    refine (Cert.Reference3Ideal.ModRef.v13_at x0 x2 x3 l ⟨g.val - 1, by omega⟩ s d).trans ?_
    refine congrArg₂ (· + ·) (Finset.sum_congr rfl fun k _ => ?_) rfl
    rw [dif_neg h, mul_comm]; rfl

/-- The kernel's result array is the reference's result of the arguments. -/
theorem result_eq (c : Dev nD) : (Pipeline.afterTail₀ cfgs (dats m) 0 (V0 m) [hostOps1] c main_v10 : FVec Ideal S4x9x6x2048 .f32)
    = REF (m ((c : Thread nD τ).loc main_arg0)) (m ((c : Thread nD τ).loc main_arg1)) (m ((c : Thread nD τ).loc main_arg2))
        (m ((c : Thread nD τ).loc main_arg3)) := by
  funext i
  obtain ⟨l, g, s, d, rfl⟩ : ∃ (l : Fin 4) (g : Fin 9) (s : Fin 6) (d : Fin 2048), i = (ix4 l g s d : S4x9x6x2048.Idx) := ⟨i 0, i 1, i 2, i 3, by
    funext a; match a with
    | ⟨0, _⟩ => rfl
    | ⟨1, _⟩ => rfl
    | ⟨2, _⟩ => rfl
    | ⟨3, _⟩ => rfl⟩
  exact (result m c l g s d).trans (ref_at _ _ _ _ l g s d).symm

/-- The kernel's run leaves the reference's result of the arguments. -/
theorem run (ρ : Dev nD → PrngReg) : θ_run defs (onTc (τ := τ) (main (F := Ideal))) ⟨m, fun _ => 0, ρ⟩ fun r => ∀ c : Dev nD,
      r.2.mem ((c : Thread nD τ).loc main_v10)
        = REF (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.Kernel3Ideal.Mod

end
-- ==== Proof.lean ====
/- The claims about the mixers of a layer (`Kernel`), about its output projection (`Kernel2`) and about the modulation (`Kernel3`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Run
public import proofs.«01_k».proof.Proof.LinkF
public import proofs.«01_k».proof.Proof.RefRun
public import proofs.«01_k».proof.Proof.Out
public import proofs.«01_k».proof.Proof.Ref
public import proofs.«01_k».proof.Proof.Mod
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The output projection's kernel and its reference end with equal results. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Out.run m g
  · run_from Cert.Reference2Ideal.Value.run m' g'
    rw [Cert.Reference2Ideal.Read.val_main_v32_eq, (hagree c).1, (hagree c).2.1, (hagree c).2.2.1, (hagree c).2.2.2.1,
      (hagree c).2.2.2.2.1, (hagree c).2.2.2.2.2]
    rfl

/-- The mixers' kernel and their reference end with equal results. -/
theorem algebraic1 : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.Pre_finite.Gen.facts
  intro m g m' g' hpre hagree
  have hx : ∀ c : Dev Cert.KernelIdeal.nD, Cert.Link.Args m c
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) :=
    fun c => ⟨rfl, rfl, rfl, rfl, rfl, rfl, rfl, rfl, rfl, rfl, rfl, rfl, rfl⟩
  refine ⟨_, _, _, _, _, _, _, _, Cert.KernelIdeal.Run.run_values m g, ?_⟩
  refine Idealize.ShloMosaic.θ_run_mono (Cert.ReferenceIdeal.Whole.run m' g') fun r h c => ?_
  obtain ⟨r0, r1, r2, r3, r4, r5, r6, r7, hr⟩ := h c
  obtain ⟨a0, a1, a2, a3, a4, a5, a6, a7, a8, a9, a10, a11, a12⟩ := hagree c
  rw [a1, a2, a3, a4, a5, a6, a7, a11, a12] at r0
  rw [a1, a2, a3, a8] at r1
  rw [a1, a2, a3, a9, a10] at r2
  rw [a0, a2, a3, a5] at r3
  rw [a0, a2, a3] at r4
  rw [a0, a2, a3, a8] at r5
  rw [a0, a2, a3, a9, a10] at r6
  rw [a0, a2, a3, a4, a5, a6, a7] at r7
  exact ⟨r0.trans (Cert.Link.att_eq g (hx c) (hpre c)).symm, r1.trans (Cert.Link.sc_eq g (hx c)).symm, r2.trans (Cert.Link.u_eq g (hx c)).symm,
    r3.trans (Cert.Link.ckv_eq g (hx c)).symm, r4.trans (Cert.Link.krope_eq g (hx c)).symm,
    r5.trans (Cert.Link.scC_eq g (hx c)).symm, r6.trans (Cert.Link.uC_eq g (hx c)).symm, r7.trans (Cert.Link.attC_eq g (hx c) (hpre c)).symm, hr⟩

/-- The modulation's kernel and its reference end with equal results. -/
theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Mod.run m g
  · run_from Cert.Reference3Ideal.Value.run m' g'
    rw [Cert.Reference3Ideal.Read.val_main_v14_eq]
    exact congrArg (Cert.Reference3Ideal.Read.val_main_v14 (F := Ideal) _ _ _) (hagree c).2.2.2

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
    fun m g _ => Cert.Kernel.Gen.frame m g,
    fun m g _ => Cert.KernelIdeal.Gen.frame m g,
    fun m g _ => Cert.KernelIdeal.Gen.frame m g,
    fun m g _ => (θ_run (Cert.ReferenceIdeal.defs (F := Ideal)) _ _).mono
      (fun r h => And.intro (fun c => (h c).2.2.2.2.2.2.2.2) (sem_eq_zero_of_no_sems (by decide) r.2)) (Cert.ReferenceIdeal.Whole.run m g),
    fun m g _ => (θ_run (Cert.ReferenceIdeal.defs (F := Ideal)) _ _).mono
      (fun r h => And.intro (fun c => (h c).2.2.2.2.2.2.2.2) (sem_eq_zero_of_no_sems (by decide) r.2)) (Cert.ReferenceIdeal.Whole.run m g),
    fun m g _ => Cert.Kernel2.Gen.frame m g,
    fun m g _ => Cert.Kernel2Ideal.Gen.frame m g,
    fun m g _ => (θ_run (Cert.Reference2Ideal.defs (F := Ideal)) _ _).mono
      (fun r h => And.intro (fun c => (h c).2) (sem_eq_zero_of_no_sems (by decide) r.2)) (Cert.Reference2Ideal.Value.run (F := Ideal) m g),
    fun m g _ => Cert.Kernel3.Gen.frame m g,
    fun m g _ => Cert.Kernel3Ideal.Gen.frame m g,
    fun m g _ => (θ_run (Cert.Reference3Ideal.defs (F := Ideal)) _ _).mono
      (fun r h => And.intro (fun c => (h c).2) (sem_eq_zero_of_no_sems (by decide) r.2)) (Cert.Reference3Ideal.Value.run (F := Ideal) m g),
    trivial,
    algebraic1,
    trivial,
    algebraic2,
    trivial,
    algebraic3⟩

end Cert.Proof

end
